-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x1024 : Shape := ⟨3, ![2, 2048, 1024]⟩
abbrev S16x1024 : Shape := ⟨2, ![16, 1024]⟩
abbrev S16x4096x1024 : Shape := ⟨3, ![16, 4096, 1024]⟩
abbrev S16x4096 : Shape := ⟨2, ![16, 4096]⟩
abbrev S16x1024x4096 : Shape := ⟨3, ![16, 1024, 4096]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S2x2048x1024 .f32) (main_arg1 : FVec F S16x1024 .f32) (main_arg2 : FVec F S16x4096x1024 .f32) (main_arg3 : FVec F S16x4096 .f32) (main_arg4 : FVec F S16x1024x4096 .f32) (main_arg5 : FVec F S16x1024 .f32) : IVec S_ 1 :=
  let main_cst : FVec F S_ .f32 := constant S_ .f32 0xFF800000#32
  let main_v0 : FVec F S2x2048x1024 .f32 := broadcastInDim S2x2048x1024 ![] bcast_S_S2x2048x1024 main_cst
  let main_v1 : IVec S2x2048x1024 1 := cmpf .ogt main_arg0 main_v0
  let main_cst_0 : FVec F S_ .f32 := constant S_ .f32 0x7F800000#32
  let main_v2 : FVec F S2x2048x1024 .f32 := broadcastInDim S2x2048x1024 ![] bcast_S_S2x2048x1024 main_cst_0
  let main_v3 : IVec S2x2048x1024 1 := cmpf .olt main_arg0 main_v2
  let main_v4 : IVec S2x2048x1024 1 := andi main_v1 main_v3
  let main_c : IVec S_ 1 := constantI S_ 1 1#1
  let main_v5 : IVec S_ 1 := (fun x v => Host.reduce IntOp.andi x v reducesTo_S2x2048x1024_S_d0_1_2 h_S_) main_v4 main_c
  let main_cst_1 : FVec F S_ .f32 := constant S_ .f32 0xFF800000#32
  let main_v6 : FVec F S16x1024 .f32 := broadcastInDim S16x1024 ![] bcast_S_S16x1024 main_cst_1
  let main_v7 : IVec S16x1024 1 := cmpf .ogt main_arg1 main_v6
  let main_cst_2 : FVec F S_ .f32 := constant S_ .f32 0x7F800000#32
  let main_v8 : FVec F S16x1024 .f32 := broadcastInDim S16x1024 ![] bcast_S_S16x1024 main_cst_2
  let main_v9 : IVec S16x1024 1 := cmpf .olt main_arg1 main_v8
  let main_v10 : IVec S16x1024 1 := andi main_v7 main_v9
  let main_c_3 : IVec S_ 1 := constantI S_ 1 1#1
  let main_v11 : IVec S_ 1 := (fun x v => Host.reduce IntOp.andi x v reducesTo_S16x1024_S_d0_1 h_S_) main_v10 main_c_3
  let main_v12 : IVec S_ 1 := andi main_v5 main_v11
  main_v12
-- ==== Kernel.lean ====
abbrev S2x2048x1024 : Shape := ⟨3, ![2, 2048, 1024]⟩
abbrev S16x1024 : Shape := ⟨2, ![16, 1024]⟩
abbrev S16x4096x1024 : Shape := ⟨3, ![16, 4096, 1024]⟩
abbrev S16x4096 : Shape := ⟨2, ![16, 4096]⟩
abbrev S16x1024x4096 : Shape := ⟨3, ![16, 1024, 4096]⟩
abbrev S4096x1024 : Shape := ⟨2, ![4096, 1024]⟩
abbrev S4096x32 : Shape := ⟨2, ![4096, 32]⟩
abbrev S32x1024 : Shape := ⟨2, ![32, 1024]⟩
abbrev S1x1 : Shape := ⟨2, ![1, 1]⟩
abbrev S4096x16 : Shape := ⟨2, ![4096, 16]⟩
abbrev S4096 : Shape := ⟨1, ![4096]⟩
abbrev S4096x1 : Shape := ⟨2, ![4096, 1]⟩
abbrev S16 : Shape := ⟨1, ![16]⟩
abbrev S1x16 : Shape := ⟨2, ![1, 16]⟩
abbrev S4095x16 : Shape := ⟨2, ![4095, 16]⟩
abbrev S2x16 : Shape := ⟨2, ![2, 16]⟩
abbrev S4094x16 : Shape := ⟨2, ![4094, 16]⟩
abbrev S4x16 : Shape := ⟨2, ![4, 16]⟩
abbrev S4092x16 : Shape := ⟨2, ![4092, 16]⟩
abbrev S8x16 : Shape := ⟨2, ![8, 16]⟩
abbrev S4088x16 : Shape := ⟨2, ![4088, 16]⟩
abbrev S16x16 : Shape := ⟨2, ![16, 16]⟩
abbrev S4080x16 : Shape := ⟨2, ![4080, 16]⟩
abbrev S32x16 : Shape := ⟨2, ![32, 16]⟩
abbrev S4064x16 : Shape := ⟨2, ![4064, 16]⟩
abbrev S64x16 : Shape := ⟨2, ![64, 16]⟩
abbrev S4032x16 : Shape := ⟨2, ![4032, 16]⟩
abbrev S128x16 : Shape := ⟨2, ![128, 16]⟩
abbrev S3968x16 : Shape := ⟨2, ![3968, 16]⟩
abbrev S256x16 : Shape := ⟨2, ![256, 16]⟩
abbrev S3840x16 : Shape := ⟨2, ![3840, 16]⟩
abbrev S512x16 : Shape := ⟨2, ![512, 16]⟩
abbrev S3584x16 : Shape := ⟨2, ![3584, 16]⟩
abbrev S1024x16 : Shape := ⟨2, ![1024, 16]⟩
abbrev S3072x16 : Shape := ⟨2, ![3072, 16]⟩
abbrev S2048x16 : Shape := ⟨2, ![2048, 16]⟩
abbrev S32 : Shape := ⟨1, ![32]⟩
abbrev S1x32 : Shape := ⟨2, ![1, 32]⟩
abbrev S1 : Shape := ⟨1, ![1]⟩
abbrev S16x2x1024 : Shape := ⟨3, ![16, 2, 1024]⟩
abbrev S16x1x4096 : Shape := ⟨3, ![16, 1, 4096]⟩
abbrev S16x1x1024 : Shape := ⟨3, ![16, 1, 1024]⟩
abbrev S1x2x1024 : Shape := ⟨3, ![1, 2, 1024]⟩
abbrev S1x1024x1024 : Shape := ⟨3, ![1, 1024, 1024]⟩
abbrev S1x1x1024 : Shape := ⟨3, ![1, 1, 1024]⟩
abbrev S2x1024 : Shape := ⟨2, ![2, 1024]⟩
abbrev S1024x1024 : Shape := ⟨2, ![1024, 1024]⟩
abbrev S1x1024 : Shape := ⟨2, ![1, 1024]⟩
abbrev S512x32 : Shape := ⟨2, ![512, 32]⟩
abbrev S512x1024 : Shape := ⟨2, ![512, 1024]⟩
abbrev S_ : Shape := ⟨0, ![]⟩

abbrev nBuf : Space → Nat
  | .hbm => 18
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S16x1024, .f32⟩
  | .hbm, ⟨2, _⟩ => ⟨S16x4096x1024, .f32⟩
  | .hbm, ⟨3, _⟩ => ⟨S16x4096, .f32⟩
  | .hbm, ⟨4, _⟩ => ⟨S16x1024x4096, .f32⟩
  | .hbm, ⟨5, _⟩ => ⟨S16x1024, .f32⟩
  | .hbm, ⟨6, _⟩ => ⟨S4096x1024, .f32⟩
  | .hbm, ⟨7, _⟩ => ⟨S4096x32, .f32⟩
  | .hbm, ⟨8, _⟩ => ⟨S32x1024, .f32⟩
  | .hbm, ⟨9, _⟩ => ⟨S1x1, .f32⟩
  | .hbm, ⟨10, _⟩ => ⟨S16x2x1024, .f32⟩
  | .hbm, ⟨11, _⟩ => ⟨S16x1x4096, .f32⟩
  | .hbm, ⟨12, _⟩ => ⟨S16x1x1024, .f32⟩
  | .hbm, ⟨13, _⟩ => ⟨S16x2x1024, .f32⟩
  | .hbm, ⟨14, _⟩ => ⟨S32x1024, .f32⟩
  | .hbm, ⟨15, _⟩ => ⟨S4096x1024, .f32⟩
  | .hbm, ⟨16, _⟩ => ⟨S2x2048x1024, .f32⟩
  | .hbm, ⟨17, _⟩ => ⟨S_, .f32⟩
  | .local _ .vmem, ⟨0, _⟩ => ⟨S4096x1024, .f32⟩
  | .local _ .vmem, ⟨1, _⟩ => ⟨S16x1024, .f32⟩
  | .local _ .vmem, ⟨2, _⟩ => ⟨S4096x32, .f32⟩
  | .local _ .vmem, ⟨3, _⟩ => ⟨S32x1024, .f32⟩
  | .local _ .vmem, ⟨4, _⟩ => ⟨S1x1, .f32⟩
  | .local _ .vmem, ⟨5, _⟩ => ⟨S1x2x1024, .f32⟩
  | .local _ .vmem, ⟨6, _⟩ => ⟨S1x2x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x2x1024, .f32⟩
  | .local _ .vmem, ⟨16, _⟩ => ⟨S1x2x1024, .f32⟩
  | .local _ .vmem, ⟨17, _⟩ => ⟨S512x32, .f32⟩
  | .local _ .vmem, ⟨18, _⟩ => ⟨S512x32, .f32⟩
  | .local _ .vmem, ⟨19, _⟩ => ⟨S32x1024, .f32⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := .none

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![16, 4], ![false, false]⟩

def k1_cond1 (i : grid1.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_15 : BitVec 32 := 0#32
  let v22 : BitVec 1 := Scalar.cmpi .ne v21 c0_i32_15
  v22

def k1_cond2 (i : grid1.Coords) : BitVec 1 :=
  let arg1 : BitVec 32 := BitVec.ofNat 32 (i 1).val
  let c0_i32_16 : BitVec 32 := 0#32
  let v23 : BitVec 1 := Scalar.cmpi .ne arg1 c0_i32_16
  let v24 : BitVec 32 := Scalar.extui v23
  let c0_i32_17 : BitVec 32 := 0#32
  let v25 : BitVec 1 := Scalar.cmpi .ne v24 c0_i32_17
  v25

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S2x2048x1024 : Shape := ⟨3, ![2, 2048, 1024]⟩
abbrev S16x1024 : Shape := ⟨2, ![16, 1024]⟩
abbrev S16x4096x1024 : Shape := ⟨3, ![16, 4096, 1024]⟩
abbrev S16x4096 : Shape := ⟨2, ![16, 4096]⟩
abbrev S16x1024x4096 : Shape := ⟨3, ![16, 1024, 4096]⟩
abbrev S4096x1024 : Shape := ⟨2, ![4096, 1024]⟩
abbrev S1024x16 : Shape := ⟨2, ![1024, 16]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S4096x2 : Shape := ⟨2, ![4096, 2]⟩
abbrev S16 : Shape := ⟨1, ![16]⟩
abbrev S4096x2x1 : Shape := ⟨3, ![4096, 2, 1]⟩
abbrev S4096x2x2 : Shape := ⟨3, ![4096, 2, 2]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S16x320x1024 : Shape := ⟨3, ![16, 320, 1024]⟩
abbrev S8192x1024 : Shape := ⟨2, ![8192, 1024]⟩
abbrev S8192x2 : Shape := ⟨2, ![8192, 2]⟩
abbrev S16x320x4096 : Shape := ⟨3, ![16, 320, 4096]⟩
abbrev S16x1x4096 : Shape := ⟨3, ![16, 1, 4096]⟩
abbrev S16x1x1024 : Shape := ⟨3, ![16, 1, 1024]⟩

abbrev nBuf : Space → Nat
  | .hbm => 224
  | .vmem => 0
  | .smem => 0
  | _ => 0

abbrev hbmTy0_0 (i : Nat) : BufTy := match i % 128 with
  | 0 => ⟨S2x2048x1024, .f32⟩
  | 1 => ⟨S16x1024, .f32⟩
  | 2 => ⟨S16x4096x1024, .f32⟩
  | 3 => ⟨S16x4096, .f32⟩
  | 4 => ⟨S16x1024x4096, .f32⟩
  | 5 => ⟨S16x1024, .f32⟩
  | 6 => ⟨S4096x1024, .f32⟩
  | 7 => ⟨S1024x16, .f32⟩
  | 8 => ⟨S4096x16, .f32⟩
  | 9 => ⟨S_, .f32⟩
  | 10 => ⟨S4096, .f32⟩
  | 11 => ⟨S_, .f32⟩
  | 12 => ⟨S4096, .f32⟩
  | 13 => ⟨S4096, .f32⟩
  | 14 => ⟨S4096x1, .f32⟩
  | 15 => ⟨S4096x16, .f32⟩
  | 16 => ⟨S4096x16, .f32⟩
  | 17 => ⟨S4096x16, .f32⟩
  | 18 => ⟨S_, .f32⟩
  | 19 => ⟨S4096, .f32⟩
  | 20 => ⟨S4096x1, .f32⟩
  | 21 => ⟨S4096x16, .f32⟩
  | 22 => ⟨S4096x16, .f32⟩
  | 23 => ⟨S4096x2, .f32⟩
  | 24 => ⟨S4096x2, .i32⟩
  | 25 => ⟨S_, .f32⟩
  | 26 => ⟨S16, .f32⟩
  | 27 => ⟨S_, .f32⟩
  | 28 => ⟨S4096x16, .f32⟩
  | 29 => ⟨S4096, .i32⟩
  | 30 => ⟨S4096x1, .i32⟩
  | 31 => ⟨S_, .i32⟩
  | 32 => ⟨S4096x1, .i32⟩
  | 33 => ⟨S4096x1, .i1⟩
  | 34 => ⟨S_, .i32⟩
  | 35 => ⟨S4096x1, .i32⟩
  | 36 => ⟨S4096x1, .i32⟩
  | 37 => ⟨S4096x1, .i32⟩
  | 38 => ⟨S_, .i32⟩
  | 39 => ⟨S4096x2, .i32⟩
  | 40 => ⟨S4096x2, .i1⟩
  | 41 => ⟨S_, .i32⟩
  | 42 => ⟨S4096x2, .i32⟩
  | 43 => ⟨S4096x2, .i32⟩
  | 44 => ⟨S4096x2, .i32⟩
  | 45 => ⟨S4096x2, .i32⟩
  | 46 => ⟨S4096x2x1, .i32⟩
  | 47 => ⟨S4096x2x1, .i32⟩
  | 48 => ⟨S4096x2x2, .i32⟩
  | 49 => ⟨S_, .f32⟩
  | 50 => ⟨S4096x2, .f32⟩
  | 51 => ⟨S4096x16, .f32⟩
  | 52 => ⟨S_, .f32⟩
  | 53 => ⟨S16, .f32⟩
  | 54 => ⟨S16, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S8192, .i32⟩
  | 64 => ⟨S8192, .f32⟩
  | 65 => ⟨S4096, .i32⟩
  | 66 => ⟨S4096x2, .i32⟩
  | 67 => ⟨S8192, .i32⟩
  | 68 => ⟨S8192, .i32⟩
  | 69 => ⟨S8192, .i32⟩
  | 70 => ⟨S8192, .i32⟩
  | 71 => ⟨S_, .i32⟩
  | 72 => ⟨S8192, .i32⟩
  | 73 => ⟨S8192, .i1⟩
  | 74 => ⟨S_, .i32⟩
  | 75 => ⟨S8192, .i32⟩
  | 76 => ⟨S8192, .i32⟩
  | 77 => ⟨S8192, .i32⟩
  | 78 => ⟨S8192x1, .i32⟩
  | 79 => ⟨S8192, .i32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S8192, .f32⟩
  | 98 => ⟨S8192x1, .i32⟩
  | 99 => ⟨S1x16, .i32⟩
  | 100 => ⟨S8192x16, .i32⟩
  | 101 => ⟨S8192x16, .i32⟩
  | 102 => ⟨S8192x16, .i1⟩
  | 103 => ⟨S8192x16, .f32⟩
  | 104 => ⟨S_, .f32⟩
  | 105 => ⟨S_, .f32⟩
  | 106 => ⟨S8192x16, .f32⟩
  | 107 => ⟨S8192x16, .i32⟩
  | 108 => ⟨S_, .f32⟩
  | 109 => ⟨S_, .i32⟩
  | 110 => ⟨S8192, .f32⟩
  | 111 => ⟨S8192, .i32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .f32⟩
  | 119 => ⟨S16x320x1024, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S2x2048x1024, .f32⟩

abbrev hbmTy0_1 (i : Nat) : BufTy := match i % 128 with
  | 0 => ⟨S8192x1024, .f32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x1, .i32⟩
  | 17 => ⟨S8192x2, .i32⟩
  | 18 => ⟨S16x320x1024, .f32⟩
  | 19 => ⟨S16x320x4096, .f32⟩
  | 20 => ⟨S16x1x4096, .f32⟩
  | 21 => ⟨S16x320x4096, .f32⟩
  | 22 => ⟨S16x320x4096, .f32⟩
  | 23 => ⟨S_, .f32⟩
  | 24 => ⟨S16x320x4096, .f32⟩
  | 25 => ⟨S16x320x4096, .f32⟩
  | 26 => ⟨S16x320x4096, .f32⟩
  | 27 => ⟨S_, .f32⟩
  | 28 => ⟨S16x320x4096, .f32⟩
  | 29 => ⟨S16x320x4096, .f32⟩
  | 30 => ⟨S16x320x4096, .f32⟩
  | 31 => ⟨S16x320x4096, .f32⟩
  | 32 => ⟨S16x320x1024, .f32⟩
  | 33 => ⟨S16x1x1024, .f32⟩
  | 34 => ⟨S16x320x1024, .f32⟩
  | 35 => ⟨S16x320x1024, .f32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x1, .i32⟩
  | 52 => ⟨S8192x2, .i32⟩
  | 53 => ⟨S8192x1024, .f32⟩
  | 54 => ⟨S_, .f32⟩
  | 55 => ⟨S4096x1024, .f32⟩
  | 56 => ⟨S8192x1, .f32⟩
  | 57 => ⟨S8192x1024, .f32⟩
  | 58 => ⟨S8192x1024, .f32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S8192x1, .i32⟩
  | 67 => ⟨S4096x1024, .f32⟩
  | 68 => ⟨S_, .f32⟩
  | 69 => ⟨S4096, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S4096, .f32⟩
  | 79 => ⟨S_, .f32⟩
  | 80 => ⟨S4096, .f32⟩
  | 81 => ⟨S4096, .i1⟩
  | 82 => ⟨S_, .f32⟩
  | 83 => ⟨S_, .f32⟩
  | 84 => ⟨S4096, .f32⟩
  | 85 => ⟨S4096, .f32⟩
  | 86 => ⟨S_, .f32⟩
  | 87 => ⟨S4096, .f32⟩
  | 88 => ⟨S4096, .i1⟩
  | 89 => ⟨S4096x1, .i1⟩
  | 90 => ⟨S4096x1, .f32⟩
  | 91 => ⟨S4096x1024, .f32⟩
  | 92 => ⟨S4096x1024, .f32⟩
  | 93 => ⟨S4096x1024, .i1⟩
  | 94 => ⟨S4096x1024, .f32⟩
  | 95 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_cst_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call0_v0 : Ref sig .tc := ⟨.hbm, 68, rfl⟩
abbrev main_call0_v1_0 : Ref sig .tc := ⟨.hbm, 69, rfl⟩
abbrev main_v45 : Ref sig .tc := ⟨.hbm, 70, rfl⟩
abbrev main_c_13 : Ref sig .tc := ⟨.hbm, 71, rfl⟩
abbrev main_v46 : Ref sig .tc := ⟨.hbm, 72, rfl⟩
abbrev main_v47 : Ref sig .tc := ⟨.hbm, 73, rfl⟩
abbrev main_c_14 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_15 : Ref sig .tc := ⟨.hbm, 80, rfl⟩
abbrev main_v53 : Ref sig .tc := ⟨.hbm, 81, rfl⟩
abbrev main_v54 : Ref sig .tc := ⟨.hbm, 82, rfl⟩
abbrev main_c_16 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_17 : Ref sig .tc := ⟨.hbm, 89, rfl⟩
abbrev main_v60 : Ref sig .tc := ⟨.hbm, 90, rfl⟩
abbrev main_v61 : Ref sig .tc := ⟨.hbm, 91, rfl⟩
abbrev main_c_18 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_v67 : Ref sig .tc := ⟨.hbm, 103, rfl⟩
abbrev main_call2_call0_cst : Ref sig .tc := ⟨.hbm, 104, rfl⟩
abbrev main_call2_call0_v0 : Ref sig .tc := ⟨.hbm, 105, rfl⟩
abbrev main_v68 : Ref sig .tc := ⟨.hbm, 106, rfl⟩
abbrev main_call3_v0 : Ref sig .tc := ⟨.hbm, 107, rfl⟩
abbrev main_call3_cst : Ref sig .tc := ⟨.hbm, 108, rfl⟩
abbrev main_call3_c : Ref sig .tc := ⟨.hbm, 109, rfl⟩
abbrev main_call3_v1_0 : Ref sig .tc := ⟨.hbm, 110, rfl⟩
abbrev main_v69 : Ref sig .tc := ⟨.hbm, 111, rfl⟩
abbrev main_c_19 : Ref sig .tc := ⟨.hbm, 112, rfl⟩
abbrev main_v70 : Ref sig .tc := ⟨.hbm, 113, rfl⟩
abbrev main_v71 : Ref sig .tc := ⟨.hbm, 114, rfl⟩
abbrev main_c_20 : Ref sig .tc := ⟨.hbm, 115, rfl⟩
abbrev main_v72 : Ref sig .tc := ⟨.hbm, 116, rfl⟩
abbrev main_v73 : Ref sig .tc := ⟨.hbm, 117, rfl⟩
abbrev main_cst_21 : Ref sig .tc := ⟨.hbm, 118, rfl⟩
abbrev main_v74 : Ref sig .tc := ⟨.hbm, 119, rfl⟩
abbrev main_c_22 : Ref sig .tc := ⟨.hbm, 120, rfl⟩
abbrev main_v75 : Ref sig .tc := ⟨.hbm, 121, rfl⟩
abbrev main_v76 : Ref sig .tc := ⟨.hbm, 122, rfl⟩
abbrev main_c_23 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_c_24 : Ref sig .tc := ⟨.hbm, 129, rfl⟩
abbrev main_v82 : Ref sig .tc := ⟨.hbm, 130, rfl⟩
abbrev main_v83 : Ref sig .tc := ⟨.hbm, 131, rfl⟩
abbrev main_c_25 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_26 : Ref sig .tc := ⟨.hbm, 136, rfl⟩
abbrev main_v87 : Ref sig .tc := ⟨.hbm, 137, rfl⟩
abbrev main_v88 : Ref sig .tc := ⟨.hbm, 138, rfl⟩
abbrev main_c_27 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_28 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_29 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_30 : Ref sig .tc := ⟨.hbm, 164, rfl⟩
abbrev main_v111 : Ref sig .tc := ⟨.hbm, 165, rfl⟩
abbrev main_v112 : Ref sig .tc := ⟨.hbm, 166, rfl⟩
abbrev main_c_31 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_c_32 : Ref sig .tc := ⟨.hbm, 171, rfl⟩
abbrev main_v116 : Ref sig .tc := ⟨.hbm, 172, rfl⟩
abbrev main_v117 : Ref sig .tc := ⟨.hbm, 173, rfl⟩
abbrev main_c_33 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_cst_34 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_c_35 : Ref sig .tc := ⟨.hbm, 187, rfl⟩
abbrev main_v129 : Ref sig .tc := ⟨.hbm, 188, rfl⟩
abbrev main_v130 : Ref sig .tc := ⟨.hbm, 189, rfl⟩
abbrev main_c_36 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_cst_37 : Ref sig .tc := ⟨.hbm, 196, rfl⟩
abbrev main_v136 : Ref sig .tc := ⟨.hbm, 197, rfl⟩
abbrev main_c_38 : Ref sig .tc := ⟨.hbm, 198, rfl⟩
abbrev main_v137 : Ref sig .tc := ⟨.hbm, 199, rfl⟩
abbrev main_v138 : Ref sig .tc := ⟨.hbm, 200, rfl⟩
abbrev main_c_39 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_cst_40 : Ref sig .tc := ⟨.hbm, 207, rfl⟩
abbrev main_v144 : Ref sig .tc := ⟨.hbm, 208, rfl⟩
abbrev main_v145 : Ref sig .tc := ⟨.hbm, 209, rfl⟩
abbrev main_cst_41 : Ref sig .tc := ⟨.hbm, 210, rfl⟩
abbrev main_call4_v0 : Ref sig .tc := ⟨.hbm, 211, rfl⟩
abbrev main_call4_v1 : Ref sig .tc := ⟨.hbm, 212, rfl⟩
abbrev main_v146 : Ref sig .tc := ⟨.hbm, 213, rfl⟩
abbrev main_cst_42 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_call5_v0 : Ref sig .tc := ⟨.hbm, 221, rfl⟩
abbrev main_v153 : Ref sig .tc := ⟨.hbm, 222, rfl⟩
abbrev main_v154 : Ref sig .tc := ⟨.hbm, 223, rfl⟩

abbrev nD : Nat := 1
abbrev τ : Topo := Topo.v7x

variable {F : FTy → Type} [FloatOps F]
-- ==== Proof.Spec.lean ====
/- The mathematics both programs meet: the first largest entry of a row, the two experts of a token, how many tokens
   chose an expert before a given one, and the slot an entry falls in. -/
module

public import Idealize.ShloMosaic.Lib.Pointwise
public import Idealize.ShloMosaic.Lib.IdealHost

@[expose] public section

set_option maxRecDepth 16384

noncomputable section

namespace Cert.Value

open Idealize.ShloMosaic

/-! ## Words -/

theorem word_ninf : Ideal.ofBits FTy.f32 0xFF800000#32 = ⊥ := by simp [Ideal.ofBits, Ideal.ieee]
theorem word_inf : Ideal.ofBits FTy.f32 0x7F800000#32 = ⊤ := by simp [Ideal.ofBits, Ideal.ieee]
theorem word_neg1 : Ideal.ofBits FTy.f32 0xBF800000#32 = ((-1 : ℝ) : EReal) := by
  simp [Ideal.ofBits, Ideal.ieee]; norm_num [← EReal.coe_mul, ← EReal.coe_neg]
theorem word_two : Ideal.ofBits FTy.f32 0x40000000#32 = ((2 : ℝ) : EReal) := by
  simp [Ideal.ofBits, Ideal.ieee]; norm_num [← EReal.coe_mul]
theorem word_half : Ideal.ofBits FTy.f32 0x3F000000#32 = ((1 / 2 : ℝ) : EReal) := by
  simp [Ideal.ofBits, Ideal.ieee]; norm_num [← EReal.coe_mul]
theorem word_16 : Ideal.ofBits FTy.f32 0x41800000#32 = ((16 : ℝ) : EReal) := by
  simp [Ideal.ofBits, Ideal.ieee]; norm_num [← EReal.coe_mul]
theorem word_256 : Ideal.ofBits FTy.f32 0x43800000#32 = ((256 : ℝ) : EReal) := by
  simp [Ideal.ofBits, Ideal.ieee]; norm_num [← EReal.coe_mul]
theorem word_2e24 : Ideal.ofBits FTy.f32 0x4B800000#32 = ((16777216 : ℝ) : EReal) := by
  simp [Ideal.ofBits, Ideal.ieee]; norm_num [← EReal.coe_mul]
theorem word_2em20 : Ideal.ofBits FTy.f32 0x35800000#32 = ((1 / 1048576 : ℝ) : EReal) := by
  simp [Ideal.ofBits, Ideal.ieee]; norm_num [← EReal.coe_mul]

theorem sitofp_ofNat (n : ℕ) (h : n < 2 ^ 31) :
    FloatOps.sitofp (F := Ideal) FTy.f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

theorem sitofp_bool (p : Prop) [Decidable p] :
    FloatOps.sitofp (F := Ideal) FTy.f32 (BitVec.setWidth 32 (BitVec.ofBool (decide p))) = if p then 1 else 0 := by
  by_cases h : p
  · simp only [h, decide_true, if_true]
    show (((BitVec.setWidth 32 (BitVec.ofBool true)).toInt : ℝ) : EReal) = _
    rw [show (BitVec.setWidth 32 (BitVec.ofBool true)).toInt = 1 by decide]; simp
  · simp only [h, decide_false, if_false]
    show (((BitVec.setWidth 32 (BitVec.ofBool false)).toInt : ℝ) : EReal) = _
    norm_num

/-! ## The first largest entry of a row -/

/-- `e` is the first position of the largest entry of `p`. -/
def IsFirstMax {n : ℕ} (p : Fin n → EReal) (e : Fin n) : Prop :=
  (∀ e', p e' ≤ p e) ∧ ∀ e', e' < e → p e' < p e

theorem exists_isFirstMax {n : ℕ} (h : 0 < n) (p : Fin n → EReal) : ∃ e, IsFirstMax p e := by
  obtain ⟨m, -, hm⟩ := Finset.exists_max_image Finset.univ p ⟨⟨0, h⟩, Finset.mem_univ _⟩
  have hs : (Finset.univ.filter fun e => p e = p m).Nonempty := ⟨m, by simp⟩
  have h1 := (Finset.mem_filter.1 (Finset.min'_mem _ hs)).2
  refine ⟨Finset.min' _ hs, fun e' => ?_, fun e' h => ?_⟩
  · rw [h1]; exact hm e' (Finset.mem_univ _)
  · rw [h1]
    refine lt_of_le_of_ne (hm e' (Finset.mem_univ _)) fun he => ?_
    exact absurd (Finset.min'_le _ e' (by simp [he])) (not_le.2 h)

theorem IsFirstMax.unique {n : ℕ} {p : Fin n → EReal} {e e' : Fin n} (h : IsFirstMax p e) (h' : IsFirstMax p e') :
    e = e' := by
  rcases lt_trichotomy e e' with hl | hl | hl
  · exact absurd (h'.2 e hl) (not_lt.2 (h.1 e'))
  · exact hl
  · exact absurd (h.2 e' hl) (not_lt.2 (h'.1 e))

/-- The first position of the largest of sixteen entries. -/
def firstMax (p : Fin 16 → EReal) : Fin 16 := (exists_isFirstMax (by decide) p).choose
theorem firstMax_spec (p : Fin 16 → EReal) : IsFirstMax p (firstMax p) := (exists_isFirstMax (by decide) p).choose_spec

theorem fold_max_eq {n : ℕ} (b : EReal) (p : Fin n → EReal) (e : Fin n) (hb : b ≤ p e) (h : ∀ e', p e' ≤ p e) :
    Finset.fold max b p Finset.univ = p e :=
  le_antisymm (Finset.fold_max_le (s := Finset.univ) (p e) |>.2 ⟨hb, fun x _ => h x⟩)
    ((Finset.le_fold_max (s := Finset.univ) (p e)).2 (.inr ⟨e, Finset.mem_univ _, le_rfl⟩))

theorem fold_min_eq {n : ℕ} (b : EReal) (p : Fin n → EReal) (e : Fin n) (hb : p e ≤ b) (h : ∀ e', p e ≤ p e') :
    Finset.fold min b p Finset.univ = p e :=
  le_antisymm ((Finset.fold_min_le (s := Finset.univ) (p e)).2 (.inr ⟨e, Finset.mem_univ _, le_rfl⟩))
    ((Finset.le_fold_min (s := Finset.univ) (p e)).2 ⟨hb, fun x _ => h x⟩)

theorem fold_max_firstMax (p : Fin 16 → EReal) : Finset.fold max ⊥ p Finset.univ = p (firstMax p) :=
  fold_max_eq _ _ _ bot_le (firstMax_spec p).1

/-- The smallest position at which the row reaches its maximum is the first largest entry's. -/
theorem fold_min_firstMax (p : Fin 16 → EReal) :
    Finset.fold min ⊤ (fun x : Fin 16 => if Finset.fold max ⊥ p Finset.univ ≤ p x then ((x.val : ℝ) : EReal) else ((16 : ℝ) : EReal)) Finset.univ
      = (((firstMax p).val : ℝ) : EReal) := by
  have hm := firstMax_spec p
  simp only [fold_max_firstMax]
  rw [fold_min_eq _ _ (firstMax p) le_top]
  · simp
  · intro e'
    simp only [le_refl, if_true]
    split_ifs with h
    · rw [EReal.coe_le_coe_iff, Nat.cast_le]
      by_contra hc
      exact absurd (hm.2 e' (Fin.lt_def.2 (not_le.1 hc))) (not_lt.2 h)
    · rw [EReal.coe_le_coe_iff]; exact_mod_cast (firstMax p).isLt.le

/-- The second choice: the first largest entry once the first choice's is put below every probability. -/
def second (p : Fin 16 → EReal) : Fin 16 := firstMax fun e => if e = firstMax p then ((-1 : ℝ) : EReal) else p e

theorem neg1_lt_zero : ((-1 : ℝ) : EReal) < 0 := by exact_mod_cast (by norm_num : (-1 : ℝ) < 0)

theorem second_ne (p : Fin 16 → EReal) (h : ∀ e, 0 ≤ p e) : second p ≠ firstMax p := by
  intro hc
  have hm := firstMax_spec fun e => if e = firstMax p then ((-1 : ℝ) : EReal) else p e
  obtain ⟨e, he⟩ : ∃ e : Fin 16, e ≠ firstMax p := exists_ne _
  have := hm.1 e
  rw [show firstMax _ = second p from rfl, hc] at this; simp only [if_neg he, if_true] at this
  exact absurd (lt_of_lt_of_le neg1_lt_zero (h e)) (not_lt.2 this)

/-- The second choice is the first largest of the entries other than the first choice. -/
theorem second_spec (p : Fin 16 → EReal) (h : ∀ e, 0 ≤ p e) :
    (∀ e', e' ≠ firstMax p → p e' ≤ p (second p)) ∧ ∀ e', e' ≠ firstMax p → e' < second p → p e' < p (second p) := by
  have hm := firstMax_spec fun e => if e = firstMax p then ((-1 : ℝ) : EReal) else p e
  have hn := second_ne p h
  refine ⟨fun e' he => ?_, fun e' he hl => ?_⟩
  · have := hm.1 e'
    rw [show firstMax _ = second p from rfl] at this; simp only [if_neg he, if_neg hn] at this; exact this
  · have := hm.2 e' hl
    rw [show firstMax _ = second p from rfl] at this; simp only [if_neg he, if_neg hn] at this; exact this

/-! ## Counting the tokens of an expert -/

/-- The two chosen experts of each token. -/
abbrev Choice := Fin 4096 → Fin 2 → Fin 16

/-- The number of times (zero or one) token `i` chose expert `e`. -/
def hit (E : Choice) (i : ℕ) (e : Fin 16) : ℕ :=
  if h : i < 4096 then (if e = E ⟨i, h⟩ 0 then 1 else 0) + (if e = E ⟨i, h⟩ 1 then 1 else 0) else 0

/-- The number of tokens before token `i` that chose expert `e`. -/
def before (E : Choice) (i : ℕ) (e : Fin 16) : ℕ := ∑ j ∈ Finset.range i, hit E j e

/-- The number of tokens that chose expert `e`. -/
def cnt (E : Choice) (e : Fin 16) : ℕ := before E 4096 e

theorem before_succ (E : Choice) (i : ℕ) (e : Fin 16) : before E (i + 1) e = before E i e + hit E i e :=
  Finset.sum_range_succ _ _

theorem before_mono (E : Choice) {i j : ℕ} (h : i ≤ j) (e : Fin 16) : before E i e ≤ before E j e :=
  Finset.sum_le_sum_of_subset (Finset.range_mono h)

/-- The number of the last `s` tokens up to token `t` that chose expert `e`. -/
def recent (E : Choice) (s t : ℕ) (e : Fin 16) : ℕ := before E (t + 1) e - before E (t + 1 - s) e

theorem recent_one (E : Choice) (t : ℕ) (e : Fin 16) : recent E 1 t e = hit E t e := by
  unfold recent; rw [before_succ, Nat.add_sub_cancel]; omega

theorem recent_double (E : Choice) (s t : ℕ) (e : Fin 16) :
    recent E (s + s) t e = recent E s t e + if t < s then 0 else recent E s (t - s) e := by
  unfold recent
  have h1 := before_mono E (show t + 1 - (s + s) ≤ t + 1 - s by omega) e
  have h2 := before_mono E (show t + 1 - s ≤ t + 1 by omega) e
  split_ifs with h
  · rcases Nat.eq_zero_or_pos s with h0 | h0
    · omega
    · rw [show t + 1 - (s + s) = 0 by omega, show t + 1 - s = 0 by omega]; rfl
  · rw [show t - s + 1 = t + 1 - s by omega, show t + 1 - s - s = t + 1 - (s + s) by omega]; omega

theorem recent_all (E : Choice) (t : ℕ) (ht : t < 4096) (e : Fin 16) : recent E 4096 t e = before E (t + 1) e := by
  unfold recent; rw [show t + 1 - 4096 = 0 by omega]; exact Nat.sub_zero _

/-- The largest number of tokens of an expert before `e` (zero when there is none). -/
def most (E : Choice) (e : Fin 16) : ℕ := Finset.univ.sup fun e' : Fin 16 => if e' < e then cnt E e' else 0

/-- Whether entry `(t, k)` has at least as many earlier tokens of its expert as any earlier expert has in all. -/
def late (E : Choice) (t : Fin 4096) (k : Fin 2) : Prop := most E (E t k) ≤ before E t.val (E t k)

instance (E : Choice) (t : Fin 4096) (k : Fin 2) : Decidable (late E t k) := by unfold late; infer_instance

/-- The slot of entry `(t, k)`: two for each expert. -/
def slot (E : Choice) (t : Fin 4096) (k : Fin 2) : ℕ := 2 * (E t k).val + if late E t k then 1 else 0

theorem slot_lt (E : Choice) (t : Fin 4096) (k : Fin 2) : slot E t k < 32 := by
  unfold slot; have := (E t k).isLt; split_ifs <;> omega

theorem slot_eq_iff (E : Choice) (t t' : Fin 4096) (k k' : Fin 2) :
    slot E t k = slot E t' k' ↔ E t k = E t' k' ∧ (late E t k ↔ late E t' k') := by
  unfold slot; rw [Fin.ext_iff]
  by_cases h : late E t k <;> by_cases h' : late E t' k' <;> simp only [h, h', if_true, if_false] <;> constructor <;> intro hh <;>
    first | (refine ⟨?_, ?_⟩ <;> first | omega | trivial | (exfalso; omega)) | omega | (exfalso; simp at hh)

/-- The last entry of a slot: entry `(t, k)` comes at flat position `2 t + k`. -/
def IsLast (E : Choice) (j : ℕ) (t : Fin 4096) (k : Fin 2) : Prop :=
  slot E t k = j ∧ ∀ t' k', slot E t' k' = j → 2 * t'.val + k'.val ≤ 2 * t.val + k.val

theorem exists_isLast (E : Choice) (t : Fin 4096) (k : Fin 2) : ∃ t' k', IsLast E (slot E t k) t' k' := by
  have hne : ∃ n, ∃ t' k', slot E t' k' = slot E t k ∧ 2 * t'.val + k'.val = n := ⟨_, t, k, rfl, rfl⟩
  have hb : ∀ n, (∃ t' k', slot E t' k' = slot E t k ∧ 2 * t'.val + k'.val = n) → n ≤ 10000 := by
    rintro n ⟨t', k', -, rfl⟩; have := t'.isLt; have := k'.isLt; omega
  obtain ⟨N, hN⟩ := hne
  classical
  obtain ⟨t', k', h1, h2⟩ := Nat.findGreatest_spec (P := fun n => ∃ t' k', slot E t' k' = slot E t k ∧ 2 * t'.val + k'.val = n)
    (hb N hN) hN
  refine ⟨t', k', h1, fun t'' k'' h => ?_⟩
  rw [h2]
  exact Nat.le_findGreatest (hb _ ⟨t'', k'', h, rfl⟩) ⟨t'', k'', h, rfl⟩

/-- The token whose row the slot of entry `(t, k)` ends up holding. -/
def holder (E : Choice) (t : Fin 4096) (k : Fin 2) : Fin 4096 := (exists_isLast E t k).choose
/-- Which of that token's two entries it is. -/
def holderK (E : Choice) (t : Fin 4096) (k : Fin 2) : Fin 2 := (exists_isLast E t k).choose_spec.choose
theorem holder_spec (E : Choice) (t : Fin 4096) (k : Fin 2) : IsLast E (slot E t k) (holder E t k) (holderK E t k) :=
  (exists_isLast E t k).choose_spec.choose_spec

/-- The largest of the casts of natural numbers is the cast of their largest. -/
theorem fold_max_natCast (f : Fin 16 → ℕ) :
    Finset.fold max ⊥ (fun x => ((f x : ℝ) : EReal)) Finset.univ = (((Finset.univ.sup f : ℕ) : ℝ) : EReal) := by
  obtain ⟨e, -, he⟩ := Finset.exists_mem_eq_sup Finset.univ ⟨0, Finset.mem_univ _⟩ f
  rw [he]
  refine fold_max_eq _ _ e bot_le fun e' => ?_
  rw [EReal.coe_le_coe_iff, Nat.cast_le, ← he]
  exact Finset.le_sup (Finset.mem_univ _)

end Cert.Value
-- ==== Proof.KernelRoute.lean ====
/- The routing call of the kernel at exact arithmetic: what its payloads hold at an index. -/
module

public import proofs.«01_k».proof.Proof.Spec
public import proofs.«01_k».proof.Proof.Gen.KernelIdeal.Skeleton

@[expose] public section

set_option maxRecDepth 16384

noncomputable section

namespace Cert.KernelIdeal.Whole

open Cert.KernelIdeal.Gen Cert.Value
open Idealize.ShloMosaic Idealize.ShloMosaic.TcCoe

section Top
variable (x : Vec Ideal S4096x1024 .f32) (g : Vec Ideal S16x1024 .f32)

/-- A row of probabilities. -/
abbrev prow (t : Fin 4096) (e : Fin 16) : EReal := k0_pay2 x g (ix2 t e)

/-- The two experts the kernel chooses. -/
def choice : Choice := fun t k => if k = 0 then firstMax (prow x g t) else second (prow x g t)

theorem pay4_at (t : Fin 4096) : k0_pay4 x g (ix2 t 0) = prow x g t (firstMax (prow x g t)) := by
  pointwise [k0_pay4]
  rw [word_ninf]; exact fold_max_firstMax (prow x g t)

theorem pay5_at (t : Fin 4096) : k0_pay5 x g (ix2 t 0) = (((firstMax (prow x g t)).val : ℝ) : EReal) := by
  pointwise [k0_pay5, k0_pay3, k0_pay4]
  rw [word_ninf, word_inf, word_16]
  rw [← fold_min_firstMax (prow x g t)]
  refine congrArg (fun f => Finset.fold min ⊤ f Finset.univ) (funext fun e => ?_)
  rw [sitofp_ofNat _ (by omega)]

theorem fin_coe_eq (a b : Fin 16) : (((a.val : ℝ) : EReal) = ((b.val : ℝ) : EReal)) ↔ a = b := by
  rw [EReal.coe_eq_coe_iff, Nat.cast_inj, Fin.ext_iff]

theorem pay6_at (t : Fin 4096) (e : Fin 16) :
    k0_pay6 x g (ix2 t e) = if e = firstMax (prow x g t) then ((-1 : ℝ) : EReal) else prow x g t e := by
  pointwise [k0_pay6, k0_pay3]
  rw [sitofp_ofNat _ (by omega), pay5_at, word_neg1]
  simp only [fin_coe_eq]

theorem pay7_at (t : Fin 4096) (hp : ∀ e, 0 ≤ prow x g t e) :
    k0_pay7 x g (ix2 t 0) = prow x g t (second (prow x g t)) := by
  pointwise [k0_pay7]
  simp only [pay6_at]
  rw [word_ninf, fold_max_firstMax]
  exact if_neg (second_ne _ hp)

theorem pay8_at (t : Fin 4096) : k0_pay8 x g (ix2 t 0) = (((second (prow x g t)).val : ℝ) : EReal) := by
  pointwise [k0_pay8, k0_pay3, k0_pay7]
  simp only [pay6_at]
  rw [word_ninf, word_inf, word_16]
  refine Eq.trans ?_ (fold_min_firstMax _)
  refine congrArg (fun f => Finset.fold min ⊤ f Finset.univ) (funext fun e => ?_)
  rw [sitofp_ofNat _ (by omega)]

theorem pay10_at (t : Fin 4096) (e : Fin 16) : k0_pay10 x g (ix2 t e) = if e = choice x g t 0 then 1 else 0 := by
  pointwise [k0_pay10, k0_pay3]
  rw [sitofp_ofNat _ (by omega), pay5_at, sitofp_bool]
  simp only [fin_coe_eq]; rfl

theorem pay11_at (t : Fin 4096) (e : Fin 16) : k0_pay11 x g (ix2 t e) = if e = choice x g t 1 then 1 else 0 := by
  pointwise [k0_pay11, k0_pay3]
  rw [sitofp_ofNat _ (by omega), pay8_at, sitofp_bool]
  simp only [fin_coe_eq]; rfl

end Top

/-! ## The running counts -/

/-- One step of the scan: a row adds the row `s` above it. -/
theorem shiftAdd {s r : ℕ} (E : Choice) (v : FVec Ideal S4096x16 .f32) (hv : ∀ (t : Fin 4096) (e : Fin 16), v (ix2 t e) = ((recent E s t e : ℝ) : EReal))
    (z : FVec Ideal ⟨2, ![s, 16]⟩ .f32) (hz : ∀ i, z i = 0)
    (hs : (⟨2, ![4096, 16]⟩ : Shape).Slices ![0, 0] ⟨2, ![r, 16]⟩)
    (hc : Shape.Concatenates [(⟨2, ![s, 16]⟩ : Shape), ⟨2, ![r, 16]⟩] S4096x16 0) (t : Fin 4096) (e : Fin 16) :
    addf v (concatenate S4096x16 0 [⟨⟨2, ![s, 16]⟩, z⟩, ⟨⟨2, ![r, 16]⟩, extractStridedSlice ⟨2, ![r, 16]⟩ ![0, 0] v hs⟩] hc) (ix2 t e)
      = ((recent E (s + s) t e : ℝ) : EReal) := by
  rw [recent_double, Nat.cast_add, EReal.coe_add, ← hv]
  pointwise
  refine congrArg (v (ix2 t e) + ·) ?_
  by_cases h : t.val < s
  · rw [dif_pos h, if_pos h, hz]; simp
  · rw [dif_neg h, if_neg h]
    refine Eq.trans ?_ (hv ⟨t.val - s, by omega⟩ e)
    refine congrArg v ?_
    funext a; match a with | ⟨0, _⟩ => rfl | ⟨1, _⟩ => rfl

theorem zero_at (s : Shape) (i : s.Idx) : broadcast s (Scalar.ofBits (F := Ideal) .f32 0x00000000#32) i = 0 := by
  show Ideal.ofBits .f32 0x00000000#32 = 0
  exact Ideal.ofBits_zero_f32

section Scan
variable (E : Choice) (v40 v44 : FVec Ideal S4096x16 .f32)
  (h40 : ∀ (t : Fin 4096) (e : Fin 16), v40 (ix2 t e) = if e = E t 0 then 1 else 0)
  (h44 : ∀ (t : Fin 4096) (e : Fin 16), v44 (ix2 t e) = if e = E t 1 then 1 else 0)
include h40 h44

theorem pay12_at (t : Fin 4096) (e : Fin 16) : k0_pay12 v40 v44 (ix2 t e) = ((hit E t e : ℝ) : EReal) := by
  pointwise [k0_pay12]
  rw [h40, h44, hit, dif_pos t.isLt]
  rw [Nat.cast_add, EReal.coe_add]
  congr 1 <;> split_ifs <;> simp

theorem pay13_at (t : Fin 4096) (e : Fin 16) : k0_pay13 v40 v44 (ix2 t e) = ((recent E 2048 t e : ℝ) : EReal) := by
  have h1 : ∀ (t : Fin 4096) (e : Fin 16), k0_pay12 v40 v44 (ix2 t e) = ((recent E 1 t e : ℝ) : EReal) := fun t e => by
    rw [recent_one]; exact pay12_at E v40 v44 h40 h44 t e
  have h2 := shiftAdd (s := 1) (r := 4095) E _ h1 (broadcast S1x16 (Scalar.ofBits (F := Ideal) .f32 0x00000000#32)) (zero_at _)
    slices_S4096x16_o0_0_S4095x16 concatenates_S1x16_S4095x16_S4096x16_d0
  have h4 := shiftAdd (s := 2) (r := 4094) E _ h2 (broadcast S2x16 (Scalar.ofBits (F := Ideal) .f32 0x00000000#32)) (zero_at _)
    slices_S4096x16_o0_0_S4094x16 concatenates_S2x16_S4094x16_S4096x16_d0
  have h8 := shiftAdd (s := 4) (r := 4092) E _ h4 (broadcast S4x16 (Scalar.ofBits (F := Ideal) .f32 0x00000000#32)) (zero_at _)
    slices_S4096x16_o0_0_S4092x16 concatenates_S4x16_S4092x16_S4096x16_d0
  have h16 := shiftAdd (s := 8) (r := 4088) E _ h8 (broadcast S8x16 (Scalar.ofBits (F := Ideal) .f32 0x00000000#32)) (zero_at _)
    slices_S4096x16_o0_0_S4088x16 concatenates_S8x16_S4088x16_S4096x16_d0
  have h32 := shiftAdd (s := 16) (r := 4080) E _ h16 (broadcast S16x16 (Scalar.ofBits (F := Ideal) .f32 0x00000000#32)) (zero_at _)
    slices_S4096x16_o0_0_S4080x16 concatenates_S16x16_S4080x16_S4096x16_d0
  have h64 := shiftAdd (s := 32) (r := 4064) E _ h32 (broadcast S32x16 (Scalar.ofBits (F := Ideal) .f32 0x00000000#32)) (zero_at _)
    slices_S4096x16_o0_0_S4064x16 concatenates_S32x16_S4064x16_S4096x16_d0
  have h128 := shiftAdd (s := 64) (r := 4032) E _ h64 (broadcast S64x16 (Scalar.ofBits (F := Ideal) .f32 0x00000000#32)) (zero_at _)
    slices_S4096x16_o0_0_S4032x16 concatenates_S64x16_S4032x16_S4096x16_d0
  have h256 := shiftAdd (s := 128) (r := 3968) E _ h128 (broadcast S128x16 (Scalar.ofBits (F := Ideal) .f32 0x00000000#32)) (zero_at _)
    slices_S4096x16_o0_0_S3968x16 concatenates_S128x16_S3968x16_S4096x16_d0
  have h512 := shiftAdd (s := 256) (r := 3840) E _ h256 (broadcast S256x16 (Scalar.ofBits (F := Ideal) .f32 0x00000000#32)) (zero_at _)
    slices_S4096x16_o0_0_S3840x16 concatenates_S256x16_S3840x16_S4096x16_d0
  have h1024 := shiftAdd (s := 512) (r := 3584) E _ h512 (broadcast S512x16 (Scalar.ofBits (F := Ideal) .f32 0x00000000#32)) (zero_at _)
    slices_S4096x16_o0_0_S3584x16 concatenates_S512x16_S3584x16_S4096x16_d0
  have h2048 := shiftAdd (s := 1024) (r := 3072) E _ h1024 (broadcast S1024x16 (Scalar.ofBits (F := Ideal) .f32 0x00000000#32)) (zero_at _)
    slices_S4096x16_o0_0_S3072x16 concatenates_S1024x16_S3072x16_S4096x16_d0
  exact h2048 t e

theorem pay15_at (t : Fin 4096) (e : Fin 16) :
    k0_pay15 (k0_pay13 v40 v44) (k0_pay14 v40 v44) (ix2 t e) = ((before E (t.val + 1) e : ℝ) : EReal) := by
  rw [← recent_all E t.val t.isLt]
  exact shiftAdd (s := 2048) (r := 2048) E _ (pay13_at E v40 v44 h40 h44) (broadcast S2048x16 (Scalar.ofBits (F := Ideal) .f32 0x00000000#32)) (zero_at _)
    slices_S4096x16_o0_0_S2048x16 concatenates_S2048x16_S2048x16_S4096x16_d0 t e

theorem pay16_at (t : Fin 4096) (e : Fin 16) :
    k0_pay16 (k0_pay12 v40 v44) (k0_pay13 v40 v44) (k0_pay14 v40 v44) (ix2 t e) = ((before E t.val e : ℝ) : EReal) := by
  have h := pay15_at E v40 v44 h40 h44 t e
  pointwise [k0_pay16]
  rw [h, pay12_at E v40 v44 h40 h44, before_succ, ← EReal.coe_sub]
  congr 1; push_cast; ring

theorem pay17_at (e : Fin 16) :
    k0_pay17 (k0_pay13 v40 v44) (k0_pay14 v40 v44) (ix2 0 e) = ((cnt E e : ℝ) : EReal) := by
  have h := pay15_at E v40 v44 h40 h44 4095 e
  pointwise [k0_pay17]
  exact h

omit h40 h44 in
theorem slot_cast (t : Fin 4096) (k : Fin 2) (oh : Fin 16 → EReal)
    (hoh : ∀ e, oh e = if e = E t k then 1 else 0) (w : Fin 16 → EReal) (hw : ∀ e, w e = ((before E t.val e : ℝ) : EReal)) :
    Ideal.ofBits FTy.f32 0x40000000#32 * (((E t k).val : ℝ) : EReal)
      + FloatOps.sitofp (F := Ideal) FTy.f32 (BitVec.setWidth 32 (BitVec.ofBool (decide
        (Finset.fold max ⊥ (fun x : Fin 16 => if ((x.val : ℝ) : EReal) < (((E t k).val : ℝ) : EReal) then ((cnt E x : ℝ) : EReal) else 0) Finset.univ
          ≤ ∑ x, oh x * w x)))) = ((slot E t k : ℝ) : EReal) := by
  have h1 : ∑ x, oh x * w x = ((before E t.val (E t k) : ℝ) : EReal) := by
    simp only [hoh, ite_mul, one_mul, zero_mul, Finset.sum_ite_eq', Finset.mem_univ, if_true, hw]
  have h2 : (Finset.fold max ⊥ (fun x : Fin 16 => if ((x.val : ℝ) : EReal) < (((E t k).val : ℝ) : EReal) then ((cnt E x : ℝ) : EReal) else 0) Finset.univ)
      = ((most E (E t k) : ℝ) : EReal) := by
    unfold most; rw [← fold_max_natCast]
    refine congrArg (fun f => Finset.fold max ⊥ f Finset.univ) (funext fun e => ?_)
    simp only [EReal.coe_lt_coe_iff, Nat.cast_lt, Fin.lt_def]
    by_cases h : e.val < (E t k).val
    · rw [if_pos h, if_pos h]
    · rw [if_neg h, if_neg h, Nat.cast_zero, EReal.coe_zero]
  rw [sitofp_bool, h1, h2, word_two]
  simp only [EReal.coe_le_coe_iff, Nat.cast_le]
  unfold slot
  by_cases hl : late E t k
  · rw [if_pos hl, if_pos (show most E (E t k) ≤ before E t.val (E t k) from hl), Nat.cast_add, EReal.coe_add, Nat.cast_mul, EReal.coe_mul, Nat.cast_one]; rfl
  · rw [if_neg hl, if_neg (show ¬most E (E t k) ≤ before E t.val (E t k) from hl), Nat.cast_add, EReal.coe_add, Nat.cast_mul, EReal.coe_mul, Nat.cast_zero]; rfl

theorem pay18_at (v14 : FVec Ideal S4096x16 .f32) (v22 : FVec Ideal S4096x1 .f32)
    (h14 : ∀ (t : Fin 4096) (e : Fin 16), v14 (ix2 t e) = ((e.val : ℝ) : EReal))
    (h22 : ∀ t : Fin 4096, v22 (ix2 t 0) = (((E t 0).val : ℝ) : EReal)) (t : Fin 4096) :
    k0_pay18 v14 v22 v40 (k0_pay12 v40 v44) (k0_pay13 v40 v44) (k0_pay14 v40 v44) (ix2 t 0) = ((slot E t 0 : ℝ) : EReal) := by
  pointwise [k0_pay18]
  simp only [h14, h22, pay17_at E v40 v44 h40 h44]
  rw [word_ninf]
  exact slot_cast E t 0 _ (h40 t) _ (pay16_at E v40 v44 h40 h44 t)

theorem pay19_at (v14 : FVec Ideal S4096x16 .f32) (v34 : FVec Ideal S4096x1 .f32)
    (h14 : ∀ (t : Fin 4096) (e : Fin 16), v14 (ix2 t e) = ((e.val : ℝ) : EReal))
    (h34 : ∀ t : Fin 4096, v34 (ix2 t 0) = (((E t 1).val : ℝ) : EReal)) (t : Fin 4096) :
    k0_pay19 v14 v34 v44 (k0_pay12 v40 v44) (k0_pay13 v40 v44) (k0_pay14 v40 v44) (ix2 t 0) = ((slot E t 1 : ℝ) : EReal) := by
  pointwise [k0_pay19]
  simp only [h14, h34, pay17_at E v40 v44 h40 h44]
  rw [word_ninf]
  exact slot_cast E t 1 _ (h44 t) _ (pay16_at E v40 v44 h40 h44 t)

end Scan

/-! ## The three outputs -/

theorem pay20_at (t : Fin 4096) (j : Fin 32) : k0_pay20 (F := Ideal) (ix2 t j) = ((j.val : ℝ) : EReal) := by
  pointwise [k0_pay20]
  exact sitofp_ofNat _ (by omega)

theorem pay21_at (t : Fin 4096) (j : Fin 32) : k0_pay21 (F := Ideal) (ix2 t j) = ((t.val : ℝ) : EReal) := by
  pointwise [k0_pay21]
  exact sitofp_ofNat _ (by omega)

/-- The weight of slot `j` for token `t`. -/
theorem pay25_at (s : Fin 2 → ℕ) (v16 v28 v22 v34 s1 s2 : FVec Ideal S4096x1 .f32) (v14 v40 v44 v45 v89 v92 : FVec Ideal S4096x16 .f32) (t : Fin 4096) (j : Fin 32)
    (h1 : k0_pay18 v14 v22 v40 v45 v89 v92 (ix2 t 0) = ((s 0 : ℝ) : EReal))
    (h2 : k0_pay19 v14 v34 v44 v45 v89 v92 (ix2 t 0) = ((s 1 : ℝ) : EReal)) :
    k0_pay25 v28 (k0_pay22 v16 v28) (k0_pay23 v14 v16 v22 v40 v45 v89 v92) (k0_pay24 v14 v34 v44 v45 v89 v92) (Scalar.ofBits .f32 0x00000000#32) (ix2 t j)
      = Ideal.div ((if j.val = s 0 then v16 (ix2 t 0) else 0) + (if j.val = s 1 then v28 (ix2 t 0) else 0)) (v16 (ix2 t 0) + v28 (ix2 t 0)) := by
  pointwise [k0_pay25, k0_pay22, k0_pay23, k0_pay24]
  rw [h1, h2]
  simp only [pay20_at, EReal.coe_eq_coe_iff, Nat.cast_inj]

/-- The rows the slots hold: slot `j`'s is the row of the token of its last entry. -/
theorem pay26_at (E : Choice) (v1 : FVec Ideal S4096x1024 .f32) (s1 s2 : FVec Ideal S4096x1 .f32)
    (h1 : ∀ t : Fin 4096, s1 (ix2 t 0) = ((slot E t 0 : ℝ) : EReal)) (h2 : ∀ t : Fin 4096, s2 (ix2 t 0) = ((slot E t 1 : ℝ) : EReal))
    (j : Fin 32) (t : Fin 4096) (k : Fin 2) (hl : IsLast E j.val t k) (d : Fin 1024) :
    k0_pay26 v1 s1 s2 (k0_pay20 (F := Ideal)) (k0_pay21 (F := Ideal)) (ix2 j d) = v1 (ix2 t d) := by
  pointwise [k0_pay26]
  simp only [h1, h2, pay20_at, pay21_at]
  rw [word_ninf, word_two, word_neg1, word_half]
  have hm : Finset.fold max ⊥ (fun x : Fin 4096 =>
        max (if ((j.val : ℝ) : EReal) = ((slot E x 0 : ℝ) : EReal) then ((2 : ℝ) : EReal) * ((x.val : ℝ) : EReal) else ((-1 : ℝ) : EReal))
          (if ((j.val : ℝ) : EReal) = ((slot E x 1 : ℝ) : EReal) then ((2 : ℝ) : EReal) * ((x.val : ℝ) : EReal) + 1 else ((-1 : ℝ) : EReal))) Finset.univ
      = (((2 * t.val + k.val : ℕ) : ℝ) : EReal) := by
    have hx : ∀ x : Fin 4096, max (if ((j.val : ℝ) : EReal) = ((slot E x 0 : ℝ) : EReal) then ((2 : ℝ) : EReal) * ((x.val : ℝ) : EReal) else ((-1 : ℝ) : EReal))
          (if ((j.val : ℝ) : EReal) = ((slot E x 1 : ℝ) : EReal) then ((2 : ℝ) : EReal) * ((x.val : ℝ) : EReal) + 1 else ((-1 : ℝ) : EReal))
        = ((max (if slot E x 0 = j.val then (2 * x.val : ℝ) else -1) (if slot E x 1 = j.val then (2 * x.val + 1 : ℝ) else -1) : ℝ) : EReal) := fun x => by
      simp only [EReal.coe_eq_coe_iff, Nat.cast_inj, eq_comm (a := j.val)]
      rw [EReal.coe_strictMono.monotone.map_max]
      congr 1 <;> split_ifs <;> simp [EReal.coe_mul, EReal.coe_add]
    simp only [hx]
    obtain ⟨hs, hlast⟩ := hl
    have hle : ∀ x : Fin 4096, max (if slot E x 0 = j.val then (2 * x.val : ℝ) else -1) (if slot E x 1 = j.val then (2 * x.val + 1 : ℝ) else -1)
        ≤ ((2 * t.val + k.val : ℕ) : ℝ) := fun x => by
      have hneg : (-1 : ℝ) ≤ ((2 * t.val + k.val : ℕ) : ℝ) := le_trans (by norm_num) (Nat.cast_nonneg _)
      refine max_le ?_ ?_
      · split_ifs with h
        · have := hlast x 0 h
          exact_mod_cast this
        · exact hneg
      · split_ifs with h
        · have := hlast x 1 h
          exact_mod_cast this
        · exact hneg
    have hge : ((2 * t.val + k.val : ℕ) : ℝ) ≤ max (if slot E t 0 = j.val then (2 * t.val : ℝ) else -1) (if slot E t 1 = j.val then (2 * t.val + 1 : ℝ) else -1) := by
      match k, hs with
      | 0, hs => refine le_trans ?_ (le_max_left _ _); rw [if_pos hs]; simp
      | 1, hs => refine le_trans ?_ (le_max_right _ _); rw [if_pos hs]; simp
    have heq := le_antisymm (hle t) hge
    rw [fold_max_eq _ _ t bot_le fun x => by rw [heq]; exact EReal.coe_le_coe_iff.2 (hle x), heq]
  rw [hm, ← EReal.coe_mul]
  have hf : Ideal.liftRound Int.floor (((((2 * t.val + k.val : ℕ) : ℝ) * (1 / 2) : ℝ)) : EReal) = ((t.val : ℝ) : EReal) := by
    show (((⌊((2 * t.val + k.val : ℕ) : ℝ) * (1 / 2)⌋ : ℤ) : ℝ) : EReal) = _
    have : ⌊((2 * t.val + k.val : ℕ) : ℝ) * (1 / 2)⌋ = (t.val : ℤ) := by
      rw [Int.floor_eq_iff]
      have hk : (k.val : ℝ) ≤ 1 := by exact_mod_cast (by omega : k.val ≤ 1)
      have hk0 : (0 : ℝ) ≤ k.val := Nat.cast_nonneg _
      push_cast
      constructor <;> linarith
    rw [this]; norm_num
  rw [hf]
  simp only [sitofp_bool, EReal.coe_eq_coe_iff, Nat.cast_inj, ← Fin.ext_iff, ite_mul, one_mul, zero_mul, Finset.sum_ite_eq', Finset.mem_univ, if_true]

/-- The loss. -/
theorem pay27_at (v36 v95 : FVec Ideal S1x16 .f32) :
    k0_pay27 v36 v95 (ix2 0 0) = (∑ e, v36 (ix2 0 e) * v95 (ix2 0 e)) * ((1 / 1048576 : ℝ) : EReal) := by
  pointwise [k0_pay27]
  rw [word_2em20]

theorem pay9_at (x : Vec Ideal S4096x1024 .f32) (g : Vec Ideal S16x1024 .f32) (e : Fin 16) :
    k0_pay9 x g (ix2 0 e) = ∑ t, prow x g t e := by
  pointwise [k0_pay9]

end Cert.KernelIdeal.Whole
-- ==== Proof.KernelIdealRun.lean ====
/- The run of the three pipelined calls of `KernelIdeal`: what each call leaves in its output windows, the contents of
   every buffer at each boundary between calls and host operations, and the run of the whole program. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S4096x1024 := Rect.unit (s := S4096x1024) ![0, 0] S4096x1024.size inb_S4096x1024_S4096x1024_0_0
abbrev r0_1 : Rect S16x1024 := Rect.unit (s := S16x1024) ![0, 0] S16x1024.size inb_S16x1024_S16x1024_0_0
abbrev r0_2 : Rect S4096x32 := Rect.unit (s := S4096x32) ![0, 0] S4096x32.size inb_S4096x32_S4096x32_0_0
abbrev r0_3 : Rect S32x1024 := Rect.unit (s := S32x1024) ![0, 0] S32x1024.size inb_S32x1024_S32x1024_0_0
abbrev r0_4 : Rect S1x1 := Rect.unit (s := S1x1) ![0, 0] S1x1.size inb_S1x1_S1x1_0_0

def k0_pay28 (x0 : Vec F S4096x1024 .f32) (x1 : Vec F S16x1024 .f32) : FVec F S4096x16 .f32 :=
  k0_pay3 (F := F) -- `v14`
def k0_pay29 (x0 : Vec F S4096x1024 .f32) (x1 : Vec F S16x1024 .f32) : FVec F S4096x1 .f32 :=
  k0_pay4 (View.ld x0 r0_0) (View.ld x1 r0_1) -- `v16`
def k0_pay30 (x0 : Vec F S4096x1024 .f32) (x1 : Vec F S16x1024 .f32) : FVec F S4096x1 .f32 :=
  k0_pay5 (View.ld x0 r0_0) (View.ld x1 r0_1) -- `v22`
def k0_pay31 (x0 : Vec F S4096x1024 .f32) (x1 : Vec F S16x1024 .f32) : FVec F S4096x1 .f32 :=
  k0_pay7 (View.ld x0 r0_0) (View.ld x1 r0_1) -- `v28`
def k0_pay32 (x0 : Vec F S4096x1024 .f32) (x1 : Vec F S16x1024 .f32) : FVec F S4096x1 .f32 :=
  k0_pay8 (View.ld x0 r0_0) (View.ld x1 r0_1) -- `v34`
def k0_pay33 (x0 : Vec F S4096x1024 .f32) (x1 : Vec F S16x1024 .f32) : FVec F S4096x16 .f32 :=
  k0_pay10 (View.ld x0 r0_0) (View.ld x1 r0_1) -- `v40`
def k0_pay34 (x0 : Vec F S4096x1024 .f32) (x1 : Vec F S16x1024 .f32) : FVec F S4096x16 .f32 :=
  k0_pay11 (View.ld x0 r0_0) (View.ld x1 r0_1) -- `v44`
def k0_pay35 (x0 : Vec F S4096x1024 .f32) (x1 : Vec F S16x1024 .f32) : FVec F S4096x16 .f32 :=
  k0_pay12 (k0_pay33 x0 x1) (k0_pay34 x0 x1) -- `v45`
def k0_pay36 (x0 : Vec F S4096x1024 .f32) (x1 : Vec F S16x1024 .f32) : FVec F S4096x16 .f32 :=
  k0_pay13 (k0_pay33 x0 x1) (k0_pay34 x0 x1) -- `v89`
def k0_pay37 (x0 : Vec F S4096x1024 .f32) (x1 : Vec F S16x1024 .f32) : FVec F S4096x16 .f32 :=
  k0_pay14 (k0_pay33 x0 x1) (k0_pay34 x0 x1) -- `v92`

def out0_2 (x0 : Vec F S4096x1024 .f32) (x1 : Vec F S16x1024 .f32) : Vec F S4096x32 .f32 :=
  View.canon [⟨r0_2, k0_pay25 (k0_pay31 x0 x1) (k0_pay22 (k0_pay29 x0 x1) (k0_pay31 x0 x1)) (k0_pay23 (k0_pay28 x0 x1) (k0_pay29 x0 x1) (k0_pay30 x0 x1) (k0_pay33 x0 x1) (k0_pay35 x0 x1) (k0_pay36 x0 x1) (k0_pay37 x0 x1)) (k0_pay24 (k0_pay28 x0 x1) (k0_pay32 x0 x1) (k0_pay34 x0 x1) (k0_pay35 x0 x1) (k0_pay36 x0 x1) (k0_pay37 x0 x1)) (Scalar.ofBits .f32 0x00000000#32)⟩]

theorem cover0_2 (p0 : Vec F S4096x32 .f32) (y : S4096x32.Idx) :
    ∃ pc ∈ ([⟨r0_2, p0⟩] : List (View.Piece (Elt F) S4096x32 .f32)), y ∈ pc.1.set :=
  View.cover_of_tiled [⟨r0_2, p0⟩] S4096x32.size (by rfl) y

def out0_3 (x0 : Vec F S4096x1024 .f32) (x1 : Vec F S16x1024 .f32) : Vec F S32x1024 .f32 :=
  View.canon [⟨r0_3, k0_pay26 (k0_pay1 (View.ld x0 r0_0)) (k0_pay18 (k0_pay28 x0 x1) (k0_pay30 x0 x1) (k0_pay33 x0 x1) (k0_pay35 x0 x1) (k0_pay36 x0 x1) (k0_pay37 x0 x1)) (k0_pay19 (k0_pay28 x0 x1) (k0_pay32 x0 x1) (k0_pay34 x0 x1) (k0_pay35 x0 x1) (k0_pay36 x0 x1) (k0_pay37 x0 x1)) (k0_pay20 (F := F)) (k0_pay21 (F := F))⟩]

theorem cover0_3 (p0 : Vec F S32x1024 .f32) (y : S32x1024.Idx) :
    ∃ pc ∈ ([⟨r0_3, p0⟩] : List (View.Piece (Elt F) S32x1024 .f32)), y ∈ pc.1.set :=
  View.cover_of_tiled [⟨r0_3, p0⟩] S32x1024.size (by rfl) y

def out0_4 (x0 : Vec F S4096x1024 .f32) (x1 : Vec F S16x1024 .f32) : Vec F S1x1 .f32 :=
  View.canon [⟨r0_4, k0_pay27 (k0_pay9 (View.ld x0 r0_0) (View.ld x1 r0_1)) (k0_pay17 (k0_pay36 x0 x1) (k0_pay37 x0 x1))⟩]

theorem cover0_4 (p0 : Vec F S1x1 .f32) (y : S1x1.Idx) :
    ∃ pc ∈ ([⟨r0_4, p0⟩] : List (View.Piece (Elt F) S1x1 .f32)), y ∈ pc.1.set :=
  View.cover_of_tiled [⟨r0_4, p0⟩] S1x1.size (by rfl) y

set_option maxHeartbeats 1000000 in
theorem sound_kernel0 (c : Dev nD) (E : Set ℕ) (arg0 : Memref sig .tc .vmem S4096x1024 .f32) (harg0 : arg0.IsWhole) (arg1 : Memref sig .tc .vmem S16x1024 .f32) (harg1 : arg1.IsWhole) (arg2 : Memref sig .tc .vmem S4096x32 .f32) (harg2 : arg2.IsWhole) (arg3 : Memref sig .tc .vmem S32x1024 .f32) (harg3 : arg3.IsWhole) (arg4 : Memref sig .tc .vmem S1x1 .f32) (harg4 : arg4.IsWhole)
    (x0 : Vec F S4096x1024 .f32) (x1 : Vec F S16x1024 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1)) -∗ K ⟨⟩))
      ⊢ wp frame (wpE (defs₀ (F := F)) Variants.none c none) E (cc0__route_body arg0 harg0 arg1 harg1 arg2 harg2 arg3 harg3 arg4 harg4) K := by
  simp only [cc0__route_body_eq_skeleton]; unfold cc0__route_body_skel
  simp only [k0_part4_eq_skeleton, k0_part1_eq_skeleton, k0_part2_eq_skeleton, k0_part3_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := k1_cond1 i = 1#1
theorem hcond1_0 : ∀ t : Fin cfg1.N, cond1_0 (grid1.coords t) ↔ t.val % 4 = 0 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_0, k1_cond1, e0, e1]
    word_cmp
   : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ 1 ≤ t.val % 4 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_1, k1_cond2, e0, e1]
    word_cmp
   : ∀ t : Fin grid1.N, cond1_1 (grid1.coords t) ↔ 1 ≤ t.val % 4)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
def freshTab1_5 : ℕ → Bool
  | 0 => true
  | n + 1 => (0x8888888888888888 : ℕ).testBit n
theorem freshTab1_5_step : ∀ t : Fin cfg1.N,
    freshTab1_5 (t.val + 1) = ((cfg1.win 5).flush t || (cfg1.idle 5 (cfg1.grid.coords t) && freshTab1_5 t.val)) := by decide +kernel
theorem fresh1_5_eq (t : Fin cfg1.N) : cfg1.fresh 5 t.val = freshTab1_5 t.val :=
  Pipeline.Cfg.fresh_tab cfg1 5 freshTab1_5 rfl freshTab1_5_step t.val (Nat.le_of_lt t.isLt)
theorem liveAt1_5_A : ∀ t : Fin cfg1.N, cond1_0 (grid1.coords t) → ¬cond1_1 (grid1.coords t) → cfg1.idle 5 (grid1.coords t) = false := by decide +kernel
theorem liveAt1_5_B : ∀ t : Fin cfg1.N, ¬cond1_0 (grid1.coords t) → cond1_1 (grid1.coords t) → cfg1.idle 5 (grid1.coords t) = false := by decide +kernel
theorem notFresh1_5_B : ∀ t : Fin cfg1.N, ¬cond1_0 (grid1.coords t) → cond1_1 (grid1.coords t) → cfg1.fresh 5 t.val = false := by
  intro t; rw [fresh1_5_eq t]; revert t; decide +kernel

abbrev VO1_5 : View sig .tc .vmem S1x2x1024 .f32 := (Memref.whole cc1_stg5_0 : Memref sig .tc .vmem S1x2x1024 .f32).view
abbrev ms1_0 (t : Fin cfg1.N) : Memref sig .tc .vmem S1x2x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2x1024 .f32 := win1_5.stage (cfg1.slots t 5)
abbrev hs1_5 (t : Fin cfg1.N) : (ms1_5 t).IsWhole := hstage1_5 ((cfg1.slots t 5).cast nbuf1_5)

set_option maxHeartbeats 1000000 in
noncomputable def kernelRun1_A (c : Dev nD) (i : grid1.Coords) (arg2 : Memref sig .tc .vmem S1x2x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x2x1024 .f32) (harg7 : arg7.IsWhole) (hc0 : cond1_0 i) (hc1 : ¬cond1_1 i)
    (x0 : Vec F S1x2x1024 .f32) (x1 : Vec F S1x1024x1024 .f32) (x2 : Vec F S1x1x1024 .f32) (x3 : Vec F S1x1024x1024 .f32) (x4 : Vec F S1x1x1024 .f32) :
    { L5 : List (View.Piece (Elt F) S1x2x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__ffn_body i arg2 harg2 arg3 harg3 arg4 harg4 arg5 harg5 arg6 harg6 arg7 harg7) K } := by
  refine ⟨?_, fun E K => ?run⟩
  case run =>
    simp only [cc1__ffn_body_eq_skeleton]; unfold cc1__ffn_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

set_option maxHeartbeats 1000000 in
noncomputable def kernelRun1_B (c : Dev nD) (i : grid1.Coords) (arg2 : Memref sig .tc .vmem S1x2x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x2x1024 .f32) (harg7 : arg7.IsWhole) (hc0 : ¬cond1_0 i) (hc1 : cond1_1 i)
    (x0 : Vec F S1x2x1024 .f32) (x1 : Vec F S1x1024x1024 .f32) (x2 : Vec F S1x1x1024 .f32) (x3 : Vec F S1x1024x1024 .f32) (x4 : Vec F S1x1x1024 .f32) (xo5 : Vec F S1x2x1024 .f32) :
    { L5 : List (View.Piece (Elt F) S1x2x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__ffn_body i arg2 harg2 arg3 harg3 arg4 harg4 arg5 harg5 arg6 harg6 arg7 harg7) K } := by
  refine ⟨?_, fun E K => ?run⟩
  case run =>
    simp only [cc1__ffn_body_eq_skeleton]; unfold cc1__ffn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

theorem cover1_A_5 (c : Dev nD) (i : grid1.Coords) (arg2 : Memref sig .tc .vmem S1x2x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x2x1024 .f32) (harg7 : arg7.IsWhole) (hc0 : cond1_0 i) (hc1 : ¬cond1_1 i)
    (x0 : Vec F S1x2x1024 .f32) (x1 : Vec F S1x1024x1024 .f32) (x2 : Vec F S1x1x1024 .f32) (x3 : Vec F S1x1024x1024 .f32) (x4 : Vec F S1x1x1024 .f32) (y : S1x2x1024.Idx) :
    ∃ pc ∈ (kernelRun1_A c i arg2 harg2 arg3 harg3 arg4 harg4 arg5 harg5 arg6 harg6 arg7 harg7 hc0 hc1 x0 x1 x2 x3 x4).1, y ∈ pc.1.set :=
  View.cover_of_tiledL (kernelRun1_A c i arg2 harg2 arg3 harg3 arg4 harg4 arg5 harg5 arg6 harg6 arg7 harg7 hc0 hc1 x0 x1 x2 x3 x4).1 S1x2x1024.size (by sl_kernel_rfl) y

def out1_A_5 (c : Dev nD) (i : grid1.Coords) (arg2 : Memref sig .tc .vmem S1x2x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x2x1024 .f32) (harg7 : arg7.IsWhole) (hc0 : cond1_0 i) (hc1 : ¬cond1_1 i)
    (x0 : Vec F S1x2x1024 .f32) (x1 : Vec F S1x1024x1024 .f32) (x2 : Vec F S1x1x1024 .f32) (x3 : Vec F S1x1024x1024 .f32) (x4 : Vec F S1x1x1024 .f32) : Vec F S1x2x1024 .f32 :=
  VO1_5.read (Elt F) (VO1_5.writes (Elt F) VO1_5.junk (kernelRun1_A c i arg2 harg2 arg3 harg3 arg4 harg4 arg5 harg5 arg6 harg6 arg7 harg7 hc0 hc1 x0 x1 x2 x3 x4).1)

theorem cover1_B_5 (c : Dev nD) (i : grid1.Coords) (arg2 : Memref sig .tc .vmem S1x2x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x2x1024 .f32) (harg7 : arg7.IsWhole) (hc0 : ¬cond1_0 i) (hc1 : cond1_1 i)
    (x0 : Vec F S1x2x1024 .f32) (x1 : Vec F S1x1024x1024 .f32) (x2 : Vec F S1x1x1024 .f32) (x3 : Vec F S1x1024x1024 .f32) (x4 : Vec F S1x1x1024 .f32) (xo5 : Vec F S1x2x1024 .f32) (y : S1x2x1024.Idx) :
    ∃ pc ∈ (kernelRun1_B c i arg2 harg2 arg3 harg3 arg4 harg4 arg5 harg5 arg6 harg6 arg7 harg7 hc0 hc1 x0 x1 x2 x3 x4 xo5).1, y ∈ pc.1.set :=
  View.cover_of_tiledL (kernelRun1_B c i arg2 harg2 arg3 harg3 arg4 harg4 arg5 harg5 arg6 harg6 arg7 harg7 hc0 hc1 x0 x1 x2 x3 x4 xo5).1 S1x2x1024.size (by sl_kernel_rfl) y

def out1_B_5 (c : Dev nD) (i : grid1.Coords) (arg2 : Memref sig .tc .vmem S1x2x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x2x1024 .f32) (harg7 : arg7.IsWhole) (hc0 : ¬cond1_0 i) (hc1 : cond1_1 i)
    (x0 : Vec F S1x2x1024 .f32) (x1 : Vec F S1x1024x1024 .f32) (x2 : Vec F S1x1x1024 .f32) (x3 : Vec F S1x1024x1024 .f32) (x4 : Vec F S1x1x1024 .f32) (xo5 : Vec F S1x2x1024 .f32) : Vec F S1x2x1024 .f32 :=
  VO1_5.read (Elt F) (VO1_5.writes (Elt F) VO1_5.junk (kernelRun1_B c i arg2 harg2 arg3 harg3 arg4 harg4 arg5 harg5 arg6 harg6 arg7 harg7 hc0 hc1 x0 x1 x2 x3 x4 xo5).1)

def outsAt1 (c : Dev nD) : (n : ℕ) → n < cfg1.N → Vec F S1x2x1024 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 4 = 0 then
      if h1 : 1 ≤ (n + 1) % 4 then
        False.elim (by have hN : n + 1 < 64 := lt_of_lt_of_eq hn (show cfg1.N = 64 from N_1); omega)
      else
        out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : 1 ≤ (n + 1) % 4 then
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
      else
        False.elim (by have hN : n + 1 < 64 := lt_of_lt_of_eq hn (show cfg1.N = 64 from N_1); omega)

theorem outsAt1_A (c : Dev nD) (t : Fin cfg1.N) (h0 : t.val % 4 = 0) (h1 : ¬1 ≤ t.val % 4) :
    outsAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : 1 ≤ t.val % 4) :
    outsAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  have hN : t.val < 64 := lt_of_lt_of_eq t.isLt (show cfg1.N = 64 from N_1)
  rw [after1_5, after1_5]
  by_cases h0 : t.val % 4 = 0
  · by_cases h1 : 1 ≤ t.val % 4
    · exfalso; omega
    · rw [liveAt1_5_A t ((hcond1_0 t).mpr h0) (fun h => h1 ((hcond1_1 t).mp h))] at hi
      exact absurd hi Bool.false_ne_true
  · by_cases h1 : 1 ≤ t.val % 4
    · rw [liveAt1_5_B t (fun h => h0 ((hcond1_0 t).mp h)) ((hcond1_1 t).mpr h1)] at hi
      exact absurd hi Bool.false_ne_true
    · exfalso; omega
theorem before1_5_B (c : Dev nD) (t : Fin cfg1.N) (h0 : ¬t.val % 4 = 0) (h1 : 1 ≤ t.val % 4) (d) :
    (dat1 V c).before 5 t d = (outsAt1 V c (t.val - 1) (Nat.lt_of_le_of_lt (Nat.sub_le _ _) t.isLt)) := by
  rw [Dat.before_out_traj _ 5 rfl (fun _ _ => rfl) (hcarry1_5 V c) t.val t rfl d,
    if_neg (by rw [notFresh1_5_B t (fun h => h0 ((hcond1_0 t).mp h)) ((hcond1_1 t).mpr h1)]; exact Bool.false_ne_true)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  have hN : t.val < 64 := lt_of_lt_of_eq t.isLt (show cfg1.N = 64 from N_1)
  by_cases h0 : t.val % 4 = 0
  · by_cases h1 : 1 ≤ t.val % 4
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_A t ((hcond1_0 t).mpr h0) (fun h => h1 ((hcond1_1 t).mp h))], after1_5]
      rw [outsAt1_A V c t h0 h1]
      unfold out1_A_5
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _)
  · by_cases h1 : 1 ≤ t.val % 4
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
      rw [outsAt1_B V c t h0 h1]
      simp only [before1_5_B V c t h0 h1]
      unfold out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_B_5 c _ _ _ _ _ _ _ _ _ _ _ _ _ _ _ _ _ _ _ _ _)
    · exfalso; omega

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__combine_body` (pipeline 2), at the entry contents `V` -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x32 := Rect.unit (s := S512x32) ![0, 0] S512x32.size inb_S512x32_S512x32_0_0
abbrev r2_1 : Rect S32x1024 := Rect.unit (s := S32x1024) ![0, 0] S32x1024.size inb_S32x1024_S32x1024_0_0
abbrev r2_2 : Rect S512x1024 := Rect.unit (s := S512x1024) ![0, 0] S512x1024.size inb_S512x1024_S512x1024_0_0

def out2_2 (x0 : Vec F S512x32 .f32) (x1 : Vec F S32x1024 .f32) : Vec F S512x1024 .f32 :=
  View.canon [⟨r2_2, k2_pay1 (View.ld x0 r2_0) (View.ld x1 r2_1)⟩]

theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

set_option maxHeartbeats 1000000 in
theorem sound_kernel2 (c : Dev nD) (E : Set ℕ) (i : grid2.Coords) (arg1 : Memref sig .tc .vmem S512x32 .f32) (harg1 : arg1.IsWhole) (arg2 : Memref sig .tc .vmem S32x1024 .f32) (harg2 : arg2.IsWhole) (arg3 : Memref sig .tc .vmem S512x1024 .f32) (harg3 : arg3.IsWhole)
    (x0 : Vec F S512x32 .f32) (x1 : Vec F S32x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__combine_body i arg1 harg1 arg2 harg2 arg3 harg3) K := by
  simp only [cc2__combine_body_eq_skeleton]; unfold cc2__combine_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v2, main_v3, main_v4]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v6]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v8, main_v9]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem run : θ_run defs (onTc (τ := τ) (main (F := F))) ⟨m, fun _ => 0, ρ⟩ (fun r => (∀ c : Dev nD,
      r.2.mem ((c.tc : Thread nD τ).loc main_v8) = W7 m ρ c (Proc.devRef .tc main_v8)
      ∧ r.2.mem ((c.tc : Thread nD τ).loc main_v9) = W7 m ρ c (Proc.devRef .tc main_v9)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v8 (by decide)), h c _ (mem_uc main_v9 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩), funext fun g => hz g (.inr (no_unscoped g.2))⟩)

/-- The argument arrays end as launched and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2, h.2⟩) (run m ρ)

end Cert.KernelIdeal.Whole

end
-- ==== Proof.ReferenceRun.lean ====
/- The reference program: its host operations as a list cut into ten pieces, the plain function each named value is
   of the values before it, and the program's run — every result at the composed function of the arguments, the
   arguments unchanged. -/
module

public import proofs.«01_k».proof.Proof.Gen.ReferenceIdeal
public import Idealize.ShloMosaic.Lib.StableHlo.RunRead
public import Idealize.ShloMosaic.Lib.Quiescent
public import Idealize.ShloMosaic.Lib.Claim

@[expose] public section

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-! ## The named values -/

def r_v0 (arg0 : (⟨S2x2048x1024, .f32⟩ : BufTy).Contents (Elt F)) : (⟨S4096x1024, .f32⟩ : BufTy).Contents (Elt F) :=
  shapeCast S4096x1024 arg0 shapeCasts_S2x2048x1024_S4096x1024

def r_v2 (v0 : (⟨S4096x1024, .f32⟩ : BufTy).Contents (Elt F)) (arg1 : (⟨S16x1024, .f32⟩ : BufTy).Contents (Elt F)) : (⟨S4096x16, .f32⟩ : BufTy).Contents (Elt F) :=
  Host.dotGeneral dot_S4096x1024_S1024x16_S4096x16_1_0_0_1_n_n none v0 ((transpose S1024x16 [1, 0] arg1 transposes_S16x1024_S1024x16_1_0 : (⟨S1024x16, .f32⟩ : BufTy).Contents (Elt F)))

def r_v5 (v2 : (⟨S4096x16, .f32⟩ : BufTy).Contents (Elt F)) : (⟨S4096, .f32⟩ : BufTy).Contents (Elt F) :=
  maximumf ((broadcastInDim S4096 ![] bcast_S_S4096 ((constant S_ .f32 0xFF800000#32 : (⟨S_, .f32⟩ : BufTy).Contents (Elt F))) : (⟨S4096, .f32⟩ : BufTy).Contents (Elt F))) ((Host.reduce FloatOps.maximumf v2 ((constant S_ .f32 0xFF800000#32 : (⟨S_, .f32⟩ : BufTy).Contents (Elt F))) reducesTo_S4096x16_S4096_d1 h_S_ : (⟨S4096, .f32⟩ : BufTy).Contents (Elt F)))

def r_v9 (v2 : (⟨S4096x16, .f32⟩ : BufTy).Contents (Elt F)) (v5 : (⟨S4096, .f32⟩ : BufTy).Contents (Elt F)) : (⟨S4096x16, .f32⟩ : BufTy).Contents (Elt F) :=
  Host.exp ((subf v2 ((broadcastInDim S4096x16 ![0, 1] bcast_S4096x1_S4096x16_0_1 ((broadcastInDim S4096x1 ![0] bcast_S4096_S4096x1_0 v5 : (⟨S4096x1, .f32⟩ : BufTy).Contents (Elt F))) : (⟨S4096x16, .f32⟩ : BufTy).Contents (Elt F))) : (⟨S4096x16, .f32⟩ : BufTy).Contents (Elt F)))

def r_v10 (v9 : (⟨S4096x16, .f32⟩ : BufTy).Contents (Elt F)) : (⟨S4096, .f32⟩ : BufTy).Contents (Elt F) :=
  Host.reduceAdd v9 ((constant S_ .f32 0x00000000#32 : (⟨S_, .f32⟩ : BufTy).Contents (Elt F))) reducesTo_S4096x16_S4096_d1 h_S_

def r_v13 (v9 : (⟨S4096x16, .f32⟩ : BufTy).Contents (Elt F)) (v10 : (⟨S4096, .f32⟩ : BufTy).Contents (Elt F)) : (⟨S4096x16, .f32⟩ : BufTy).Contents (Elt F) :=
  Host.divf v9 ((broadcastInDim S4096x16 ![0, 1] bcast_S4096x1_S4096x16_0_1 ((broadcastInDim S4096x1 ![0] bcast_S4096_S4096x1_0 v10 : (⟨S4096x1, .f32⟩ : BufTy).Contents (Elt F))) : (⟨S4096x16, .f32⟩ : BufTy).Contents (Elt F)))

def r_values (v13 : (⟨S4096x16, .f32⟩ : BufTy).Contents (Elt F)) : (⟨S4096x2, .f32⟩ : BufTy).Contents (Elt F) :=
  (Host.topK S4096x2 1 (FloatOps.cmpfTotal .gt) v13 sliceFits_S4096x16_S4096x2).1

def r_indices (v13 : (⟨S4096x16, .f32⟩ : BufTy).Contents (Elt F)) : (⟨S4096x2, .i32⟩ : BufTy).Contents (Elt F) :=
  (Host.topK S4096x2 1 (FloatOps.cmpfTotal .gt) v13 sliceFits_S4096x16_S4096x2).2

def r_v14 (v13 : (⟨S4096x16, .f32⟩ : BufTy).Contents (Elt F)) : (⟨S16, .f32⟩ : BufTy).Contents (Elt F) :=
  Host.reduceAdd v13 ((constant S_ .f32 0x00000000#32 : (⟨S_, .f32⟩ : BufTy).Contents (Elt F))) reducesTo_S4096x16_S16_d0 h_S_

def r_v31 (indices : (⟨S4096x2, .i32⟩ : BufTy).Contents (Elt F)) : (⟨S4096x2x2, .i32⟩ : BufTy).Contents (Elt F) :=
  concatenate S4096x2x2 2 [⟨S4096x2x1, ((broadcastInDim S4096x2x1 ![0, 1] bcast_S4096x2_S4096x2x1_0_1 ((broadcastInDim S4096x2 ![0, 1] bcast_S4096x1_S4096x2_0_1 ((select ((cmpi .slt ((broadcastInDim S4096x1 ![0] bcast_S4096_S4096x1_0 ((iotaInDim S4096 32 0 : (⟨S4096, .i32⟩ : BufTy).Contents (Elt F))) : (⟨S4096x1, .i32⟩ : BufTy).Contents (Elt F))) ((broadcastInDim S4096x1 ![] bcast_S_S4096x1 ((constantI S_ 32 0#32 : (⟨S_, .i32⟩ : BufTy).Contents (Elt F))) : (⟨S4096x1, .i32⟩ : BufTy).Contents (Elt F))) : (⟨S4096x1, .i1⟩ : BufTy).Contents (Elt F))) ((addi ((broadcastInDim S4096x1 ![0] bcast_S4096_S4096x1_0 ((iotaInDim S4096 32 0 : (⟨S4096, .i32⟩ : BufTy).Contents (Elt F))) : (⟨S4096x1, .i32⟩ : BufTy).Contents (Elt F))) ((broadcastInDim S4096x1 ![] bcast_S_S4096x1 ((constantI S_ 32 4096#32 : (⟨S_, .i32⟩ : BufTy).Contents (Elt F))) : (⟨S4096x1, .i32⟩ : BufTy).Contents (Elt F))) : (⟨S4096x1, .i32⟩ : BufTy).Contents (Elt F))) ((broadcastInDim S4096x1 ![0] bcast_S4096_S4096x1_0 ((iotaInDim S4096 32 0 : (⟨S4096, .i32⟩ : BufTy).Contents (Elt F))) : (⟨S4096x1, .i32⟩ : BufTy).Contents (Elt F))) : (⟨S4096x1, .i32⟩ : BufTy).Contents (Elt F))) : (⟨S4096x2, .i32⟩ : BufTy).Contents (Elt F))) : (⟨S4096x2x1, .i32⟩ : BufTy).Contents (Elt F)))⟩, ⟨S4096x2x1, ((broadcastInDim S4096x2x1 ![0, 1] bcast_S4096x2_S4096x2x1_0_1 ((select ((cmpi .slt indices ((broadcastInDim S4096x2 ![] bcast_S_S4096x2 ((constantI S_ 32 0#32 : (⟨S_, .i32⟩ : BufTy).Contents (Elt F))) : (⟨S4096x2, .i32⟩ : BufTy).Contents (Elt F))) : (⟨S4096x2, .i1⟩ : BufTy).Contents (Elt F))) ((addi indices ((broadcastInDim S4096x2 ![] bcast_S_S4096x2 ((constantI S_ 32 16#32 : (⟨S_, .i32⟩ : BufTy).Contents (Elt F))) : (⟨S4096x2, .i32⟩ : BufTy).Contents (Elt F))) : (⟨S4096x2, .i32⟩ : BufTy).Contents (Elt F))) indices : (⟨S4096x2, .i32⟩ : BufTy).Contents (Elt F))) : (⟨S4096x2x1, .i32⟩ : BufTy).Contents (Elt F)))⟩] concatenates_S4096x2x1_S4096x2x1_S4096x2x2_d2

def r_v33 (v31 : (⟨S4096x2x2, .i32⟩ : BufTy).Contents (Elt F)) : (⟨S4096x16, .f32⟩ : BufTy).Contents (Elt F) :=
  Host.scatter scatter_S4096x16_S4096x2x2_S4096x2_n_01_01_2 (fun _ b => b) ((broadcastInDim S4096x16 ![] bcast_S_S4096x16 ((constant S_ .f32 0x00000000#32 : (⟨S_, .f32⟩ : BufTy).Contents (Elt F))) : (⟨S4096x16, .f32⟩ : BufTy).Contents (Elt F))) v31 ((broadcastInDim S4096x2 ![] bcast_S_S4096x2 ((constant S_ .f32 0x3F800000#32 : (⟨S_, .f32⟩ : BufTy).Contents (Elt F))) : (⟨S4096x2, .f32⟩ : BufTy).Contents (Elt F)))

def r_v34 (v33 : (⟨S4096x16, .f32⟩ : BufTy).Contents (Elt F)) : (⟨S16, .f32⟩ : BufTy).Contents (Elt F) :=
  Host.reduceAdd v33 ((constant S_ .f32 0x00000000#32 : (⟨S_, .f32⟩ : BufTy).Contents (Elt F))) reducesTo_S4096x16_S16_d0 h_S_

def r_v39 (v14 : (⟨S16, .f32⟩ : BufTy).Contents (Elt F)) (v34 : (⟨S16, .f32⟩ : BufTy).Contents (Elt F)) : (⟨S_, .f32⟩ : BufTy).Contents (Elt F) :=
  Host.divf ((mulf ((Host.divf ((Host.reduceAdd ((mulf v14 v34 : (⟨S16, .f32⟩ : BufTy).Contents (Elt F))) ((constant S_ .f32 0x00000000#32 : (⟨S_, .f32⟩ : BufTy).Contents (Elt F))) reducesTo_S16_S_d0 h_S_ : (⟨S_, .f32⟩ : BufTy).Contents (Elt F))) ((constant S_ .f32 0x41800000#32 : (⟨S_, .f32⟩ : BufTy).Contents (Elt F))) : (⟨S_, .f32⟩ : BufTy).Contents (Elt F))) ((constant S_ .f32 0x43800000#32 : (⟨S_, .f32⟩ : BufTy).Contents (Elt F))) : (⟨S_, .f32⟩ : BufTy).Contents (Elt F))) ((constant S_ .f32 0x4B800000#32 : (⟨S_, .f32⟩ : BufTy).Contents (Elt F)))

def r_v40 (indices : (⟨S4096x2, .i32⟩ : BufTy).Contents (Elt F)) : (⟨S8192, .i32⟩ : BufTy).Contents (Elt F) :=
  shapeCast S8192 indices shapeCasts_S4096x2_S8192

def r_v41 (values : (⟨S4096x2, .f32⟩ : BufTy).Contents (Elt F)) : (⟨S8192, .f32⟩ : BufTy).Contents (Elt F) :=
  shapeCast S8192 values shapeCasts_S4096x2_S8192

def r_v44  : (⟨S8192, .i32⟩ : BufTy).Contents (Elt F) :=
  shapeCast S8192 ((broadcastInDim S4096x2 ![0] bcast_S4096_S4096x2_0 ((iotaInDim S4096 32 0 : (⟨S4096, .i32⟩ : BufTy).Contents (Elt F))) : (⟨S4096x2, .i32⟩ : BufTy).Contents (Elt F))) shapeCasts_S4096x2_S8192

def r_v45 (v40 : (⟨S8192, .i32⟩ : BufTy).Contents (Elt F)) : (⟨S8192, .i32⟩ : BufTy).Contents (Elt F) :=
  (Host.sort2 S8192 0 comparator_i32_i32_d0 v40 ((iotaInDim S8192 32 0 : (⟨S8192, .i32⟩ : BufTy).Contents (Elt F)))).2

def r_v51 (v45 : (⟨S8192, .i32⟩ : BufTy).Contents (Elt F)) : (⟨S8192x1, .i32⟩ : BufTy).Contents (Elt F) :=
  broadcastInDim S8192x1 ![0] bcast_S8192_S8192x1_0 ((select ((cmpi .slt v45 ((broadcastInDim S8192 ![] bcast_S_S8192 ((constantI S_ 32 0#32 : (⟨S_, .i32⟩ : BufTy).Contents (Elt F))) : (⟨S8192, .i32⟩ : BufTy).Contents (Elt F))) : (⟨S8192, .i1⟩ : BufTy).Contents (Elt F))) ((addi v45 ((broadcastInDim S8192 ![] bcast_S_S8192 ((constantI S_ 32 8192#32 : (⟨S_, .i32⟩ : BufTy).Contents (Elt F))) : (⟨S8192, .i32⟩ : BufTy).Contents (Elt F))) : (⟨S8192, .i32⟩ : BufTy).Contents (Elt F))) v45 : (⟨S8192, .i32⟩ : BufTy).Contents (Elt F)))

def r_v52 (v40 : (⟨S8192, .i32⟩ : BufTy).Contents (Elt F)) (v51 : (⟨S8192x1, .i32⟩ : BufTy).Contents (Elt F)) : (⟨S8192, .i32⟩ : BufTy).Contents (Elt F) :=
  Host.gather gather_S8192_S8192x1_S8192_n_0_n_n_0_1_1 v40 v51

def r_v59 (v44 : (⟨S8192, .i32⟩ : BufTy).Contents (Elt F)) (v45 : (⟨S8192, .i32⟩ : BufTy).Contents (Elt F)) : (⟨S8192, .i32⟩ : BufTy).Contents (Elt F) :=
  Host.gather gather_S8192_S8192x1_S8192_n_0_n_n_0_1_1 v44 ((broadcastInDim S8192x1 ![0] bcast_S8192_S8192x1_0 ((select ((cmpi .slt v45 ((broadcastInDim S8192 ![] bcast_S_S8192 ((constantI S_ 32 0#32 : (⟨S_, .i32⟩ : BufTy).Contents (Elt F))) : (⟨S8192, .i32⟩ : BufTy).Contents (Elt F))) : (⟨S8192, .i1⟩ : BufTy).Contents (Elt F))) ((addi v45 ((broadcastInDim S8192 ![] bcast_S_S8192 ((constantI S_ 32 8192#32 : (⟨S_, .i32⟩ : BufTy).Contents (Elt F))) : (⟨S8192, .i32⟩ : BufTy).Contents (Elt F))) : (⟨S8192, .i32⟩ : BufTy).Contents (Elt F))) v45 : (⟨S8192, .i32⟩ : BufTy).Contents (Elt F))) : (⟨S8192x1, .i32⟩ : BufTy).Contents (Elt F)))

def r_v66 (v41 : (⟨S8192, .f32⟩ : BufTy).Contents (Elt F)) (v45 : (⟨S8192, .i32⟩ : BufTy).Contents (Elt F)) : (⟨S8192, .f32⟩ : BufTy).Contents (Elt F) :=
  Host.gather gather_S8192_S8192x1_S8192_n_0_n_n_0_1_1 v41 ((broadcastInDim S8192x1 ![0] bcast_S8192_S8192x1_0 ((select ((cmpi .slt v45 ((broadcastInDim S8192 ![] bcast_S_S8192 ((constantI S_ 32 0#32 : (⟨S_, .i32⟩ : BufTy).Contents (Elt F))) : (⟨S8192, .i32⟩ : BufTy).Contents (Elt F))) : (⟨S8192, .i1⟩ : BufTy).Contents (Elt F))) ((addi v45 ((broadcastInDim S8192 ![] bcast_S_S8192 ((constantI S_ 32 8192#32 : (⟨S_, .i32⟩ : BufTy).Contents (Elt F))) : (⟨S8192, .i32⟩ : BufTy).Contents (Elt F))) : (⟨S8192, .i32⟩ : BufTy).Contents (Elt F))) v45 : (⟨S8192, .i32⟩ : BufTy).Contents (Elt F))) : (⟨S8192x1, .i32⟩ : BufTy).Contents (Elt F)))

def r_v67 (v52 : (⟨S8192, .i32⟩ : BufTy).Contents (Elt F)) : (⟨S8192x16, .f32⟩ : BufTy).Contents (Elt F) :=
  uitofp .f32 ((cmpi .eq ((broadcastInDim S8192x16 ![0, 1] bcast_S8192x1_S8192x16_0_1 ((broadcastInDim S8192x1 ![0] bcast_S8192_S8192x1_0 v52 : (⟨S8192x1, .i32⟩ : BufTy).Contents (Elt F))) : (⟨S8192x16, .i32⟩ : BufTy).Contents (Elt F))) ((broadcastInDim S8192x16 ![0, 1] bcast_S1x16_S8192x16_0_1 ((iotaInDim S1x16 32 1 : (⟨S1x16, .i32⟩ : BufTy).Contents (Elt F))) : (⟨S8192x16, .i32⟩ : BufTy).Contents (Elt F))) : (⟨S8192x16, .i1⟩ : BufTy).Contents (Elt F)))

def r_v68 (v67 : (⟨S8192x16, .f32⟩ : BufTy).Contents (Elt F)) : (⟨S8192x16, .f32⟩ : BufTy).Contents (Elt F) :=
  Host.reduceWindowAdd ![8192, 1] ![1, 1] ![8191, 0] ![0, 0] v67 ((broadcastInDim S_ ![] bcast_S_S_ ((constant S_ .f32 0x00000000#32 : (⟨S_, .f32⟩ : BufTy).Contents (Elt F))) : (⟨S_, .f32⟩ : BufTy).Contents (Elt F))) reduceWindows_S8192x16_S8192x16_w8192s1p8191_0_w1s1p0_0 h_S_

def r_v69 (v68 : (⟨S8192x16, .f32⟩ : BufTy).Contents (Elt F)) : (⟨S8192, .i32⟩ : BufTy).Contents (Elt F) :=
  fun j => (Host.argReduce reducer_argmax_f32_i32 v68 ((iotaInDim S8192x16 32 1 : (⟨S8192x16, .i32⟩ : BufTy).Contents (Elt F))) ((constant S_ .f32 0xFF800000#32 : (⟨S_, .f32⟩ : BufTy).Contents (Elt F))) ((constantI S_ 32 0#32 : (⟨S_, .i32⟩ : BufTy).Contents (Elt F))) reducesTo_S8192x16_S8192_d1 h_S_ j).2

def r_v73 (v69 : (⟨S8192, .i32⟩ : BufTy).Contents (Elt F)) : (⟨S8192, .i32⟩ : BufTy).Contents (Elt F) :=
  minsi ((subi v69 ((broadcastInDim S8192 ![] bcast_S_S8192 ((constantI S_ 32 1#32 : (⟨S_, .i32⟩ : BufTy).Contents (Elt F))) : (⟨S8192, .i32⟩ : BufTy).Contents (Elt F))) : (⟨S8192, .i32⟩ : BufTy).Contents (Elt F))) ((broadcastInDim S8192 ![] bcast_S_S8192 ((constantI S_ 32 319#32 : (⟨S_, .i32⟩ : BufTy).Contents (Elt F))) : (⟨S8192, .i32⟩ : BufTy).Contents (Elt F)))

def r_v80 (v59 : (⟨S8192, .i32⟩ : BufTy).Contents (Elt F)) : (⟨S8192x1, .i32⟩ : BufTy).Contents (Elt F) :=
  broadcastInDim S8192x1 ![0] bcast_S8192_S8192x1_0 ((select ((cmpi .slt v59 ((broadcastInDim S8192 ![] bcast_S_S8192 ((constantI S_ 32 0#32 : (⟨S_, .i32⟩ : BufTy).Contents (Elt F))) : (⟨S8192, .i32⟩ : BufTy).Contents (Elt F))) : (⟨S8192, .i1⟩ : BufTy).Contents (Elt F))) ((addi v59 ((broadcastInDim S8192 ![] bcast_S_S8192 ((constantI S_ 32 4096#32 : (⟨S_, .i32⟩ : BufTy).Contents (Elt F))) : (⟨S8192, .i32⟩ : BufTy).Contents (Elt F))) : (⟨S8192, .i32⟩ : BufTy).Contents (Elt F))) v59 : (⟨S8192, .i32⟩ : BufTy).Contents (Elt F)))

def r_v81 (v0 : (⟨S4096x1024, .f32⟩ : BufTy).Contents (Elt F)) (v80 : (⟨S8192x1, .i32⟩ : BufTy).Contents (Elt F)) : (⟨S8192x1024, .f32⟩ : BufTy).Contents (Elt F) :=
  Host.gather gather_S4096x1024_S8192x1_S8192x1024_1_0_n_n_0_1_11024 v0 v80

def r_v94 (v52 : (⟨S8192, .i32⟩ : BufTy).Contents (Elt F)) (v73 : (⟨S8192, .i32⟩ : BufTy).Contents (Elt F)) : (⟨S8192x2, .i32⟩ : BufTy).Contents (Elt F) :=
  concatenate S8192x2 1 [⟨S8192x1, ((broadcastInDim S8192x1 ![0] bcast_S8192_S8192x1_0 ((select ((cmpi .slt v52 ((broadcastInDim S8192 ![] bcast_S_S8192 ((constantI S_ 32 0#32 : (⟨S_, .i32⟩ : BufTy).Contents (Elt F))) : (⟨S8192, .i32⟩ : BufTy).Contents (Elt F))) : (⟨S8192, .i1⟩ : BufTy).Contents (Elt F))) ((addi v52 ((broadcastInDim S8192 ![] bcast_S_S8192 ((constantI S_ 32 16#32 : (⟨S_, .i32⟩ : BufTy).Contents (Elt F))) : (⟨S8192, .i32⟩ : BufTy).Contents (Elt F))) : (⟨S8192, .i32⟩ : BufTy).Contents (Elt F))) v52 : (⟨S8192, .i32⟩ : BufTy).Contents (Elt F))) : (⟨S8192x1, .i32⟩ : BufTy).Contents (Elt F)))⟩, ⟨S8192x1, ((broadcastInDim S8192x1 ![0] bcast_S8192_S8192x1_0 ((select ((cmpi .slt v73 ((broadcastInDim S8192 ![] bcast_S_S8192 ((constantI S_ 32 0#32 : (⟨S_, .i32⟩ : BufTy).Contents (Elt F))) : (⟨S8192, .i32⟩ : BufTy).Contents (Elt F))) : (⟨S8192, .i1⟩ : BufTy).Contents (Elt F))) ((addi v73 ((broadcastInDim S8192 ![] bcast_S_S8192 ((constantI S_ 32 320#32 : (⟨S_, .i32⟩ : BufTy).Contents (Elt F))) : (⟨S8192, .i32⟩ : BufTy).Contents (Elt F))) : (⟨S8192, .i32⟩ : BufTy).Contents (Elt F))) v73 : (⟨S8192, .i32⟩ : BufTy).Contents (Elt F))) : (⟨S8192x1, .i32⟩ : BufTy).Contents (Elt F)))⟩] concatenates_S8192x1_S8192x1_S8192x2_d1

def r_v95 (v94 : (⟨S8192x2, .i32⟩ : BufTy).Contents (Elt F)) (v81 : (⟨S8192x1024, .f32⟩ : BufTy).Contents (Elt F)) : (⟨S16x320x1024, .f32⟩ : BufTy).Contents (Elt F) :=
  Host.scatter scatter_S16x320x1024_S8192x2_S8192x1024_1_01_01_1 (fun _ b => b) ((broadcastInDim S16x320x1024 ![] bcast_S_S16x320x1024 ((constant S_ .f32 0x00000000#32 : (⟨S_, .f32⟩ : BufTy).Contents (Elt F))) : (⟨S16x320x1024, .f32⟩ : BufTy).Contents (Elt F))) v94 v81

def r_v99 (v95 : (⟨S16x320x1024, .f32⟩ : BufTy).Contents (Elt F)) (arg2 : (⟨S16x4096x1024, .f32⟩ : BufTy).Contents (Elt F)) (arg3 : (⟨S16x4096, .f32⟩ : BufTy).Contents (Elt F)) : (⟨S16x320x4096, .f32⟩ : BufTy).Contents (Elt F) :=
  addf ((Host.dotGeneral dot_S16x320x1024_S16x4096x1024_S16x320x4096_2_2_1_1_0_0 none v95 arg2 : (⟨S16x320x4096, .f32⟩ : BufTy).Contents (Elt F))) ((broadcastInDim S16x320x4096 ![0, 1, 2] bcast_S16x1x4096_S16x320x4096_0_1_2 ((broadcastInDim S16x1x4096 ![0, 2] bcast_S16x4096_S16x1x4096_0_2 arg3 : (⟨S16x1x4096, .f32⟩ : BufTy).Contents (Elt F))) : (⟨S16x320x4096, .f32⟩ : BufTy).Contents (Elt F)))

def r_v106 (v99 : (⟨S16x320x4096, .f32⟩ : BufTy).Contents (Elt F)) : (⟨S16x320x4096, .f32⟩ : BufTy).Contents (Elt F) :=
  mulf ((mulf ((broadcastInDim S16x320x4096 ![] bcast_S_S16x320x4096 ((constant S_ .f32 0x3F000000#32 : (⟨S_, .f32⟩ : BufTy).Contents (Elt F))) : (⟨S16x320x4096, .f32⟩ : BufTy).Contents (Elt F))) v99 : (⟨S16x320x4096, .f32⟩ : BufTy).Contents (Elt F))) ((Host.erfc ((mulf ((Host.negf v99 : (⟨S16x320x4096, .f32⟩ : BufTy).Contents (Elt F))) ((broadcastInDim S16x320x4096 ![] bcast_S_S16x320x4096 ((constant S_ .f32 0x3F3504F3#32 : (⟨S_, .f32⟩ : BufTy).Contents (Elt F))) : (⟨S16x320x4096, .f32⟩ : BufTy).Contents (Elt F))) : (⟨S16x320x4096, .f32⟩ : BufTy).Contents (Elt F))) : (⟨S16x320x4096, .f32⟩ : BufTy).Contents (Elt F)))

def r_v110 (v106 : (⟨S16x320x4096, .f32⟩ : BufTy).Contents (Elt F)) (arg4 : (⟨S16x1024x4096, .f32⟩ : BufTy).Contents (Elt F)) (arg5 : (⟨S16x1024, .f32⟩ : BufTy).Contents (Elt F)) : (⟨S16x320x1024, .f32⟩ : BufTy).Contents (Elt F) :=
  addf ((Host.dotGeneral dot_S16x320x4096_S16x1024x4096_S16x320x1024_2_2_1_1_0_0 none v106 arg4 : (⟨S16x320x1024, .f32⟩ : BufTy).Contents (Elt F))) ((broadcastInDim S16x320x1024 ![0, 1, 2] bcast_S16x1x1024_S16x320x1024_0_1_2 ((broadcastInDim S16x1x1024 ![0, 2] bcast_S16x1024_S16x1x1024_0_2 arg5 : (⟨S16x1x1024, .f32⟩ : BufTy).Contents (Elt F))) : (⟨S16x320x1024, .f32⟩ : BufTy).Contents (Elt F)))

def r_v123 (v52 : (⟨S8192, .i32⟩ : BufTy).Contents (Elt F)) (v73 : (⟨S8192, .i32⟩ : BufTy).Contents (Elt F)) : (⟨S8192x2, .i32⟩ : BufTy).Contents (Elt F) :=
  concatenate S8192x2 1 [⟨S8192x1, ((broadcastInDim S8192x1 ![0] bcast_S8192_S8192x1_0 ((select ((cmpi .slt v52 ((broadcastInDim S8192 ![] bcast_S_S8192 ((constantI S_ 32 0#32 : (⟨S_, .i32⟩ : BufTy).Contents (Elt F))) : (⟨S8192, .i32⟩ : BufTy).Contents (Elt F))) : (⟨S8192, .i1⟩ : BufTy).Contents (Elt F))) ((addi v52 ((broadcastInDim S8192 ![] bcast_S_S8192 ((constantI S_ 32 16#32 : (⟨S_, .i32⟩ : BufTy).Contents (Elt F))) : (⟨S8192, .i32⟩ : BufTy).Contents (Elt F))) : (⟨S8192, .i32⟩ : BufTy).Contents (Elt F))) v52 : (⟨S8192, .i32⟩ : BufTy).Contents (Elt F))) : (⟨S8192x1, .i32⟩ : BufTy).Contents (Elt F)))⟩, ⟨S8192x1, ((broadcastInDim S8192x1 ![0] bcast_S8192_S8192x1_0 ((select ((cmpi .slt v73 ((broadcastInDim S8192 ![] bcast_S_S8192 ((constantI S_ 32 0#32 : (⟨S_, .i32⟩ : BufTy).Contents (Elt F))) : (⟨S8192, .i32⟩ : BufTy).Contents (Elt F))) : (⟨S8192, .i1⟩ : BufTy).Contents (Elt F))) ((addi v73 ((broadcastInDim S8192 ![] bcast_S_S8192 ((constantI S_ 32 320#32 : (⟨S_, .i32⟩ : BufTy).Contents (Elt F))) : (⟨S8192, .i32⟩ : BufTy).Contents (Elt F))) : (⟨S8192, .i32⟩ : BufTy).Contents (Elt F))) v73 : (⟨S8192, .i32⟩ : BufTy).Contents (Elt F))) : (⟨S8192x1, .i32⟩ : BufTy).Contents (Elt F)))⟩] concatenates_S8192x1_S8192x1_S8192x2_d1

def r_v124 (v110 : (⟨S16x320x1024, .f32⟩ : BufTy).Contents (Elt F)) (v123 : (⟨S8192x2, .i32⟩ : BufTy).Contents (Elt F)) : (⟨S8192x1024, .f32⟩ : BufTy).Contents (Elt F) :=
  Host.gather gather_S16x320x1024_S8192x2_S8192x1024_1_01_n_n_01_1_111024 v110 v123

def r_v128 (v124 : (⟨S8192x1024, .f32⟩ : BufTy).Contents (Elt F)) (v66 : (⟨S8192, .f32⟩ : BufTy).Contents (Elt F)) : (⟨S8192x1024, .f32⟩ : BufTy).Contents (Elt F) :=
  mulf v124 ((broadcastInDim S8192x1024 ![0, 1] bcast_S8192x1_S8192x1024_0_1 ((broadcastInDim S8192x1 ![0] bcast_S8192_S8192x1_0 v66 : (⟨S8192x1, .f32⟩ : BufTy).Contents (Elt F))) : (⟨S8192x1024, .f32⟩ : BufTy).Contents (Elt F)))

def r_v134 (v59 : (⟨S8192, .i32⟩ : BufTy).Contents (Elt F)) : (⟨S8192x1, .i32⟩ : BufTy).Contents (Elt F) :=
  broadcastInDim S8192x1 ![0] bcast_S8192_S8192x1_0 ((select ((cmpi .slt v59 ((broadcastInDim S8192 ![] bcast_S_S8192 ((constantI S_ 32 0#32 : (⟨S_, .i32⟩ : BufTy).Contents (Elt F))) : (⟨S8192, .i32⟩ : BufTy).Contents (Elt F))) : (⟨S8192, .i1⟩ : BufTy).Contents (Elt F))) ((addi v59 ((broadcastInDim S8192 ![] bcast_S_S8192 ((constantI S_ 32 4096#32 : (⟨S_, .i32⟩ : BufTy).Contents (Elt F))) : (⟨S8192, .i32⟩ : BufTy).Contents (Elt F))) : (⟨S8192, .i32⟩ : BufTy).Contents (Elt F))) v59 : (⟨S8192, .i32⟩ : BufTy).Contents (Elt F)))

def r_v135 (v134 : (⟨S8192x1, .i32⟩ : BufTy).Contents (Elt F)) (v128 : (⟨S8192x1024, .f32⟩ : BufTy).Contents (Elt F)) : (⟨S4096x1024, .f32⟩ : BufTy).Contents (Elt F) :=
  Host.scatterAdd scatter_S4096x1024_S8192x1_S8192x1024_1_0_0_1 ((broadcastInDim S4096x1024 ![] bcast_S_S4096x1024 ((constant S_ .f32 0x00000000#32 : (⟨S_, .f32⟩ : BufTy).Contents (Elt F))) : (⟨S4096x1024, .f32⟩ : BufTy).Contents (Elt F))) v134 v128

def r_v143 (v59 : (⟨S8192, .i32⟩ : BufTy).Contents (Elt F)) (v66 : (⟨S8192, .f32⟩ : BufTy).Contents (Elt F)) : (⟨S4096, .f32⟩ : BufTy).Contents (Elt F) :=
  Host.scatterAdd scatter_S4096_S8192x1_S8192_n_0_0_1 ((broadcastInDim S4096 ![] bcast_S_S4096 ((constant S_ .f32 0x00000000#32 : (⟨S_, .f32⟩ : BufTy).Contents (Elt F))) : (⟨S4096, .f32⟩ : BufTy).Contents (Elt F))) ((broadcastInDim S8192x1 ![0] bcast_S8192_S8192x1_0 ((select ((cmpi .slt v59 ((broadcastInDim S8192 ![] bcast_S_S8192 ((constantI S_ 32 0#32 : (⟨S_, .i32⟩ : BufTy).Contents (Elt F))) : (⟨S8192, .i32⟩ : BufTy).Contents (Elt F))) : (⟨S8192, .i1⟩ : BufTy).Contents (Elt F))) ((addi v59 ((broadcastInDim S8192 ![] bcast_S_S8192 ((constantI S_ 32 4096#32 : (⟨S_, .i32⟩ : BufTy).Contents (Elt F))) : (⟨S8192, .i32⟩ : BufTy).Contents (Elt F))) : (⟨S8192, .i32⟩ : BufTy).Contents (Elt F))) v59 : (⟨S8192, .i32⟩ : BufTy).Contents (Elt F))) : (⟨S8192x1, .i32⟩ : BufTy).Contents (Elt F))) v66

def r_v146 (v143 : (⟨S4096, .f32⟩ : BufTy).Contents (Elt F)) : (⟨S4096, .f32⟩ : BufTy).Contents (Elt F) :=
  select ((cmpf .ogt v143 ((broadcastInDim S4096 ![] bcast_S_S4096 ((constant S_ .f32 0x00000000#32 : (⟨S_, .f32⟩ : BufTy).Contents (Elt F))) : (⟨S4096, .f32⟩ : BufTy).Contents (Elt F))) : (⟨S4096, .i1⟩ : BufTy).Contents (Elt F))) v143 ((broadcastInDim S4096 ![] bcast_S_S4096 ((id ((constant S_ .f32 0x3F800000#32 : (⟨S_, .f32⟩ : BufTy).Contents (Elt F))) : (⟨S_, .f32⟩ : BufTy).Contents (Elt F))) : (⟨S4096, .f32⟩ : BufTy).Contents (Elt F)))

def r_v153 (v143 : (⟨S4096, .f32⟩ : BufTy).Contents (Elt F)) (v135 : (⟨S4096x1024, .f32⟩ : BufTy).Contents (Elt F)) (v146 : (⟨S4096, .f32⟩ : BufTy).Contents (Elt F)) : (⟨S4096x1024, .f32⟩ : BufTy).Contents (Elt F) :=
  select ((broadcastInDim S4096x1024 ![0, 1] bcast_S4096x1_S4096x1024_0_1 ((broadcastInDim S4096x1 ![0] bcast_S4096_S4096x1_0 ((cmpf .ogt v143 ((broadcastInDim S4096 ![] bcast_S_S4096 ((constant S_ .f32 0x00000000#32 : (⟨S_, .f32⟩ : BufTy).Contents (Elt F))) : (⟨S4096, .f32⟩ : BufTy).Contents (Elt F))) : (⟨S4096, .i1⟩ : BufTy).Contents (Elt F))) : (⟨S4096x1, .i1⟩ : BufTy).Contents (Elt F))) : (⟨S4096x1024, .i1⟩ : BufTy).Contents (Elt F))) ((Host.divf v135 ((broadcastInDim S4096x1024 ![0, 1] bcast_S4096x1_S4096x1024_0_1 ((broadcastInDim S4096x1 ![0] bcast_S4096_S4096x1_0 v146 : (⟨S4096x1, .f32⟩ : BufTy).Contents (Elt F))) : (⟨S4096x1024, .f32⟩ : BufTy).Contents (Elt F))) : (⟨S4096x1024, .f32⟩ : BufTy).Contents (Elt F))) v135

def r_v154 (v153 : (⟨S4096x1024, .f32⟩ : BufTy).Contents (Elt F)) : (⟨S2x2048x1024, .f32⟩ : BufTy).Contents (Elt F) :=
  shapeCast S2x2048x1024 v153 shapeCasts_S4096x1024_S2x2048x1024

/-! ## The operations, in ten pieces -/

abbrev opsA : List (HloOp τ sig (Elt F)) :=
  [ reshape main_arg0 main_v0 (rfl : (.f32 : EltTy) = .f32) shapeCasts_S2x2048x1024_S4096x1024,
    unary main_arg1 main_v1 ((transpose S1024x16 [1, 0] · transposes_S16x1024_S1024x16_1_0) : (⟨S16x1024, .f32⟩ : BufTy).Contents (Elt F) → (⟨S1024x16, .f32⟩ : BufTy).Contents (Elt F)),
    binary main_v0 main_v1 main_v2 ((fun l r => Host.dotGeneral dot_S4096x1024_S1024x16_S4096x16_1_0_0_1_n_n none l r) : (⟨S4096x1024, .f32⟩ : BufTy).Contents (Elt F) → (⟨S1024x16, .f32⟩ : BufTy).Contents (Elt F) → (⟨S4096x16, .f32⟩ : BufTy).Contents (Elt F)),
    nullary main_cst (constant S_ .f32 0xFF800000#32),
    binary main_v2 main_cst main_v3 ((fun x v => Host.reduce FloatOps.maximumf x v reducesTo_S4096x16_S4096_d1 h_S_) : (⟨S4096x16, .f32⟩ : BufTy).Contents (Elt F) → (⟨S_, .f32⟩ : BufTy).Contents (Elt F) → (⟨S4096, .f32⟩ : BufTy).Contents (Elt F)),
    nullary main_cst_0 (constant S_ .f32 0xFF800000#32),
    unary main_cst_0 main_v4 (broadcastInDim S4096 ![] bcast_S_S4096 : (⟨S_, .f32⟩ : BufTy).Contents (Elt F) → (⟨S4096, .f32⟩ : BufTy).Contents (Elt F)),
    binary main_v4 main_v3 main_v5 (maximumf : (⟨S4096, .f32⟩ : BufTy).Contents (Elt F) → (⟨S4096, .f32⟩ : BufTy).Contents (Elt F) → (⟨S4096, .f32⟩ : BufTy).Contents (Elt F)),
    unary main_v5 main_v6 (broadcastInDim S4096x1 ![0] bcast_S4096_S4096x1_0 : (⟨S4096, .f32⟩ : BufTy).Contents (Elt F) → (⟨S4096x1, .f32⟩ : BufTy).Contents (Elt F)),
    unary main_v6 main_v7 (broadcastInDim S4096x16 ![0, 1] bcast_S4096x1_S4096x16_0_1 : (⟨S4096x1, .f32⟩ : BufTy).Contents (Elt F) → (⟨S4096x16, .f32⟩ : BufTy).Contents (Elt F)),
    binary main_v2 main_v7 main_v8 (subf : (⟨S4096x16, .f32⟩ : BufTy).Contents (Elt F) → (⟨S4096x16, .f32⟩ : BufTy).Contents (Elt F) → (⟨S4096x16, .f32⟩ : BufTy).Contents (Elt F)),
    unary main_v8 main_v9 (Host.exp : (⟨S4096x16, .f32⟩ : BufTy).Contents (Elt F) → (⟨S4096x16, .f32⟩ : BufTy).Contents (Elt F)),
    nullary main_cst_1 (constant S_ .f32 0x00000000#32),
    binary main_v9 main_cst_1 main_v10 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    unary main_v10 main_v11 (broadcastInDim S4096x1 ![0] bcast_S4096_S4096x1_0 : (⟨S4096, .f32⟩ : BufTy).Contents (Elt F) → (⟨S4096x1, .f32⟩ : BufTy).Contents (Elt F)),
    unary main_v11 main_v12 (broadcastInDim S4096x16 ![0, 1] bcast_S4096x1_S4096x16_0_1 : (⟨S4096x1, .f32⟩ : BufTy).Contents (Elt F) → (⟨S4096x16, .f32⟩ : BufTy).Contents (Elt F)),
    binary main_v9 main_v12 main_v13 (Host.divf : (⟨S4096x16, .f32⟩ : BufTy).Contents (Elt F) → (⟨S4096x16, .f32⟩ : BufTy).Contents (Elt F) → (⟨S4096x16, .f32⟩ : BufTy).Contents (Elt F)) ]

theorem keepA (V : Valuation τ sig (Elt F)) {r : Ref sig .tc} (hr : r ∉ ([main_v0, main_v1, main_v2, main_cst, main_v3, main_cst_0, main_v4, main_v5, main_v6, main_v7, main_v8, main_v9, main_cst_1, main_v10, main_v11, main_v12, main_v13] : List (Ref sig .tc))) :
    after (opsA (F := F)) V (Proc.devRef .tc r) = V (Proc.devRef .tc r) :=
  after_unwritten [main_v0, main_v1, main_v2, main_cst, main_v3, main_cst_0, main_v4, main_v5, main_v6, main_v7, main_v8, main_v9, main_cst_1, main_v10, main_v11, main_v12, main_v13] rfl hr V

theorem subA : (opsA : List (HloOp τ sig (Elt F))).Forall fun op => op.bufs ⊆ tcRefs τ sig :=
  ⟨reshape_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem readA_v0 (V : Valuation τ sig (Elt F)) :
    after (opsA (F := F)) V (Proc.devRef .tc main_v0) = (r_v0 (V (Proc.devRef .tc main_arg0))) := by
  after_reads_simp
  rfl

theorem readA_v13 (V : Valuation τ sig (Elt F)) :
    after (opsA (F := F)) V (Proc.devRef .tc main_v13) = (r_v13 (r_v9 (r_v2 (r_v0 (V (Proc.devRef .tc main_arg0))) (V (Proc.devRef .tc main_arg1))) (r_v5 (r_v2 (r_v0 (V (Proc.devRef .tc main_arg0))) (V (Proc.devRef .tc main_arg1))))) (r_v10 (r_v9 (r_v2 (r_v0 (V (Proc.devRef .tc main_arg0))) (V (Proc.devRef .tc main_arg1))) (r_v5 (r_v2 (r_v0 (V (Proc.devRef .tc main_arg0))) (V (Proc.devRef .tc main_arg1))))))) := by
  after_reads_simp
  rfl

abbrev opsB : List (HloOp τ sig (Elt F)) :=
  [ unary main_v13 main_values ((fun x => (Host.topK S4096x2 1 (FloatOps.cmpfTotal .gt) x sliceFits_S4096x16_S4096x2).1) : (⟨S4096x16, .f32⟩ : BufTy).Contents (Elt F) → (⟨S4096x2, .f32⟩ : BufTy).Contents (Elt F)),
    unary main_v13 main_indices ((fun x => (Host.topK S4096x2 1 (FloatOps.cmpfTotal .gt) x sliceFits_S4096x16_S4096x2).2) : (⟨S4096x16, .f32⟩ : BufTy).Contents (Elt F) → (⟨S4096x2, .i32⟩ : BufTy).Contents (Elt F)) ]

theorem keepB (V : Valuation τ sig (Elt F)) {r : Ref sig .tc} (hr : r ∉ ([main_values, main_indices] : List (Ref sig .tc))) :
    after (opsB (F := F)) V (Proc.devRef .tc r) = V (Proc.devRef .tc r) :=
  after_unwritten [main_values, main_indices] rfl hr V

theorem subB : (opsB : List (HloOp τ sig (Elt F))).Forall fun op => op.bufs ⊆ tcRefs τ sig :=
  ⟨unary_bufs_sub .., unary_bufs_sub ..⟩

theorem readB_values (V : Valuation τ sig (Elt F)) :
    after (opsB (F := F)) V (Proc.devRef .tc main_values) = (r_values (V (Proc.devRef .tc main_v13))) := by
  after_reads_simp
  rfl

theorem readB_indices (V : Valuation τ sig (Elt F)) :
    after (opsB (F := F)) V (Proc.devRef .tc main_indices) = (r_indices (V (Proc.devRef .tc main_v13))) := by
  after_reads_simp
  rfl

abbrev opsC : List (HloOp τ sig (Elt F)) :=
  [ nullary main_cst_2 (constant S_ .f32 0x00000000#32),
    binary main_v13 main_cst_2 main_v14 ((fun x v => Host.reduceAdd x v reducesTo_S4096x16_S16_d0 h_S_) : (⟨S4096x16, .f32⟩ : BufTy).Contents (Elt F) → (⟨S_, .f32⟩ : BufTy).Contents (Elt F) → (⟨S16, .f32⟩ : BufTy).Contents (Elt F)),
    nullary main_cst_3 (constant S_ .f32 0x00000000#32),
    unary main_cst_3 main_v15 (broadcastInDim S4096x16 ![] bcast_S_S4096x16 : (⟨S_, .f32⟩ : BufTy).Contents (Elt F) → (⟨S4096x16, .f32⟩ : BufTy).Contents (Elt F)),
    nullary main_v16 (iotaInDim S4096 32 0),
    unary main_v16 main_v17 (broadcastInDim S4096x1 ![0] bcast_S4096_S4096x1_0 : (⟨S4096, .i32⟩ : BufTy).Contents (Elt F) → (⟨S4096x1, .i32⟩ : BufTy).Contents (Elt F)),
    nullary main_c (constantI S_ 32 0#32),
    unary main_c main_v18 (broadcastInDim S4096x1 ![] bcast_S_S4096x1 : (⟨S_, .i32⟩ : BufTy).Contents (Elt F) → (⟨S4096x1, .i32⟩ : BufTy).Contents (Elt F)),
    binary main_v17 main_v18 main_v19 (cmpi .slt : (⟨S4096x1, .i32⟩ : BufTy).Contents (Elt F) → (⟨S4096x1, .i32⟩ : BufTy).Contents (Elt F) → (⟨S4096x1, .i1⟩ : BufTy).Contents (Elt F)),
    nullary main_c_4 (constantI S_ 32 4096#32),
    unary main_c_4 main_v20 (broadcastInDim S4096x1 ![] bcast_S_S4096x1 : (⟨S_, .i32⟩ : BufTy).Contents (Elt F) → (⟨S4096x1, .i32⟩ : BufTy).Contents (Elt F)),
    binary main_v17 main_v20 main_v21 (addi : (⟨S4096x1, .i32⟩ : BufTy).Contents (Elt F) → (⟨S4096x1, .i32⟩ : BufTy).Contents (Elt F) → (⟨S4096x1, .i32⟩ : BufTy).Contents (Elt F)),
    ternary main_v19 main_v21 main_v17 main_v22 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_5 (constantI S_ 32 0#32),
    unary main_c_5 main_v23 (broadcastInDim S4096x2 ![] bcast_S_S4096x2 : (⟨S_, .i32⟩ : BufTy).Contents (Elt F) → (⟨S4096x2, .i32⟩ : BufTy).Contents (Elt F)),
    binary main_indices main_v23 main_v24 (cmpi .slt : (⟨S4096x2, .i32⟩ : BufTy).Contents (Elt F) → (⟨S4096x2, .i32⟩ : BufTy).Contents (Elt F) → (⟨S4096x2, .i1⟩ : BufTy).Contents (Elt F)),
    nullary main_c_6 (constantI S_ 32 16#32),
    unary main_c_6 main_v25 (broadcastInDim S4096x2 ![] bcast_S_S4096x2 : (⟨S_, .i32⟩ : BufTy).Contents (Elt F) → (⟨S4096x2, .i32⟩ : BufTy).Contents (Elt F)),
    binary main_indices main_v25 main_v26 (addi : (⟨S4096x2, .i32⟩ : BufTy).Contents (Elt F) → (⟨S4096x2, .i32⟩ : BufTy).Contents (Elt F) → (⟨S4096x2, .i32⟩ : BufTy).Contents (Elt F)),
    ternary main_v24 main_v26 main_indices main_v27 (select : (⟨S4096x2, .i1⟩ : BufTy).Contents (Elt F) → (⟨S4096x2, .i32⟩ : BufTy).Contents (Elt F) → (⟨S4096x2, .i32⟩ : BufTy).Contents (Elt F) → (⟨S4096x2, .i32⟩ : BufTy).Contents (Elt F)),
    unary main_v22 main_v28 (broadcastInDim S4096x2 ![0, 1] bcast_S4096x1_S4096x2_0_1 : (⟨S4096x1, .i32⟩ : BufTy).Contents (Elt F) → (⟨S4096x2, .i32⟩ : BufTy).Contents (Elt F)),
    unary main_v28 main_v29 (broadcastInDim S4096x2x1 ![0, 1] bcast_S4096x2_S4096x2x1_0_1 : (⟨S4096x2, .i32⟩ : BufTy).Contents (Elt F) → (⟨S4096x2x1, .i32⟩ : BufTy).Contents (Elt F)),
    unary main_v27 main_v30 (broadcastInDim S4096x2x1 ![0, 1] bcast_S4096x2_S4096x2x1_0_1 : (⟨S4096x2, .i32⟩ : BufTy).Contents (Elt F) → (⟨S4096x2x1, .i32⟩ : BufTy).Contents (Elt F)),
    binary main_v29 main_v30 main_v31 ((fun a b => concatenate S4096x2x2 2 [⟨S4096x2x1, a⟩, ⟨S4096x2x1, b⟩] concatenates_S4096x2x1_S4096x2x1_S4096x2x2_d2) : (⟨S4096x2x1, .i32⟩ : BufTy).Contents (Elt F) → (⟨S4096x2x1, .i32⟩ : BufTy).Contents (Elt F) → (⟨S4096x2x2, .i32⟩ : BufTy).Contents (Elt F)),
    nullary main_cst_7 (constant S_ .f32 0x3F800000#32),
    unary main_cst_7 main_v32 (broadcastInDim S4096x2 ![] bcast_S_S4096x2 : (⟨S_, .f32⟩ : BufTy).Contents (Elt F) → (⟨S4096x2, .f32⟩ : BufTy).Contents (Elt F)),
    ternary main_v15 main_v31 main_v32 main_v33 ((fun x i u => Host.scatter scatter_S4096x16_S4096x2x2_S4096x2_n_01_01_2 (fun _ b => b) x i u) : (⟨S4096x16, .f32⟩ : BufTy).Contents (Elt F) → (⟨S4096x2x2, .i32⟩ : BufTy).Contents (Elt F) → (⟨S4096x2, .f32⟩ : BufTy).Contents (Elt F) → (⟨S4096x16, .f32⟩ : BufTy).Contents (Elt F)),
    nullary main_cst_8 (constant S_ .f32 0x00000000#32),
    binary main_v33 main_cst_8 main_v34 ((fun x v => Host.reduceAdd x v reducesTo_S4096x16_S16_d0 h_S_) : (⟨S4096x16, .f32⟩ : BufTy).Contents (Elt F) → (⟨S_, .f32⟩ : BufTy).Contents (Elt F) → (⟨S16, .f32⟩ : BufTy).Contents (Elt F)),
    binary main_v14 main_v34 main_v35 (mulf : (⟨S16, .f32⟩ : BufTy).Contents (Elt F) → (⟨S16, .f32⟩ : BufTy).Contents (Elt F) → (⟨S16, .f32⟩ : BufTy).Contents (Elt F)),
    nullary main_cst_9 (constant S_ .f32 0x00000000#32),
    binary main_v35 main_cst_9 main_v36 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_10 (constant S_ .f32 0x41800000#32),
    binary main_v36 main_cst_10 main_v37 (Host.divf : (⟨S_, .f32⟩ : BufTy).Contents (Elt F) → (⟨S_, .f32⟩ : BufTy).Contents (Elt F) → (⟨S_, .f32⟩ : BufTy).Contents (Elt F)),
    nullary main_cst_11 (constant S_ .f32 0x43800000#32),
    binary main_v37 main_cst_11 main_v38 (mulf : (⟨S_, .f32⟩ : BufTy).Contents (Elt F) → (⟨S_, .f32⟩ : BufTy).Contents (Elt F) → (⟨S_, .f32⟩ : BufTy).Contents (Elt F)),
    nullary main_cst_12 (constant S_ .f32 0x4B800000#32),
    binary main_v38 main_cst_12 main_v39 (Host.divf : (⟨S_, .f32⟩ : BufTy).Contents (Elt F) → (⟨S_, .f32⟩ : BufTy).Contents (Elt F) → (⟨S_, .f32⟩ : BufTy).Contents (Elt F)) ]

theorem keepC (V : Valuation τ sig (Elt F)) {r : Ref sig .tc} (hr : r ∉ ([main_cst_2, main_v14, main_cst_3, main_v15, main_v16, main_v17, main_c, main_v18, main_v19, main_c_4, main_v20, main_v21, main_v22, main_c_5, main_v23, main_v24, main_c_6, main_v25, main_v26, main_v27, main_v28, main_v29, main_v30, main_v31, main_cst_7, main_v32, main_v33, main_cst_8, main_v34, main_v35, main_cst_9, main_v36, main_cst_10, main_v37, main_cst_11, main_v38, main_cst_12, main_v39] : List (Ref sig .tc))) :
    after (opsC (F := F)) V (Proc.devRef .tc r) = V (Proc.devRef .tc r) :=
  after_unwritten [main_cst_2, main_v14, main_cst_3, main_v15, main_v16, main_v17, main_c, main_v18, main_v19, main_c_4, main_v20, main_v21, main_v22, main_c_5, main_v23, main_v24, main_c_6, main_v25, main_v26, main_v27, main_v28, main_v29, main_v30, main_v31, main_cst_7, main_v32, main_v33, main_cst_8, main_v34, main_v35, main_cst_9, main_v36, main_cst_10, main_v37, main_cst_11, main_v38, main_cst_12, main_v39] rfl hr V

theorem subC : (opsC : List (HloOp τ sig (Elt F))).Forall fun op => op.bufs ⊆ tcRefs τ sig :=
  ⟨nullary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., binary_bufs_sub .., binary_bufs_sub .., nullary_bufs_sub .., binary_bufs_sub .., nullary_bufs_sub .., binary_bufs_sub .., nullary_bufs_sub .., binary_bufs_sub .., nullary_bufs_sub .., binary_bufs_sub ..⟩

theorem readC_v39 (V : Valuation τ sig (Elt F)) :
    after (opsC (F := F)) V (Proc.devRef .tc main_v39) = (r_v39 (r_v14 (V (Proc.devRef .tc main_v13))) (r_v34 (r_v33 (r_v31 (V (Proc.devRef .tc main_indices)))))) := by
  after_reads_simp
  rfl

abbrev opsD : List (HloOp τ sig (Elt F)) :=
  [ reshape main_indices main_v40 (rfl : (.i32 : EltTy) = .i32) shapeCasts_S4096x2_S8192,
    reshape main_values main_v41 (rfl : (.f32 : EltTy) = .f32) shapeCasts_S4096x2_S8192,
    nullary main_v42 (iotaInDim S4096 32 0),
    unary main_v42 main_v43 (broadcastInDim S4096x2 ![0] bcast_S4096_S4096x2_0 : (⟨S4096, .i32⟩ : BufTy).Contents (Elt F) → (⟨S4096x2, .i32⟩ : BufTy).Contents (Elt F)),
    reshape main_v43 main_v44 (rfl : (.i32 : EltTy) = .i32) shapeCasts_S4096x2_S8192,
    nullary main_call0_v0 ((iotaInDim S8192 32 0) : (⟨S8192, .i32⟩ : BufTy).Contents (Elt F)),
    binary main_v40 main_call0_v0 main_call0_v1_0 ((fun x y => (Host.sort2 S8192 0 comparator_i32_i32_d0 x y).1) : (⟨S8192, .i32⟩ : BufTy).Contents (Elt F) → (⟨S8192, .i32⟩ : BufTy).Contents (Elt F) → (⟨S8192, .i32⟩ : BufTy).Contents (Elt F)),
    binary main_v40 main_call0_v0 main_v45 ((fun x y => (Host.sort2 S8192 0 comparator_i32_i32_d0 x y).2) : (⟨S8192, .i32⟩ : BufTy).Contents (Elt F) → (⟨S8192, .i32⟩ : BufTy).Contents (Elt F) → (⟨S8192, .i32⟩ : BufTy).Contents (Elt F)) ]

theorem keepD (V : Valuation τ sig (Elt F)) {r : Ref sig .tc} (hr : r ∉ ([main_v40, main_v41, main_v42, main_v43, main_v44, main_call0_v0, main_call0_v1_0, main_v45] : List (Ref sig .tc))) :
    after (opsD (F := F)) V (Proc.devRef .tc r) = V (Proc.devRef .tc r) :=
  after_unwritten [main_v40, main_v41, main_v42, main_v43, main_v44, main_call0_v0, main_call0_v1_0, main_v45] rfl hr V

theorem subD : (opsD : List (HloOp τ sig (Elt F))).Forall fun op => op.bufs ⊆ tcRefs τ sig :=
  ⟨reshape_bufs_sub .., reshape_bufs_sub .., nullary_bufs_sub .., unary_bufs_sub .., reshape_bufs_sub .., nullary_bufs_sub .., binary_bufs_sub .., binary_bufs_sub ..⟩

theorem readD_v40 (V : Valuation τ sig (Elt F)) :
    after (opsD (F := F)) V (Proc.devRef .tc main_v40) = (r_v40 (V (Proc.devRef .tc main_indices))) := by
  after_reads_simp
  rfl

theorem readD_v41 (V : Valuation τ sig (Elt F)) :
    after (opsD (F := F)) V (Proc.devRef .tc main_v41) = (r_v41 (V (Proc.devRef .tc main_values))) := by
  after_reads_simp
  rfl

theorem readD_v44 (V : Valuation τ sig (Elt F)) :
    after (opsD (F := F)) V (Proc.devRef .tc main_v44) = r_v44 := by
  after_reads_simp
  rfl

theorem readD_v45 (V : Valuation τ sig (Elt F)) :
    after (opsD (F := F)) V (Proc.devRef .tc main_v45) = (r_v45 (r_v40 (V (Proc.devRef .tc main_indices)))) := by
  after_reads_simp
  rfl

abbrev opsE : List (HloOp τ sig (Elt F)) :=
  [ nullary main_c_13 (constantI S_ 32 0#32),
    unary main_c_13 main_v46 (broadcastInDim S8192 ![] bcast_S_S8192 : (⟨S_, .i32⟩ : BufTy).Contents (Elt F) → (⟨S8192, .i32⟩ : BufTy).Contents (Elt F)),
    binary main_v45 main_v46 main_v47 (cmpi .slt : (⟨S8192, .i32⟩ : BufTy).Contents (Elt F) → (⟨S8192, .i32⟩ : BufTy).Contents (Elt F) → (⟨S8192, .i1⟩ : BufTy).Contents (Elt F)),
    nullary main_c_14 (constantI S_ 32 8192#32),
    unary main_c_14 main_v48 (broadcastInDim S8192 ![] bcast_S_S8192 : (⟨S_, .i32⟩ : BufTy).Contents (Elt F) → (⟨S8192, .i32⟩ : BufTy).Contents (Elt F)),
    binary main_v45 main_v48 main_v49 (addi : (⟨S8192, .i32⟩ : BufTy).Contents (Elt F) → (⟨S8192, .i32⟩ : BufTy).Contents (Elt F) → (⟨S8192, .i32⟩ : BufTy).Contents (Elt F)),
    ternary main_v47 main_v49 main_v45 main_v50 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v50 main_v51 (broadcastInDim S8192x1 ![0] bcast_S8192_S8192x1_0 : (⟨S8192, .i32⟩ : BufTy).Contents (Elt F) → (⟨S8192x1, .i32⟩ : BufTy).Contents (Elt F)),
    binary main_v40 main_v51 main_v52 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    nullary main_c_15 (constantI S_ 32 0#32),
    unary main_c_15 main_v53 (broadcastInDim S8192 ![] bcast_S_S8192 : (⟨S_, .i32⟩ : BufTy).Contents (Elt F) → (⟨S8192, .i32⟩ : BufTy).Contents (Elt F)),
    binary main_v45 main_v53 main_v54 (cmpi .slt : (⟨S8192, .i32⟩ : BufTy).Contents (Elt F) → (⟨S8192, .i32⟩ : BufTy).Contents (Elt F) → (⟨S8192, .i1⟩ : BufTy).Contents (Elt F)),
    nullary main_c_16 (constantI S_ 32 8192#32),
    unary main_c_16 main_v55 (broadcastInDim S8192 ![] bcast_S_S8192 : (⟨S_, .i32⟩ : BufTy).Contents (Elt F) → (⟨S8192, .i32⟩ : BufTy).Contents (Elt F)),
    binary main_v45 main_v55 main_v56 (addi : (⟨S8192, .i32⟩ : BufTy).Contents (Elt F) → (⟨S8192, .i32⟩ : BufTy).Contents (Elt F) → (⟨S8192, .i32⟩ : BufTy).Contents (Elt F)),
    ternary main_v54 main_v56 main_v45 main_v57 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v57 main_v58 (broadcastInDim S8192x1 ![0] bcast_S8192_S8192x1_0 : (⟨S8192, .i32⟩ : BufTy).Contents (Elt F) → (⟨S8192x1, .i32⟩ : BufTy).Contents (Elt F)),
    binary main_v44 main_v58 main_v59 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    nullary main_c_17 (constantI S_ 32 0#32),
    unary main_c_17 main_v60 (broadcastInDim S8192 ![] bcast_S_S8192 : (⟨S_, .i32⟩ : BufTy).Contents (Elt F) → (⟨S8192, .i32⟩ : BufTy).Contents (Elt F)),
    binary main_v45 main_v60 main_v61 (cmpi .slt : (⟨S8192, .i32⟩ : BufTy).Contents (Elt F) → (⟨S8192, .i32⟩ : BufTy).Contents (Elt F) → (⟨S8192, .i1⟩ : BufTy).Contents (Elt F)),
    nullary main_c_18 (constantI S_ 32 8192#32),
    unary main_c_18 main_v62 (broadcastInDim S8192 ![] bcast_S_S8192 : (⟨S_, .i32⟩ : BufTy).Contents (Elt F) → (⟨S8192, .i32⟩ : BufTy).Contents (Elt F)),
    binary main_v45 main_v62 main_v63 (addi : (⟨S8192, .i32⟩ : BufTy).Contents (Elt F) → (⟨S8192, .i32⟩ : BufTy).Contents (Elt F) → (⟨S8192, .i32⟩ : BufTy).Contents (Elt F)),
    ternary main_v61 main_v63 main_v45 main_v64 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v64 main_v65 (broadcastInDim S8192x1 ![0] bcast_S8192_S8192x1_0 : (⟨S8192, .i32⟩ : BufTy).Contents (Elt F) → (⟨S8192x1, .i32⟩ : BufTy).Contents (Elt F)),
    binary main_v41 main_v65 main_v66 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)) ]

theorem keepE (V : Valuation τ sig (Elt F)) {r : Ref sig .tc} (hr : r ∉ ([main_c_13, main_v46, main_v47, main_c_14, main_v48, main_v49, main_v50, main_v51, main_v52, main_c_15, main_v53, main_v54, main_c_16, main_v55, main_v56, main_v57, main_v58, main_v59, main_c_17, main_v60, main_v61, main_c_18, main_v62, main_v63, main_v64, main_v65, main_v66] : List (Ref sig .tc))) :
    after (opsE (F := F)) V (Proc.devRef .tc r) = V (Proc.devRef .tc r) :=
  after_unwritten [main_c_13, main_v46, main_v47, main_c_14, main_v48, main_v49, main_v50, main_v51, main_v52, main_c_15, main_v53, main_v54, main_c_16, main_v55, main_v56, main_v57, main_v58, main_v59, main_c_17, main_v60, main_v61, main_c_18, main_v62, main_v63, main_v64, main_v65, main_v66] rfl hr V

theorem subE : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem readE_v52 (V : Valuation τ sig (Elt F)) :
    after (opsE (F := F)) V (Proc.devRef .tc main_v52) = (r_v52 (V (Proc.devRef .tc main_v40)) (r_v51 (V (Proc.devRef .tc main_v45)))) := by
  after_reads_simp
  rfl

theorem readE_v59 (V : Valuation τ sig (Elt F)) :
    after (opsE (F := F)) V (Proc.devRef .tc main_v59) = (r_v59 (V (Proc.devRef .tc main_v44)) (V (Proc.devRef .tc main_v45))) := by
  after_reads_simp
  rfl

theorem readE_v66 (V : Valuation τ sig (Elt F)) :
    after (opsE (F := F)) V (Proc.devRef .tc main_v66) = (r_v66 (V (Proc.devRef .tc main_v41)) (V (Proc.devRef .tc main_v45))) := by
  after_reads_simp
  rfl

abbrev opsF : List (HloOp τ sig (Elt F)) :=
  [ unary main_v52 main_call1_v0 ((broadcastInDim S8192x1 ![0] bcast_S8192_S8192x1_0) : (⟨S8192, .i32⟩ : BufTy).Contents (Elt F) → (⟨S8192x1, .i32⟩ : BufTy).Contents (Elt F)),
    nullary main_call1_v1 ((iotaInDim S1x16 32 1) : (⟨S1x16, .i32⟩ : BufTy).Contents (Elt F)),
    unary main_call1_v0 main_call1_v2 ((broadcastInDim S8192x16 ![0, 1] bcast_S8192x1_S8192x16_0_1) : (⟨S8192x1, .i32⟩ : BufTy).Contents (Elt F) → (⟨S8192x16, .i32⟩ : BufTy).Contents (Elt F)),
    unary main_call1_v1 main_call1_v3 ((broadcastInDim S8192x16 ![0, 1] bcast_S1x16_S8192x16_0_1) : (⟨S1x16, .i32⟩ : BufTy).Contents (Elt F) → (⟨S8192x16, .i32⟩ : BufTy).Contents (Elt F)),
    binary main_call1_v2 main_call1_v3 main_call1_v4 ((cmpi .eq) : (⟨S8192x16, .i32⟩ : BufTy).Contents (Elt F) → (⟨S8192x16, .i32⟩ : BufTy).Contents (Elt F) → (⟨S8192x16, .i1⟩ : BufTy).Contents (Elt F)),
    unary main_call1_v4 main_v67 ((uitofp .f32) : (⟨S8192x16, .i1⟩ : BufTy).Contents (Elt F) → (⟨S8192x16, .f32⟩ : BufTy).Contents (Elt F)),
    nullary main_call2_call0_cst ((constant S_ .f32 0x00000000#32) : (⟨S_, .f32⟩ : BufTy).Contents (Elt F)),
    unary main_call2_call0_cst main_call2_call0_v0 ((broadcastInDim S_ ![] bcast_S_S_) : (⟨S_, .f32⟩ : BufTy).Contents (Elt F) → (⟨S_, .f32⟩ : BufTy).Contents (Elt F)),
    binary main_v67 main_call2_call0_v0 main_v68 ((fun x v => Host.reduceWindowAdd ![8192, 1] ![1, 1] ![8191, 0] ![0, 0] x v reduceWindows_S8192x16_S8192x16_w8192s1p8191_0_w1s1p0_0 h_S_) : (⟨S8192x16, .f32⟩ : BufTy).Contents (Elt F) → (⟨S_, .f32⟩ : BufTy).Contents (Elt F) → (⟨S8192x16, .f32⟩ : BufTy).Contents (Elt F)),
    nullary main_call3_v0 ((iotaInDim S8192x16 32 1) : (⟨S8192x16, .i32⟩ : BufTy).Contents (Elt F)),
    nullary main_call3_cst ((constant S_ .f32 0xFF800000#32) : (⟨S_, .f32⟩ : BufTy).Contents (Elt F)),
    nullary main_call3_c ((constantI S_ 32 0#32) : (⟨S_, .i32⟩ : BufTy).Contents (Elt F)),
    quaternary main_v68 main_call3_v0 main_call3_cst main_call3_c main_call3_v1_0 ((fun x y u v j => (Host.argReduce reducer_argmax_f32_i32 x y u v reducesTo_S8192x16_S8192_d1 h_S_ j).1) : (⟨S8192x16, .f32⟩ : BufTy).Contents (Elt F) → (⟨S8192x16, .i32⟩ : BufTy).Contents (Elt F) → (⟨S_, .f32⟩ : BufTy).Contents (Elt F) → (⟨S_, .i32⟩ : BufTy).Contents (Elt F) → (⟨S8192, .f32⟩ : BufTy).Contents (Elt F)),
    quaternary main_v68 main_call3_v0 main_call3_cst main_call3_c main_v69 ((fun x y u v j => (Host.argReduce reducer_argmax_f32_i32 x y u v reducesTo_S8192x16_S8192_d1 h_S_ j).2) : (⟨S8192x16, .f32⟩ : BufTy).Contents (Elt F) → (⟨S8192x16, .i32⟩ : BufTy).Contents (Elt F) → (⟨S_, .f32⟩ : BufTy).Contents (Elt F) → (⟨S_, .i32⟩ : BufTy).Contents (Elt F) → (⟨S8192, .i32⟩ : BufTy).Contents (Elt F)),
    nullary main_c_19 (constantI S_ 32 1#32),
    unary main_c_19 main_v70 (broadcastInDim S8192 ![] bcast_S_S8192 : (⟨S_, .i32⟩ : BufTy).Contents (Elt F) → (⟨S8192, .i32⟩ : BufTy).Contents (Elt F)),
    binary main_v69 main_v70 main_v71 (subi : (⟨S8192, .i32⟩ : BufTy).Contents (Elt F) → (⟨S8192, .i32⟩ : BufTy).Contents (Elt F) → (⟨S8192, .i32⟩ : BufTy).Contents (Elt F)),
    nullary main_c_20 (constantI S_ 32 319#32),
    unary main_c_20 main_v72 (broadcastInDim S8192 ![] bcast_S_S8192 : (⟨S_, .i32⟩ : BufTy).Contents (Elt F) → (⟨S8192, .i32⟩ : BufTy).Contents (Elt F)),
    binary main_v71 main_v72 main_v73 (minsi : (⟨S8192, .i32⟩ : BufTy).Contents (Elt F) → (⟨S8192, .i32⟩ : BufTy).Contents (Elt F) → (⟨S8192, .i32⟩ : BufTy).Contents (Elt F)) ]

theorem keepF (V : Valuation τ sig (Elt F)) {r : Ref sig .tc} (hr : r ∉ ([main_call1_v0, main_call1_v1, main_call1_v2, main_call1_v3, main_call1_v4, main_v67, main_call2_call0_cst, main_call2_call0_v0, main_v68, main_call3_v0, main_call3_cst, main_call3_c, main_call3_v1_0, main_v69, main_c_19, main_v70, main_v71, main_c_20, main_v72, main_v73] : List (Ref sig .tc))) :
    after (opsF (F := F)) V (Proc.devRef .tc r) = V (Proc.devRef .tc r) :=
  after_unwritten [main_call1_v0, main_call1_v1, main_call1_v2, main_call1_v3, main_call1_v4, main_v67, main_call2_call0_cst, main_call2_call0_v0, main_v68, main_call3_v0, main_call3_cst, main_call3_c, main_call3_v1_0, main_v69, main_c_19, main_v70, main_v71, main_c_20, main_v72, main_v73] rfl hr V

theorem subF : (opsF : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub ..⟩

theorem readF_v73 (V : Valuation τ sig (Elt F)) :
    after (opsF (F := F)) V (Proc.devRef .tc main_v73) = (r_v73 (r_v69 (r_v68 (r_v67 (V (Proc.devRef .tc main_v52)))))) := by
  after_reads_simp
  rfl

abbrev opsG : List (HloOp τ sig (Elt F)) :=
  [ nullary main_cst_21 (constant S_ .f32 0x00000000#32),
    unary main_cst_21 main_v74 (broadcastInDim S16x320x1024 ![] bcast_S_S16x320x1024 : (⟨S_, .f32⟩ : BufTy).Contents (Elt F) → (⟨S16x320x1024, .f32⟩ : BufTy).Contents (Elt F)),
    nullary main_c_22 (constantI S_ 32 0#32),
    unary main_c_22 main_v75 (broadcastInDim S8192 ![] bcast_S_S8192 : (⟨S_, .i32⟩ : BufTy).Contents (Elt F) → (⟨S8192, .i32⟩ : BufTy).Contents (Elt F)),
    binary main_v59 main_v75 main_v76 (cmpi .slt : (⟨S8192, .i32⟩ : BufTy).Contents (Elt F) → (⟨S8192, .i32⟩ : BufTy).Contents (Elt F) → (⟨S8192, .i1⟩ : BufTy).Contents (Elt F)),
    nullary main_c_23 (constantI S_ 32 4096#32),
    unary main_c_23 main_v77 (broadcastInDim S8192 ![] bcast_S_S8192 : (⟨S_, .i32⟩ : BufTy).Contents (Elt F) → (⟨S8192, .i32⟩ : BufTy).Contents (Elt F)),
    binary main_v59 main_v77 main_v78 (addi : (⟨S8192, .i32⟩ : BufTy).Contents (Elt F) → (⟨S8192, .i32⟩ : BufTy).Contents (Elt F) → (⟨S8192, .i32⟩ : BufTy).Contents (Elt F)),
    ternary main_v76 main_v78 main_v59 main_v79 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v79 main_v80 (broadcastInDim S8192x1 ![0] bcast_S8192_S8192x1_0 : (⟨S8192, .i32⟩ : BufTy).Contents (Elt F) → (⟨S8192x1, .i32⟩ : BufTy).Contents (Elt F)),
    binary main_v0 main_v80 main_v81 ((fun x i => Host.gather gather_S4096x1024_S8192x1_S8192x1024_1_0_n_n_0_1_11024 x i) : (⟨S4096x1024, .f32⟩ : BufTy).Contents (Elt F) → (⟨S8192x1, .i32⟩ : BufTy).Contents (Elt F) → (⟨S8192x1024, .f32⟩ : BufTy).Contents (Elt F)),
    nullary main_c_24 (constantI S_ 32 0#32),
    unary main_c_24 main_v82 (broadcastInDim S8192 ![] bcast_S_S8192 : (⟨S_, .i32⟩ : BufTy).Contents (Elt F) → (⟨S8192, .i32⟩ : BufTy).Contents (Elt F)),
    binary main_v52 main_v82 main_v83 (cmpi .slt : (⟨S8192, .i32⟩ : BufTy).Contents (Elt F) → (⟨S8192, .i32⟩ : BufTy).Contents (Elt F) → (⟨S8192, .i1⟩ : BufTy).Contents (Elt F)),
    nullary main_c_25 (constantI S_ 32 16#32),
    unary main_c_25 main_v84 (broadcastInDim S8192 ![] bcast_S_S8192 : (⟨S_, .i32⟩ : BufTy).Contents (Elt F) → (⟨S8192, .i32⟩ : BufTy).Contents (Elt F)),
    binary main_v52 main_v84 main_v85 (addi : (⟨S8192, .i32⟩ : BufTy).Contents (Elt F) → (⟨S8192, .i32⟩ : BufTy).Contents (Elt F) → (⟨S8192, .i32⟩ : BufTy).Contents (Elt F)),
    ternary main_v83 main_v85 main_v52 main_v86 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_26 (constantI S_ 32 0#32),
    unary main_c_26 main_v87 (broadcastInDim S8192 ![] bcast_S_S8192 : (⟨S_, .i32⟩ : BufTy).Contents (Elt F) → (⟨S8192, .i32⟩ : BufTy).Contents (Elt F)),
    binary main_v73 main_v87 main_v88 (cmpi .slt : (⟨S8192, .i32⟩ : BufTy).Contents (Elt F) → (⟨S8192, .i32⟩ : BufTy).Contents (Elt F) → (⟨S8192, .i1⟩ : BufTy).Contents (Elt F)),
    nullary main_c_27 (constantI S_ 32 320#32),
    unary main_c_27 main_v89 (broadcastInDim S8192 ![] bcast_S_S8192 : (⟨S_, .i32⟩ : BufTy).Contents (Elt F) → (⟨S8192, .i32⟩ : BufTy).Contents (Elt F)),
    binary main_v73 main_v89 main_v90 (addi : (⟨S8192, .i32⟩ : BufTy).Contents (Elt F) → (⟨S8192, .i32⟩ : BufTy).Contents (Elt F) → (⟨S8192, .i32⟩ : BufTy).Contents (Elt F)),
    ternary main_v88 main_v90 main_v73 main_v91 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v86 main_v92 (broadcastInDim S8192x1 ![0] bcast_S8192_S8192x1_0 : (⟨S8192, .i32⟩ : BufTy).Contents (Elt F) → (⟨S8192x1, .i32⟩ : BufTy).Contents (Elt F)),
    unary main_v91 main_v93 (broadcastInDim S8192x1 ![0] bcast_S8192_S8192x1_0 : (⟨S8192, .i32⟩ : BufTy).Contents (Elt F) → (⟨S8192x1, .i32⟩ : BufTy).Contents (Elt F)),
    binary main_v92 main_v93 main_v94 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    ternary main_v74 main_v94 main_v81 main_v95 ((fun x i u => Host.scatter scatter_S16x320x1024_S8192x2_S8192x1024_1_01_01_1 (fun _ b => b) x i u) : (⟨S16x320x1024, .f32⟩ : BufTy).Contents (Elt F) → (⟨S8192x2, .i32⟩ : BufTy).Contents (Elt F) → (⟨S8192x1024, .f32⟩ : BufTy).Contents (Elt F) → (⟨S16x320x1024, .f32⟩ : BufTy).Contents (Elt F)) ]

theorem keepG (V : Valuation τ sig (Elt F)) {r : Ref sig .tc} (hr : r ∉ ([main_cst_21, main_v74, main_c_22, main_v75, main_v76, main_c_23, main_v77, main_v78, main_v79, main_v80, main_v81, main_c_24, main_v82, main_v83, main_c_25, main_v84, main_v85, main_v86, main_c_26, main_v87, main_v88, main_c_27, main_v89, main_v90, main_v91, main_v92, main_v93, main_v94, main_v95] : List (Ref sig .tc))) :
    after (opsG (F := F)) V (Proc.devRef .tc r) = V (Proc.devRef .tc r) :=
  after_unwritten [main_cst_21, main_v74, main_c_22, main_v75, main_v76, main_c_23, main_v77, main_v78, main_v79, main_v80, main_v81, main_c_24, main_v82, main_v83, main_c_25, main_v84, main_v85, main_v86, main_c_26, main_v87, main_v88, main_c_27, main_v89, main_v90, main_v91, main_v92, main_v93, main_v94, main_v95] rfl hr V

theorem subG : (opsG : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

theorem readG_v95 (V : Valuation τ sig (Elt F)) :
    after (opsG (F := F)) V (Proc.devRef .tc main_v95) = (r_v95 (r_v94 (V (Proc.devRef .tc main_v52)) (V (Proc.devRef .tc main_v73))) (r_v81 (V (Proc.devRef .tc main_v0)) (r_v80 (V (Proc.devRef .tc main_v59))))) := by
  after_reads_simp
  rfl

abbrev opsH : List (HloOp τ sig (Elt F)) :=
  [ binary main_v95 main_arg2 main_v96 ((fun l r => Host.dotGeneral dot_S16x320x1024_S16x4096x1024_S16x320x4096_2_2_1_1_0_0 none l r) : (⟨S16x320x1024, .f32⟩ : BufTy).Contents (Elt F) → (⟨S16x4096x1024, .f32⟩ : BufTy).Contents (Elt F) → (⟨S16x320x4096, .f32⟩ : BufTy).Contents (Elt F)),
    unary main_arg3 main_v97 (broadcastInDim S16x1x4096 ![0, 2] bcast_S16x4096_S16x1x4096_0_2 : (⟨S16x4096, .f32⟩ : BufTy).Contents (Elt F) → (⟨S16x1x4096, .f32⟩ : BufTy).Contents (Elt F)),
    unary main_v97 main_v98 (broadcastInDim S16x320x4096 ![0, 1, 2] bcast_S16x1x4096_S16x320x4096_0_1_2 : (⟨S16x1x4096, .f32⟩ : BufTy).Contents (Elt F) → (⟨S16x320x4096, .f32⟩ : BufTy).Contents (Elt F)),
    binary main_v96 main_v98 main_v99 (addf : (⟨S16x320x4096, .f32⟩ : BufTy).Contents (Elt F) → (⟨S16x320x4096, .f32⟩ : BufTy).Contents (Elt F) → (⟨S16x320x4096, .f32⟩ : BufTy).Contents (Elt F)),
    nullary main_cst_28 (constant S_ .f32 0x3F000000#32),
    unary main_cst_28 main_v100 (broadcastInDim S16x320x4096 ![] bcast_S_S16x320x4096 : (⟨S_, .f32⟩ : BufTy).Contents (Elt F) → (⟨S16x320x4096, .f32⟩ : BufTy).Contents (Elt F)),
    binary main_v100 main_v99 main_v101 (mulf : (⟨S16x320x4096, .f32⟩ : BufTy).Contents (Elt F) → (⟨S16x320x4096, .f32⟩ : BufTy).Contents (Elt F) → (⟨S16x320x4096, .f32⟩ : BufTy).Contents (Elt F)),
    unary main_v99 main_v102 (Host.negf : (⟨S16x320x4096, .f32⟩ : BufTy).Contents (Elt F) → (⟨S16x320x4096, .f32⟩ : BufTy).Contents (Elt F)),
    nullary main_cst_29 (constant S_ .f32 0x3F3504F3#32),
    unary main_cst_29 main_v103 (broadcastInDim S16x320x4096 ![] bcast_S_S16x320x4096 : (⟨S_, .f32⟩ : BufTy).Contents (Elt F) → (⟨S16x320x4096, .f32⟩ : BufTy).Contents (Elt F)),
    binary main_v102 main_v103 main_v104 (mulf : (⟨S16x320x4096, .f32⟩ : BufTy).Contents (Elt F) → (⟨S16x320x4096, .f32⟩ : BufTy).Contents (Elt F) → (⟨S16x320x4096, .f32⟩ : BufTy).Contents (Elt F)),
    unary main_v104 main_v105 (Host.erfc : (⟨S16x320x4096, .f32⟩ : BufTy).Contents (Elt F) → (⟨S16x320x4096, .f32⟩ : BufTy).Contents (Elt F)),
    binary main_v101 main_v105 main_v106 (mulf : (⟨S16x320x4096, .f32⟩ : BufTy).Contents (Elt F) → (⟨S16x320x4096, .f32⟩ : BufTy).Contents (Elt F) → (⟨S16x320x4096, .f32⟩ : BufTy).Contents (Elt F)),
    binary main_v106 main_arg4 main_v107 ((fun l r => Host.dotGeneral dot_S16x320x4096_S16x1024x4096_S16x320x1024_2_2_1_1_0_0 none l r) : (⟨S16x320x4096, .f32⟩ : BufTy).Contents (Elt F) → (⟨S16x1024x4096, .f32⟩ : BufTy).Contents (Elt F) → (⟨S16x320x1024, .f32⟩ : BufTy).Contents (Elt F)),
    unary main_arg5 main_v108 (broadcastInDim S16x1x1024 ![0, 2] bcast_S16x1024_S16x1x1024_0_2 : (⟨S16x1024, .f32⟩ : BufTy).Contents (Elt F) → (⟨S16x1x1024, .f32⟩ : BufTy).Contents (Elt F)),
    unary main_v108 main_v109 (broadcastInDim S16x320x1024 ![0, 1, 2] bcast_S16x1x1024_S16x320x1024_0_1_2 : (⟨S16x1x1024, .f32⟩ : BufTy).Contents (Elt F) → (⟨S16x320x1024, .f32⟩ : BufTy).Contents (Elt F)),
    binary main_v107 main_v109 main_v110 (addf : (⟨S16x320x1024, .f32⟩ : BufTy).Contents (Elt F) → (⟨S16x320x1024, .f32⟩ : BufTy).Contents (Elt F) → (⟨S16x320x1024, .f32⟩ : BufTy).Contents (Elt F)) ]

theorem keepH (V : Valuation τ sig (Elt F)) {r : Ref sig .tc} (hr : r ∉ ([main_v96, main_v97, main_v98, main_v99, main_cst_28, main_v100, main_v101, main_v102, main_cst_29, main_v103, main_v104, main_v105, main_v106, main_v107, main_v108, main_v109, main_v110] : List (Ref sig .tc))) :
    after (opsH (F := F)) V (Proc.devRef .tc r) = V (Proc.devRef .tc r) :=
  after_unwritten [main_v96, main_v97, main_v98, main_v99, main_cst_28, main_v100, main_v101, main_v102, main_cst_29, main_v103, main_v104, main_v105, main_v106, main_v107, main_v108, main_v109, main_v110] rfl hr V

theorem subH : (opsH : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub ..⟩

theorem readH_v110 (V : Valuation τ sig (Elt F)) :
    after (opsH (F := F)) V (Proc.devRef .tc main_v110) = (r_v110 (r_v106 (r_v99 (V (Proc.devRef .tc main_v95)) (V (Proc.devRef .tc main_arg2)) (V (Proc.devRef .tc main_arg3)))) (V (Proc.devRef .tc main_arg4)) (V (Proc.devRef .tc main_arg5))) := by
  after_reads_simp
  rfl

abbrev opsI : List (HloOp τ sig (Elt F)) :=
  [ nullary main_c_30 (constantI S_ 32 0#32),
    unary main_c_30 main_v111 (broadcastInDim S8192 ![] bcast_S_S8192 : (⟨S_, .i32⟩ : BufTy).Contents (Elt F) → (⟨S8192, .i32⟩ : BufTy).Contents (Elt F)),
    binary main_v52 main_v111 main_v112 (cmpi .slt : (⟨S8192, .i32⟩ : BufTy).Contents (Elt F) → (⟨S8192, .i32⟩ : BufTy).Contents (Elt F) → (⟨S8192, .i1⟩ : BufTy).Contents (Elt F)),
    nullary main_c_31 (constantI S_ 32 16#32),
    unary main_c_31 main_v113 (broadcastInDim S8192 ![] bcast_S_S8192 : (⟨S_, .i32⟩ : BufTy).Contents (Elt F) → (⟨S8192, .i32⟩ : BufTy).Contents (Elt F)),
    binary main_v52 main_v113 main_v114 (addi : (⟨S8192, .i32⟩ : BufTy).Contents (Elt F) → (⟨S8192, .i32⟩ : BufTy).Contents (Elt F) → (⟨S8192, .i32⟩ : BufTy).Contents (Elt F)),
    ternary main_v112 main_v114 main_v52 main_v115 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_32 (constantI S_ 32 0#32),
    unary main_c_32 main_v116 (broadcastInDim S8192 ![] bcast_S_S8192 : (⟨S_, .i32⟩ : BufTy).Contents (Elt F) → (⟨S8192, .i32⟩ : BufTy).Contents (Elt F)),
    binary main_v73 main_v116 main_v117 (cmpi .slt : (⟨S8192, .i32⟩ : BufTy).Contents (Elt F) → (⟨S8192, .i32⟩ : BufTy).Contents (Elt F) → (⟨S8192, .i1⟩ : BufTy).Contents (Elt F)),
    nullary main_c_33 (constantI S_ 32 320#32),
    unary main_c_33 main_v118 (broadcastInDim S8192 ![] bcast_S_S8192 : (⟨S_, .i32⟩ : BufTy).Contents (Elt F) → (⟨S8192, .i32⟩ : BufTy).Contents (Elt F)),
    binary main_v73 main_v118 main_v119 (addi : (⟨S8192, .i32⟩ : BufTy).Contents (Elt F) → (⟨S8192, .i32⟩ : BufTy).Contents (Elt F) → (⟨S8192, .i32⟩ : BufTy).Contents (Elt F)),
    ternary main_v117 main_v119 main_v73 main_v120 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v115 main_v121 (broadcastInDim S8192x1 ![0] bcast_S8192_S8192x1_0 : (⟨S8192, .i32⟩ : BufTy).Contents (Elt F) → (⟨S8192x1, .i32⟩ : BufTy).Contents (Elt F)),
    unary main_v120 main_v122 (broadcastInDim S8192x1 ![0] bcast_S8192_S8192x1_0 : (⟨S8192, .i32⟩ : BufTy).Contents (Elt F) → (⟨S8192x1, .i32⟩ : BufTy).Contents (Elt F)),
    binary main_v121 main_v122 main_v123 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v110 main_v123 main_v124 ((fun x i => Host.gather gather_S16x320x1024_S8192x2_S8192x1024_1_01_n_n_01_1_111024 x i) : (⟨S16x320x1024, .f32⟩ : BufTy).Contents (Elt F) → (⟨S8192x2, .i32⟩ : BufTy).Contents (Elt F) → (⟨S8192x1024, .f32⟩ : BufTy).Contents (Elt F)) ]

theorem keepI (V : Valuation τ sig (Elt F)) {r : Ref sig .tc} (hr : r ∉ ([main_c_30, main_v111, main_v112, main_c_31, main_v113, main_v114, main_v115, main_c_32, main_v116, main_v117, main_c_33, main_v118, main_v119, main_v120, main_v121, main_v122, main_v123, main_v124] : List (Ref sig .tc))) :
    after (opsI (F := F)) V (Proc.devRef .tc r) = V (Proc.devRef .tc r) :=
  after_unwritten [main_c_30, main_v111, main_v112, main_c_31, main_v113, main_v114, main_v115, main_c_32, main_v116, main_v117, main_c_33, main_v118, main_v119, main_v120, main_v121, main_v122, main_v123, main_v124] rfl hr V

theorem subI : (opsI : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

theorem readI_v124 (V : Valuation τ sig (Elt F)) :
    after (opsI (F := F)) V (Proc.devRef .tc main_v124) = (r_v124 (V (Proc.devRef .tc main_v110)) (r_v123 (V (Proc.devRef .tc main_v52)) (V (Proc.devRef .tc main_v73)))) := by
  after_reads_simp
  rfl

abbrev opsJ : List (HloOp τ sig (Elt F)) :=
  [ nullary main_cst_34 (constant S_ .f32 0x00000000#32),
    unary main_cst_34 main_v125 (broadcastInDim S4096x1024 ![] bcast_S_S4096x1024 : (⟨S_, .f32⟩ : BufTy).Contents (Elt F) → (⟨S4096x1024, .f32⟩ : BufTy).Contents (Elt F)),
    unary main_v66 main_v126 (broadcastInDim S8192x1 ![0] bcast_S8192_S8192x1_0 : (⟨S8192, .f32⟩ : BufTy).Contents (Elt F) → (⟨S8192x1, .f32⟩ : BufTy).Contents (Elt F)),
    unary main_v126 main_v127 (broadcastInDim S8192x1024 ![0, 1] bcast_S8192x1_S8192x1024_0_1 : (⟨S8192x1, .f32⟩ : BufTy).Contents (Elt F) → (⟨S8192x1024, .f32⟩ : BufTy).Contents (Elt F)),
    binary main_v124 main_v127 main_v128 (mulf : (⟨S8192x1024, .f32⟩ : BufTy).Contents (Elt F) → (⟨S8192x1024, .f32⟩ : BufTy).Contents (Elt F) → (⟨S8192x1024, .f32⟩ : BufTy).Contents (Elt F)),
    nullary main_c_35 (constantI S_ 32 0#32),
    unary main_c_35 main_v129 (broadcastInDim S8192 ![] bcast_S_S8192 : (⟨S_, .i32⟩ : BufTy).Contents (Elt F) → (⟨S8192, .i32⟩ : BufTy).Contents (Elt F)),
    binary main_v59 main_v129 main_v130 (cmpi .slt : (⟨S8192, .i32⟩ : BufTy).Contents (Elt F) → (⟨S8192, .i32⟩ : BufTy).Contents (Elt F) → (⟨S8192, .i1⟩ : BufTy).Contents (Elt F)),
    nullary main_c_36 (constantI S_ 32 4096#32),
    unary main_c_36 main_v131 (broadcastInDim S8192 ![] bcast_S_S8192 : (⟨S_, .i32⟩ : BufTy).Contents (Elt F) → (⟨S8192, .i32⟩ : BufTy).Contents (Elt F)),
    binary main_v59 main_v131 main_v132 (addi : (⟨S8192, .i32⟩ : BufTy).Contents (Elt F) → (⟨S8192, .i32⟩ : BufTy).Contents (Elt F) → (⟨S8192, .i32⟩ : BufTy).Contents (Elt F)),
    ternary main_v130 main_v132 main_v59 main_v133 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v133 main_v134 (broadcastInDim S8192x1 ![0] bcast_S8192_S8192x1_0 : (⟨S8192, .i32⟩ : BufTy).Contents (Elt F) → (⟨S8192x1, .i32⟩ : BufTy).Contents (Elt F)),
    ternary main_v125 main_v134 main_v128 main_v135 ((fun x i u => Host.scatterAdd scatter_S4096x1024_S8192x1_S8192x1024_1_0_0_1 x i u) : (⟨S4096x1024, .f32⟩ : BufTy).Contents (Elt F) → (⟨S8192x1, .i32⟩ : BufTy).Contents (Elt F) → (⟨S8192x1024, .f32⟩ : BufTy).Contents (Elt F) → (⟨S4096x1024, .f32⟩ : BufTy).Contents (Elt F)),
    nullary main_cst_37 (constant S_ .f32 0x00000000#32),
    unary main_cst_37 main_v136 (broadcastInDim S4096 ![] bcast_S_S4096 : (⟨S_, .f32⟩ : BufTy).Contents (Elt F) → (⟨S4096, .f32⟩ : BufTy).Contents (Elt F)),
    nullary main_c_38 (constantI S_ 32 0#32),
    unary main_c_38 main_v137 (broadcastInDim S8192 ![] bcast_S_S8192 : (⟨S_, .i32⟩ : BufTy).Contents (Elt F) → (⟨S8192, .i32⟩ : BufTy).Contents (Elt F)),
    binary main_v59 main_v137 main_v138 (cmpi .slt : (⟨S8192, .i32⟩ : BufTy).Contents (Elt F) → (⟨S8192, .i32⟩ : BufTy).Contents (Elt F) → (⟨S8192, .i1⟩ : BufTy).Contents (Elt F)),
    nullary main_c_39 (constantI S_ 32 4096#32),
    unary main_c_39 main_v139 (broadcastInDim S8192 ![] bcast_S_S8192 : (⟨S_, .i32⟩ : BufTy).Contents (Elt F) → (⟨S8192, .i32⟩ : BufTy).Contents (Elt F)),
    binary main_v59 main_v139 main_v140 (addi : (⟨S8192, .i32⟩ : BufTy).Contents (Elt F) → (⟨S8192, .i32⟩ : BufTy).Contents (Elt F) → (⟨S8192, .i32⟩ : BufTy).Contents (Elt F)),
    ternary main_v138 main_v140 main_v59 main_v141 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v141 main_v142 (broadcastInDim S8192x1 ![0] bcast_S8192_S8192x1_0 : (⟨S8192, .i32⟩ : BufTy).Contents (Elt F) → (⟨S8192x1, .i32⟩ : BufTy).Contents (Elt F)),
    ternary main_v136 main_v142 main_v66 main_v143 ((fun x i u => Host.scatterAdd scatter_S4096_S8192x1_S8192_n_0_0_1 x i u) : (⟨S4096, .f32⟩ : BufTy).Contents (Elt F) → (⟨S8192x1, .i32⟩ : BufTy).Contents (Elt F) → (⟨S8192, .f32⟩ : BufTy).Contents (Elt F) → (⟨S4096, .f32⟩ : BufTy).Contents (Elt F)),
    nullary main_cst_40 (constant S_ .f32 0x00000000#32),
    unary main_cst_40 main_v144 (broadcastInDim S4096 ![] bcast_S_S4096 : (⟨S_, .f32⟩ : BufTy).Contents (Elt F) → (⟨S4096, .f32⟩ : BufTy).Contents (Elt F)),
    binary main_v143 main_v144 main_v145 (cmpf .ogt : (⟨S4096, .f32⟩ : BufTy).Contents (Elt F) → (⟨S4096, .f32⟩ : BufTy).Contents (Elt F) → (⟨S4096, .i1⟩ : BufTy).Contents (Elt F)),
    nullary main_cst_41 (constant S_ .f32 0x3F800000#32),
    unary main_cst_41 main_call4_v0 (id : (⟨S_, .f32⟩ : BufTy).Contents (Elt F) → (⟨S_, .f32⟩ : BufTy).Contents (Elt F)),
    unary main_call4_v0 main_call4_v1 ((broadcastInDim S4096 ![] bcast_S_S4096) : (⟨S_, .f32⟩ : BufTy).Contents (Elt F) → (⟨S4096, .f32⟩ : BufTy).Contents (Elt F)),
    ternary main_v145 main_v143 main_call4_v1 main_v146 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    nullary main_cst_42 (constant S_ .f32 0x00000000#32),
    unary main_cst_42 main_v147 (broadcastInDim S4096 ![] bcast_S_S4096 : (⟨S_, .f32⟩ : BufTy).Contents (Elt F) → (⟨S4096, .f32⟩ : BufTy).Contents (Elt F)),
    binary main_v143 main_v147 main_v148 (cmpf .ogt : (⟨S4096, .f32⟩ : BufTy).Contents (Elt F) → (⟨S4096, .f32⟩ : BufTy).Contents (Elt F) → (⟨S4096, .i1⟩ : BufTy).Contents (Elt F)),
    unary main_v148 main_v149 (broadcastInDim S4096x1 ![0] bcast_S4096_S4096x1_0 : (⟨S4096, .i1⟩ : BufTy).Contents (Elt F) → (⟨S4096x1, .i1⟩ : BufTy).Contents (Elt F)),
    unary main_v146 main_v150 (broadcastInDim S4096x1 ![0] bcast_S4096_S4096x1_0 : (⟨S4096, .f32⟩ : BufTy).Contents (Elt F) → (⟨S4096x1, .f32⟩ : BufTy).Contents (Elt F)),
    unary main_v150 main_v151 (broadcastInDim S4096x1024 ![0, 1] bcast_S4096x1_S4096x1024_0_1 : (⟨S4096x1, .f32⟩ : BufTy).Contents (Elt F) → (⟨S4096x1024, .f32⟩ : BufTy).Contents (Elt F)),
    binary main_v135 main_v151 main_v152 (Host.divf : (⟨S4096x1024, .f32⟩ : BufTy).Contents (Elt F) → (⟨S4096x1024, .f32⟩ : BufTy).Contents (Elt F) → (⟨S4096x1024, .f32⟩ : BufTy).Contents (Elt F)),
    unary main_v149 main_call5_v0 ((broadcastInDim S4096x1024 ![0, 1] bcast_S4096x1_S4096x1024_0_1) : (⟨S4096x1, .i1⟩ : BufTy).Contents (Elt F) → (⟨S4096x1024, .i1⟩ : BufTy).Contents (Elt F)),
    ternary main_call5_v0 main_v152 main_v135 main_v153 (select : (⟨S4096x1024, .i1⟩ : BufTy).Contents (Elt F) → (⟨S4096x1024, .f32⟩ : BufTy).Contents (Elt F) → (⟨S4096x1024, .f32⟩ : BufTy).Contents (Elt F) → (⟨S4096x1024, .f32⟩ : BufTy).Contents (Elt F)),
    reshape main_v153 main_v154 (rfl : (.f32 : EltTy) = .f32) shapeCasts_S4096x1024_S2x2048x1024 ]

theorem keepJ (V : Valuation τ sig (Elt F)) {r : Ref sig .tc} (hr : r ∉ ([main_cst_34, main_v125, main_v126, main_v127, main_v128, main_c_35, main_v129, main_v130, main_c_36, main_v131, main_v132, main_v133, main_v134, main_v135, main_cst_37, main_v136, main_c_38, main_v137, main_v138, main_c_39, main_v139, main_v140, main_v141, main_v142, main_v143, main_cst_40, main_v144, main_v145, main_cst_41, main_call4_v0, main_call4_v1, main_v146, main_cst_42, main_v147, main_v148, main_v149, main_v150, main_v151, main_v152, main_call5_v0, main_v153, main_v154] : List (Ref sig .tc))) :
    after (opsJ (F := F)) V (Proc.devRef .tc r) = V (Proc.devRef .tc r) :=
  after_unwritten [main_cst_34, main_v125, main_v126, main_v127, main_v128, main_c_35, main_v129, main_v130, main_c_36, main_v131, main_v132, main_v133, main_v134, main_v135, main_cst_37, main_v136, main_c_38, main_v137, main_v138, main_c_39, main_v139, main_v140, main_v141, main_v142, main_v143, main_cst_40, main_v144, main_v145, main_cst_41, main_call4_v0, main_call4_v1, main_v146, main_cst_42, main_v147, main_v148, main_v149, main_v150, main_v151, main_v152, main_call5_v0, main_v153, main_v154] rfl hr V

theorem subJ : (opsJ : List (HloOp τ sig (Elt F))).Forall fun op => op.bufs ⊆ tcRefs τ sig :=
  ⟨nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., unary_bufs_sub .., ternary_bufs_sub .., reshape_bufs_sub ..⟩

theorem readJ_v154 (V : Valuation τ sig (Elt F)) :
    after (opsJ (F := F)) V (Proc.devRef .tc main_v154) = (r_v154 (r_v153 (r_v143 (V (Proc.devRef .tc main_v59)) (V (Proc.devRef .tc main_v66))) (r_v135 (r_v134 (V (Proc.devRef .tc main_v59))) (r_v128 (V (Proc.devRef .tc main_v124)) (V (Proc.devRef .tc main_v66)))) (r_v146 (r_v143 (V (Proc.devRef .tc main_v59)) (V (Proc.devRef .tc main_v66)))))) := by
  after_reads_simp
  rfl

/-! ## The whole line -/

abbrev ops : List (HloOp τ sig (Elt F)) :=
  opsA ++ (opsB ++ (opsC ++ (opsD ++ (opsE ++ (opsF ++ (opsG ++ (opsH ++ (opsI ++ (opsJ)))))))))

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨subA, subB, subC, subD, subE, subF, subG, subH, subI, subJ⟩

/-! ## The named values as functions of the arguments -/

def c_v0 (arg0 : (⟨S2x2048x1024, .f32⟩ : BufTy).Contents (Elt F)) : (⟨S4096x1024, .f32⟩ : BufTy).Contents (Elt F) :=
  r_v0 arg0

def c_v2 (arg0 : (⟨S2x2048x1024, .f32⟩ : BufTy).Contents (Elt F)) (arg1 : (⟨S16x1024, .f32⟩ : BufTy).Contents (Elt F)) : (⟨S4096x16, .f32⟩ : BufTy).Contents (Elt F) :=
  r_v2 (c_v0 arg0) arg1

def c_v5 (arg0 : (⟨S2x2048x1024, .f32⟩ : BufTy).Contents (Elt F)) (arg1 : (⟨S16x1024, .f32⟩ : BufTy).Contents (Elt F)) : (⟨S4096, .f32⟩ : BufTy).Contents (Elt F) :=
  r_v5 (c_v2 arg0 arg1)

def c_v9 (arg0 : (⟨S2x2048x1024, .f32⟩ : BufTy).Contents (Elt F)) (arg1 : (⟨S16x1024, .f32⟩ : BufTy).Contents (Elt F)) : (⟨S4096x16, .f32⟩ : BufTy).Contents (Elt F) :=
  r_v9 (c_v2 arg0 arg1) (c_v5 arg0 arg1)

def c_v10 (arg0 : (⟨S2x2048x1024, .f32⟩ : BufTy).Contents (Elt F)) (arg1 : (⟨S16x1024, .f32⟩ : BufTy).Contents (Elt F)) : (⟨S4096, .f32⟩ : BufTy).Contents (Elt F) :=
  r_v10 (c_v9 arg0 arg1)

def c_v13 (arg0 : (⟨S2x2048x1024, .f32⟩ : BufTy).Contents (Elt F)) (arg1 : (⟨S16x1024, .f32⟩ : BufTy).Contents (Elt F)) : (⟨S4096x16, .f32⟩ : BufTy).Contents (Elt F) :=
  r_v13 (c_v9 arg0 arg1) (c_v10 arg0 arg1)

def c_values (arg0 : (⟨S2x2048x1024, .f32⟩ : BufTy).Contents (Elt F)) (arg1 : (⟨S16x1024, .f32⟩ : BufTy).Contents (Elt F)) : (⟨S4096x2, .f32⟩ : BufTy).Contents (Elt F) :=
  r_values (c_v13 arg0 arg1)

def c_indices (arg0 : (⟨S2x2048x1024, .f32⟩ : BufTy).Contents (Elt F)) (arg1 : (⟨S16x1024, .f32⟩ : BufTy).Contents (Elt F)) : (⟨S4096x2, .i32⟩ : BufTy).Contents (Elt F) :=
  r_indices (c_v13 arg0 arg1)

def c_v14 (arg0 : (⟨S2x2048x1024, .f32⟩ : BufTy).Contents (Elt F)) (arg1 : (⟨S16x1024, .f32⟩ : BufTy).Contents (Elt F)) : (⟨S16, .f32⟩ : BufTy).Contents (Elt F) :=
  r_v14 (c_v13 arg0 arg1)

def c_v31 (arg0 : (⟨S2x2048x1024, .f32⟩ : BufTy).Contents (Elt F)) (arg1 : (⟨S16x1024, .f32⟩ : BufTy).Contents (Elt F)) : (⟨S4096x2x2, .i32⟩ : BufTy).Contents (Elt F) :=
  r_v31 (c_indices arg0 arg1)

def c_v33 (arg0 : (⟨S2x2048x1024, .f32⟩ : BufTy).Contents (Elt F)) (arg1 : (⟨S16x1024, .f32⟩ : BufTy).Contents (Elt F)) : (⟨S4096x16, .f32⟩ : BufTy).Contents (Elt F) :=
  r_v33 (c_v31 arg0 arg1)

def c_v34 (arg0 : (⟨S2x2048x1024, .f32⟩ : BufTy).Contents (Elt F)) (arg1 : (⟨S16x1024, .f32⟩ : BufTy).Contents (Elt F)) : (⟨S16, .f32⟩ : BufTy).Contents (Elt F) :=
  r_v34 (c_v33 arg0 arg1)

def c_v39 (arg0 : (⟨S2x2048x1024, .f32⟩ : BufTy).Contents (Elt F)) (arg1 : (⟨S16x1024, .f32⟩ : BufTy).Contents (Elt F)) : (⟨S_, .f32⟩ : BufTy).Contents (Elt F) :=
  r_v39 (c_v14 arg0 arg1) (c_v34 arg0 arg1)

def c_v40 (arg0 : (⟨S2x2048x1024, .f32⟩ : BufTy).Contents (Elt F)) (arg1 : (⟨S16x1024, .f32⟩ : BufTy).Contents (Elt F)) : (⟨S8192, .i32⟩ : BufTy).Contents (Elt F) :=
  r_v40 (c_indices arg0 arg1)

def c_v41 (arg0 : (⟨S2x2048x1024, .f32⟩ : BufTy).Contents (Elt F)) (arg1 : (⟨S16x1024, .f32⟩ : BufTy).Contents (Elt F)) : (⟨S8192, .f32⟩ : BufTy).Contents (Elt F) :=
  r_v41 (c_values arg0 arg1)

def c_v44  : (⟨S8192, .i32⟩ : BufTy).Contents (Elt F) :=
  r_v44

def c_v45 (arg0 : (⟨S2x2048x1024, .f32⟩ : BufTy).Contents (Elt F)) (arg1 : (⟨S16x1024, .f32⟩ : BufTy).Contents (Elt F)) : (⟨S8192, .i32⟩ : BufTy).Contents (Elt F) :=
  r_v45 (c_v40 arg0 arg1)

def c_v51 (arg0 : (⟨S2x2048x1024, .f32⟩ : BufTy).Contents (Elt F)) (arg1 : (⟨S16x1024, .f32⟩ : BufTy).Contents (Elt F)) : (⟨S8192x1, .i32⟩ : BufTy).Contents (Elt F) :=
  r_v51 (c_v45 arg0 arg1)

def c_v52 (arg0 : (⟨S2x2048x1024, .f32⟩ : BufTy).Contents (Elt F)) (arg1 : (⟨S16x1024, .f32⟩ : BufTy).Contents (Elt F)) : (⟨S8192, .i32⟩ : BufTy).Contents (Elt F) :=
  r_v52 (c_v40 arg0 arg1) (c_v51 arg0 arg1)

def c_v59 (arg0 : (⟨S2x2048x1024, .f32⟩ : BufTy).Contents (Elt F)) (arg1 : (⟨S16x1024, .f32⟩ : BufTy).Contents (Elt F)) : (⟨S8192, .i32⟩ : BufTy).Contents (Elt F) :=
  r_v59 c_v44 (c_v45 arg0 arg1)

def c_v66 (arg0 : (⟨S2x2048x1024, .f32⟩ : BufTy).Contents (Elt F)) (arg1 : (⟨S16x1024, .f32⟩ : BufTy).Contents (Elt F)) : (⟨S8192, .f32⟩ : BufTy).Contents (Elt F) :=
  r_v66 (c_v41 arg0 arg1) (c_v45 arg0 arg1)

def c_v67 (arg0 : (⟨S2x2048x1024, .f32⟩ : BufTy).Contents (Elt F)) (arg1 : (⟨S16x1024, .f32⟩ : BufTy).Contents (Elt F)) : (⟨S8192x16, .f32⟩ : BufTy).Contents (Elt F) :=
  r_v67 (c_v52 arg0 arg1)

def c_v68 (arg0 : (⟨S2x2048x1024, .f32⟩ : BufTy).Contents (Elt F)) (arg1 : (⟨S16x1024, .f32⟩ : BufTy).Contents (Elt F)) : (⟨S8192x16, .f32⟩ : BufTy).Contents (Elt F) :=
  r_v68 (c_v67 arg0 arg1)

def c_v69 (arg0 : (⟨S2x2048x1024, .f32⟩ : BufTy).Contents (Elt F)) (arg1 : (⟨S16x1024, .f32⟩ : BufTy).Contents (Elt F)) : (⟨S8192, .i32⟩ : BufTy).Contents (Elt F) :=
  r_v69 (c_v68 arg0 arg1)

def c_v73 (arg0 : (⟨S2x2048x1024, .f32⟩ : BufTy).Contents (Elt F)) (arg1 : (⟨S16x1024, .f32⟩ : BufTy).Contents (Elt F)) : (⟨S8192, .i32⟩ : BufTy).Contents (Elt F) :=
  r_v73 (c_v69 arg0 arg1)

def c_v80 (arg0 : (⟨S2x2048x1024, .f32⟩ : BufTy).Contents (Elt F)) (arg1 : (⟨S16x1024, .f32⟩ : BufTy).Contents (Elt F)) : (⟨S8192x1, .i32⟩ : BufTy).Contents (Elt F) :=
  r_v80 (c_v59 arg0 arg1)

def c_v81 (arg0 : (⟨S2x2048x1024, .f32⟩ : BufTy).Contents (Elt F)) (arg1 : (⟨S16x1024, .f32⟩ : BufTy).Contents (Elt F)) : (⟨S8192x1024, .f32⟩ : BufTy).Contents (Elt F) :=
  r_v81 (c_v0 arg0) (c_v80 arg0 arg1)

def c_v94 (arg0 : (⟨S2x2048x1024, .f32⟩ : BufTy).Contents (Elt F)) (arg1 : (⟨S16x1024, .f32⟩ : BufTy).Contents (Elt F)) : (⟨S8192x2, .i32⟩ : BufTy).Contents (Elt F) :=
  r_v94 (c_v52 arg0 arg1) (c_v73 arg0 arg1)

def c_v95 (arg0 : (⟨S2x2048x1024, .f32⟩ : BufTy).Contents (Elt F)) (arg1 : (⟨S16x1024, .f32⟩ : BufTy).Contents (Elt F)) : (⟨S16x320x1024, .f32⟩ : BufTy).Contents (Elt F) :=
  r_v95 (c_v94 arg0 arg1) (c_v81 arg0 arg1)

def c_v99 (arg0 : (⟨S2x2048x1024, .f32⟩ : BufTy).Contents (Elt F)) (arg1 : (⟨S16x1024, .f32⟩ : BufTy).Contents (Elt F)) (arg2 : (⟨S16x4096x1024, .f32⟩ : BufTy).Contents (Elt F)) (arg3 : (⟨S16x4096, .f32⟩ : BufTy).Contents (Elt F)) : (⟨S16x320x4096, .f32⟩ : BufTy).Contents (Elt F) :=
  r_v99 (c_v95 arg0 arg1) arg2 arg3

def c_v106 (arg0 : (⟨S2x2048x1024, .f32⟩ : BufTy).Contents (Elt F)) (arg1 : (⟨S16x1024, .f32⟩ : BufTy).Contents (Elt F)) (arg2 : (⟨S16x4096x1024, .f32⟩ : BufTy).Contents (Elt F)) (arg3 : (⟨S16x4096, .f32⟩ : BufTy).Contents (Elt F)) : (⟨S16x320x4096, .f32⟩ : BufTy).Contents (Elt F) :=
  r_v106 (c_v99 arg0 arg1 arg2 arg3)

def c_v110 (arg0 : (⟨S2x2048x1024, .f32⟩ : BufTy).Contents (Elt F)) (arg1 : (⟨S16x1024, .f32⟩ : BufTy).Contents (Elt F)) (arg2 : (⟨S16x4096x1024, .f32⟩ : BufTy).Contents (Elt F)) (arg3 : (⟨S16x4096, .f32⟩ : BufTy).Contents (Elt F)) (arg4 : (⟨S16x1024x4096, .f32⟩ : BufTy).Contents (Elt F)) (arg5 : (⟨S16x1024, .f32⟩ : BufTy).Contents (Elt F)) : (⟨S16x320x1024, .f32⟩ : BufTy).Contents (Elt F) :=
  r_v110 (c_v106 arg0 arg1 arg2 arg3) arg4 arg5

def c_v123 (arg0 : (⟨S2x2048x1024, .f32⟩ : BufTy).Contents (Elt F)) (arg1 : (⟨S16x1024, .f32⟩ : BufTy).Contents (Elt F)) : (⟨S8192x2, .i32⟩ : BufTy).Contents (Elt F) :=
  r_v123 (c_v52 arg0 arg1) (c_v73 arg0 arg1)

def c_v124 (arg0 : (⟨S2x2048x1024, .f32⟩ : BufTy).Contents (Elt F)) (arg1 : (⟨S16x1024, .f32⟩ : BufTy).Contents (Elt F)) (arg2 : (⟨S16x4096x1024, .f32⟩ : BufTy).Contents (Elt F)) (arg3 : (⟨S16x4096, .f32⟩ : BufTy).Contents (Elt F)) (arg4 : (⟨S16x1024x4096, .f32⟩ : BufTy).Contents (Elt F)) (arg5 : (⟨S16x1024, .f32⟩ : BufTy).Contents (Elt F)) : (⟨S8192x1024, .f32⟩ : BufTy).Contents (Elt F) :=
  r_v124 (c_v110 arg0 arg1 arg2 arg3 arg4 arg5) (c_v123 arg0 arg1)

def c_v128 (arg0 : (⟨S2x2048x1024, .f32⟩ : BufTy).Contents (Elt F)) (arg1 : (⟨S16x1024, .f32⟩ : BufTy).Contents (Elt F)) (arg2 : (⟨S16x4096x1024, .f32⟩ : BufTy).Contents (Elt F)) (arg3 : (⟨S16x4096, .f32⟩ : BufTy).Contents (Elt F)) (arg4 : (⟨S16x1024x4096, .f32⟩ : BufTy).Contents (Elt F)) (arg5 : (⟨S16x1024, .f32⟩ : BufTy).Contents (Elt F)) : (⟨S8192x1024, .f32⟩ : BufTy).Contents (Elt F) :=
  r_v128 (c_v124 arg0 arg1 arg2 arg3 arg4 arg5) (c_v66 arg0 arg1)

def c_v134 (arg0 : (⟨S2x2048x1024, .f32⟩ : BufTy).Contents (Elt F)) (arg1 : (⟨S16x1024, .f32⟩ : BufTy).Contents (Elt F)) : (⟨S8192x1, .i32⟩ : BufTy).Contents (Elt F) :=
  r_v134 (c_v59 arg0 arg1)

def c_v135 (arg0 : (⟨S2x2048x1024, .f32⟩ : BufTy).Contents (Elt F)) (arg1 : (⟨S16x1024, .f32⟩ : BufTy).Contents (Elt F)) (arg2 : (⟨S16x4096x1024, .f32⟩ : BufTy).Contents (Elt F)) (arg3 : (⟨S16x4096, .f32⟩ : BufTy).Contents (Elt F)) (arg4 : (⟨S16x1024x4096, .f32⟩ : BufTy).Contents (Elt F)) (arg5 : (⟨S16x1024, .f32⟩ : BufTy).Contents (Elt F)) : (⟨S4096x1024, .f32⟩ : BufTy).Contents (Elt F) :=
  r_v135 (c_v134 arg0 arg1) (c_v128 arg0 arg1 arg2 arg3 arg4 arg5)

def c_v143 (arg0 : (⟨S2x2048x1024, .f32⟩ : BufTy).Contents (Elt F)) (arg1 : (⟨S16x1024, .f32⟩ : BufTy).Contents (Elt F)) : (⟨S4096, .f32⟩ : BufTy).Contents (Elt F) :=
  r_v143 (c_v59 arg0 arg1) (c_v66 arg0 arg1)

def c_v146 (arg0 : (⟨S2x2048x1024, .f32⟩ : BufTy).Contents (Elt F)) (arg1 : (⟨S16x1024, .f32⟩ : BufTy).Contents (Elt F)) : (⟨S4096, .f32⟩ : BufTy).Contents (Elt F) :=
  r_v146 (c_v143 arg0 arg1)

def c_v153 (arg0 : (⟨S2x2048x1024, .f32⟩ : BufTy).Contents (Elt F)) (arg1 : (⟨S16x1024, .f32⟩ : BufTy).Contents (Elt F)) (arg2 : (⟨S16x4096x1024, .f32⟩ : BufTy).Contents (Elt F)) (arg3 : (⟨S16x4096, .f32⟩ : BufTy).Contents (Elt F)) (arg4 : (⟨S16x1024x4096, .f32⟩ : BufTy).Contents (Elt F)) (arg5 : (⟨S16x1024, .f32⟩ : BufTy).Contents (Elt F)) : (⟨S4096x1024, .f32⟩ : BufTy).Contents (Elt F) :=
  r_v153 (c_v143 arg0 arg1) (c_v135 arg0 arg1 arg2 arg3 arg4 arg5) (c_v146 arg0 arg1)

def c_v154 (arg0 : (⟨S2x2048x1024, .f32⟩ : BufTy).Contents (Elt F)) (arg1 : (⟨S16x1024, .f32⟩ : BufTy).Contents (Elt F)) (arg2 : (⟨S16x4096x1024, .f32⟩ : BufTy).Contents (Elt F)) (arg3 : (⟨S16x4096, .f32⟩ : BufTy).Contents (Elt F)) (arg4 : (⟨S16x1024x4096, .f32⟩ : BufTy).Contents (Elt F)) (arg5 : (⟨S16x1024, .f32⟩ : BufTy).Contents (Elt F)) : (⟨S2x2048x1024, .f32⟩ : BufTy).Contents (Elt F) :=
  r_v154 (c_v153 arg0 arg1 arg2 arg3 arg4 arg5)

abbrev UA (V : Valuation τ sig (Elt F)) : Valuation τ sig (Elt F) := after opsA V

abbrev UB (V : Valuation τ sig (Elt F)) : Valuation τ sig (Elt F) := after opsB (UA V)

abbrev UC (V : Valuation τ sig (Elt F)) : Valuation τ sig (Elt F) := after opsC (UB V)

abbrev UD (V : Valuation τ sig (Elt F)) : Valuation τ sig (Elt F) := after opsD (UC V)

abbrev UE (V : Valuation τ sig (Elt F)) : Valuation τ sig (Elt F) := after opsE (UD V)

abbrev UF (V : Valuation τ sig (Elt F)) : Valuation τ sig (Elt F) := after opsF (UE V)

abbrev UG (V : Valuation τ sig (Elt F)) : Valuation τ sig (Elt F) := after opsG (UF V)

abbrev UH (V : Valuation τ sig (Elt F)) : Valuation τ sig (Elt F) := after opsH (UG V)

abbrev UI (V : Valuation τ sig (Elt F)) : Valuation τ sig (Elt F) := after opsI (UH V)

abbrev UJ (V : Valuation τ sig (Elt F)) : Valuation τ sig (Elt F) := after opsJ (UI V)

theorem after_ops (V : Valuation τ sig (Elt F)) : after ops V = UJ V := by
  simp only [ops, after_append]

theorem atA_v0 (V : Valuation τ sig (Elt F)) : UA V (Proc.devRef .tc main_v0) = (c_v0 (V (Proc.devRef .tc main_arg0))) := by
  rw [UA, readA_v0]
  rfl

theorem atA_v13 (V : Valuation τ sig (Elt F)) : UA V (Proc.devRef .tc main_v13) = (c_v13 (V (Proc.devRef .tc main_arg0)) (V (Proc.devRef .tc main_arg1))) := by
  rw [UA, readA_v13]
  rfl

theorem atA_arg0 (V : Valuation τ sig (Elt F)) : UA V (Proc.devRef .tc main_arg0) = (V (Proc.devRef .tc main_arg0)) := keepA _ (by decide)

theorem atA_arg1 (V : Valuation τ sig (Elt F)) : UA V (Proc.devRef .tc main_arg1) = (V (Proc.devRef .tc main_arg1)) := keepA _ (by decide)

theorem atA_arg2 (V : Valuation τ sig (Elt F)) : UA V (Proc.devRef .tc main_arg2) = (V (Proc.devRef .tc main_arg2)) := keepA _ (by decide)

theorem atA_arg3 (V : Valuation τ sig (Elt F)) : UA V (Proc.devRef .tc main_arg3) = (V (Proc.devRef .tc main_arg3)) := keepA _ (by decide)

theorem atA_arg4 (V : Valuation τ sig (Elt F)) : UA V (Proc.devRef .tc main_arg4) = (V (Proc.devRef .tc main_arg4)) := keepA _ (by decide)

theorem atA_arg5 (V : Valuation τ sig (Elt F)) : UA V (Proc.devRef .tc main_arg5) = (V (Proc.devRef .tc main_arg5)) := keepA _ (by decide)

theorem atB_values (V : Valuation τ sig (Elt F)) : UB V (Proc.devRef .tc main_values) = (c_values (V (Proc.devRef .tc main_arg0)) (V (Proc.devRef .tc main_arg1))) := by
  rw [UB, readB_values, atA_v13]
  rfl

theorem atB_indices (V : Valuation τ sig (Elt F)) : UB V (Proc.devRef .tc main_indices) = (c_indices (V (Proc.devRef .tc main_arg0)) (V (Proc.devRef .tc main_arg1))) := by
  rw [UB, readB_indices, atA_v13]
  rfl

theorem atB_arg0 (V : Valuation τ sig (Elt F)) : UB V (Proc.devRef .tc main_arg0) = (V (Proc.devRef .tc main_arg0)) :=
  (keepB _ (by decide)).trans (atA_arg0 V)

theorem atB_arg1 (V : Valuation τ sig (Elt F)) : UB V (Proc.devRef .tc main_arg1) = (V (Proc.devRef .tc main_arg1)) :=
  (keepB _ (by decide)).trans (atA_arg1 V)

theorem atB_arg2 (V : Valuation τ sig (Elt F)) : UB V (Proc.devRef .tc main_arg2) = (V (Proc.devRef .tc main_arg2)) :=
  (keepB _ (by decide)).trans (atA_arg2 V)

theorem atB_arg3 (V : Valuation τ sig (Elt F)) : UB V (Proc.devRef .tc main_arg3) = (V (Proc.devRef .tc main_arg3)) :=
  (keepB _ (by decide)).trans (atA_arg3 V)

theorem atB_arg4 (V : Valuation τ sig (Elt F)) : UB V (Proc.devRef .tc main_arg4) = (V (Proc.devRef .tc main_arg4)) :=
  (keepB _ (by decide)).trans (atA_arg4 V)

theorem atB_arg5 (V : Valuation τ sig (Elt F)) : UB V (Proc.devRef .tc main_arg5) = (V (Proc.devRef .tc main_arg5)) :=
  (keepB _ (by decide)).trans (atA_arg5 V)

theorem atB_v0 (V : Valuation τ sig (Elt F)) : UB V (Proc.devRef .tc main_v0) = (c_v0 (V (Proc.devRef .tc main_arg0))) :=
  (keepB _ (by decide)).trans (atA_v0 V)

theorem atB_v13 (V : Valuation τ sig (Elt F)) : UB V (Proc.devRef .tc main_v13) = (c_v13 (V (Proc.devRef .tc main_arg0)) (V (Proc.devRef .tc main_arg1))) :=
  (keepB _ (by decide)).trans (atA_v13 V)

theorem atC_v39 (V : Valuation τ sig (Elt F)) : UC V (Proc.devRef .tc main_v39) = (c_v39 (V (Proc.devRef .tc main_arg0)) (V (Proc.devRef .tc main_arg1))) := by
  rw [UC, readC_v39, atB_v13, atB_indices]
  rfl

theorem atC_arg0 (V : Valuation τ sig (Elt F)) : UC V (Proc.devRef .tc main_arg0) = (V (Proc.devRef .tc main_arg0)) :=
  (keepC _ (by decide)).trans (atB_arg0 V)

theorem atC_arg1 (V : Valuation τ sig (Elt F)) : UC V (Proc.devRef .tc main_arg1) = (V (Proc.devRef .tc main_arg1)) :=
  (keepC _ (by decide)).trans (atB_arg1 V)

theorem atC_arg2 (V : Valuation τ sig (Elt F)) : UC V (Proc.devRef .tc main_arg2) = (V (Proc.devRef .tc main_arg2)) :=
  (keepC _ (by decide)).trans (atB_arg2 V)

theorem atC_arg3 (V : Valuation τ sig (Elt F)) : UC V (Proc.devRef .tc main_arg3) = (V (Proc.devRef .tc main_arg3)) :=
  (keepC _ (by decide)).trans (atB_arg3 V)

theorem atC_arg4 (V : Valuation τ sig (Elt F)) : UC V (Proc.devRef .tc main_arg4) = (V (Proc.devRef .tc main_arg4)) :=
  (keepC _ (by decide)).trans (atB_arg4 V)

theorem atC_arg5 (V : Valuation τ sig (Elt F)) : UC V (Proc.devRef .tc main_arg5) = (V (Proc.devRef .tc main_arg5)) :=
  (keepC _ (by decide)).trans (atB_arg5 V)

theorem atC_v0 (V : Valuation τ sig (Elt F)) : UC V (Proc.devRef .tc main_v0) = (c_v0 (V (Proc.devRef .tc main_arg0))) :=
  (keepC _ (by decide)).trans (atB_v0 V)

theorem atC_values (V : Valuation τ sig (Elt F)) : UC V (Proc.devRef .tc main_values) = (c_values (V (Proc.devRef .tc main_arg0)) (V (Proc.devRef .tc main_arg1))) :=
  (keepC _ (by decide)).trans (atB_values V)

theorem atC_indices (V : Valuation τ sig (Elt F)) : UC V (Proc.devRef .tc main_indices) = (c_indices (V (Proc.devRef .tc main_arg0)) (V (Proc.devRef .tc main_arg1))) :=
  (keepC _ (by decide)).trans (atB_indices V)

theorem atD_v40 (V : Valuation τ sig (Elt F)) : UD V (Proc.devRef .tc main_v40) = (c_v40 (V (Proc.devRef .tc main_arg0)) (V (Proc.devRef .tc main_arg1))) := by
  rw [UD, readD_v40, atC_indices]
  rfl

theorem atD_v41 (V : Valuation τ sig (Elt F)) : UD V (Proc.devRef .tc main_v41) = (c_v41 (V (Proc.devRef .tc main_arg0)) (V (Proc.devRef .tc main_arg1))) := by
  rw [UD, readD_v41, atC_values]
  rfl

theorem atD_v44 (V : Valuation τ sig (Elt F)) : UD V (Proc.devRef .tc main_v44) = c_v44 := by
  rw [UD, readD_v44]
  rfl

theorem atD_v45 (V : Valuation τ sig (Elt F)) : UD V (Proc.devRef .tc main_v45) = (c_v45 (V (Proc.devRef .tc main_arg0)) (V (Proc.devRef .tc main_arg1))) := by
  rw [UD, readD_v45, atC_indices]
  rfl

theorem atD_arg0 (V : Valuation τ sig (Elt F)) : UD V (Proc.devRef .tc main_arg0) = (V (Proc.devRef .tc main_arg0)) :=
  (keepD _ (by decide)).trans (atC_arg0 V)

theorem atD_arg1 (V : Valuation τ sig (Elt F)) : UD V (Proc.devRef .tc main_arg1) = (V (Proc.devRef .tc main_arg1)) :=
  (keepD _ (by decide)).trans (atC_arg1 V)

theorem atD_arg2 (V : Valuation τ sig (Elt F)) : UD V (Proc.devRef .tc main_arg2) = (V (Proc.devRef .tc main_arg2)) :=
  (keepD _ (by decide)).trans (atC_arg2 V)

theorem atD_arg3 (V : Valuation τ sig (Elt F)) : UD V (Proc.devRef .tc main_arg3) = (V (Proc.devRef .tc main_arg3)) :=
  (keepD _ (by decide)).trans (atC_arg3 V)

theorem atD_arg4 (V : Valuation τ sig (Elt F)) : UD V (Proc.devRef .tc main_arg4) = (V (Proc.devRef .tc main_arg4)) :=
  (keepD _ (by decide)).trans (atC_arg4 V)

theorem atD_arg5 (V : Valuation τ sig (Elt F)) : UD V (Proc.devRef .tc main_arg5) = (V (Proc.devRef .tc main_arg5)) :=
  (keepD _ (by decide)).trans (atC_arg5 V)

theorem atD_v0 (V : Valuation τ sig (Elt F)) : UD V (Proc.devRef .tc main_v0) = (c_v0 (V (Proc.devRef .tc main_arg0))) :=
  (keepD _ (by decide)).trans (atC_v0 V)

theorem atD_v39 (V : Valuation τ sig (Elt F)) : UD V (Proc.devRef .tc main_v39) = (c_v39 (V (Proc.devRef .tc main_arg0)) (V (Proc.devRef .tc main_arg1))) :=
  (keepD _ (by decide)).trans (atC_v39 V)

theorem atE_v52 (V : Valuation τ sig (Elt F)) : UE V (Proc.devRef .tc main_v52) = (c_v52 (V (Proc.devRef .tc main_arg0)) (V (Proc.devRef .tc main_arg1))) := by
  rw [UE, readE_v52, atD_v40, atD_v45]
  rfl

theorem atE_v59 (V : Valuation τ sig (Elt F)) : UE V (Proc.devRef .tc main_v59) = (c_v59 (V (Proc.devRef .tc main_arg0)) (V (Proc.devRef .tc main_arg1))) := by
  rw [UE, readE_v59, atD_v44, atD_v45]
  rfl

theorem atE_v66 (V : Valuation τ sig (Elt F)) : UE V (Proc.devRef .tc main_v66) = (c_v66 (V (Proc.devRef .tc main_arg0)) (V (Proc.devRef .tc main_arg1))) := by
  rw [UE, readE_v66, atD_v41, atD_v45]
  rfl

theorem atE_arg0 (V : Valuation τ sig (Elt F)) : UE V (Proc.devRef .tc main_arg0) = (V (Proc.devRef .tc main_arg0)) :=
  (keepE _ (by decide)).trans (atD_arg0 V)

theorem atE_arg1 (V : Valuation τ sig (Elt F)) : UE V (Proc.devRef .tc main_arg1) = (V (Proc.devRef .tc main_arg1)) :=
  (keepE _ (by decide)).trans (atD_arg1 V)

theorem atE_arg2 (V : Valuation τ sig (Elt F)) : UE V (Proc.devRef .tc main_arg2) = (V (Proc.devRef .tc main_arg2)) :=
  (keepE _ (by decide)).trans (atD_arg2 V)

theorem atE_arg3 (V : Valuation τ sig (Elt F)) : UE V (Proc.devRef .tc main_arg3) = (V (Proc.devRef .tc main_arg3)) :=
  (keepE _ (by decide)).trans (atD_arg3 V)

theorem atE_arg4 (V : Valuation τ sig (Elt F)) : UE V (Proc.devRef .tc main_arg4) = (V (Proc.devRef .tc main_arg4)) :=
  (keepE _ (by decide)).trans (atD_arg4 V)

theorem atE_arg5 (V : Valuation τ sig (Elt F)) : UE V (Proc.devRef .tc main_arg5) = (V (Proc.devRef .tc main_arg5)) :=
  (keepE _ (by decide)).trans (atD_arg5 V)

theorem atE_v0 (V : Valuation τ sig (Elt F)) : UE V (Proc.devRef .tc main_v0) = (c_v0 (V (Proc.devRef .tc main_arg0))) :=
  (keepE _ (by decide)).trans (atD_v0 V)

theorem atE_v39 (V : Valuation τ sig (Elt F)) : UE V (Proc.devRef .tc main_v39) = (c_v39 (V (Proc.devRef .tc main_arg0)) (V (Proc.devRef .tc main_arg1))) :=
  (keepE _ (by decide)).trans (atD_v39 V)

theorem atF_v73 (V : Valuation τ sig (Elt F)) : UF V (Proc.devRef .tc main_v73) = (c_v73 (V (Proc.devRef .tc main_arg0)) (V (Proc.devRef .tc main_arg1))) := by
  rw [UF, readF_v73, atE_v52]
  rfl

theorem atF_arg0 (V : Valuation τ sig (Elt F)) : UF V (Proc.devRef .tc main_arg0) = (V (Proc.devRef .tc main_arg0)) :=
  (keepF _ (by decide)).trans (atE_arg0 V)

theorem atF_arg1 (V : Valuation τ sig (Elt F)) : UF V (Proc.devRef .tc main_arg1) = (V (Proc.devRef .tc main_arg1)) :=
  (keepF _ (by decide)).trans (atE_arg1 V)

theorem atF_arg2 (V : Valuation τ sig (Elt F)) : UF V (Proc.devRef .tc main_arg2) = (V (Proc.devRef .tc main_arg2)) :=
  (keepF _ (by decide)).trans (atE_arg2 V)

theorem atF_arg3 (V : Valuation τ sig (Elt F)) : UF V (Proc.devRef .tc main_arg3) = (V (Proc.devRef .tc main_arg3)) :=
  (keepF _ (by decide)).trans (atE_arg3 V)

theorem atF_arg4 (V : Valuation τ sig (Elt F)) : UF V (Proc.devRef .tc main_arg4) = (V (Proc.devRef .tc main_arg4)) :=
  (keepF _ (by decide)).trans (atE_arg4 V)

theorem atF_arg5 (V : Valuation τ sig (Elt F)) : UF V (Proc.devRef .tc main_arg5) = (V (Proc.devRef .tc main_arg5)) :=
  (keepF _ (by decide)).trans (atE_arg5 V)

theorem atF_v0 (V : Valuation τ sig (Elt F)) : UF V (Proc.devRef .tc main_v0) = (c_v0 (V (Proc.devRef .tc main_arg0))) :=
  (keepF _ (by decide)).trans (atE_v0 V)

theorem atF_v39 (V : Valuation τ sig (Elt F)) : UF V (Proc.devRef .tc main_v39) = (c_v39 (V (Proc.devRef .tc main_arg0)) (V (Proc.devRef .tc main_arg1))) :=
  (keepF _ (by decide)).trans (atE_v39 V)

theorem atF_v52 (V : Valuation τ sig (Elt F)) : UF V (Proc.devRef .tc main_v52) = (c_v52 (V (Proc.devRef .tc main_arg0)) (V (Proc.devRef .tc main_arg1))) :=
  (keepF _ (by decide)).trans (atE_v52 V)

theorem atF_v59 (V : Valuation τ sig (Elt F)) : UF V (Proc.devRef .tc main_v59) = (c_v59 (V (Proc.devRef .tc main_arg0)) (V (Proc.devRef .tc main_arg1))) :=
  (keepF _ (by decide)).trans (atE_v59 V)

theorem atF_v66 (V : Valuation τ sig (Elt F)) : UF V (Proc.devRef .tc main_v66) = (c_v66 (V (Proc.devRef .tc main_arg0)) (V (Proc.devRef .tc main_arg1))) :=
  (keepF _ (by decide)).trans (atE_v66 V)

theorem atG_v95 (V : Valuation τ sig (Elt F)) : UG V (Proc.devRef .tc main_v95) = (c_v95 (V (Proc.devRef .tc main_arg0)) (V (Proc.devRef .tc main_arg1))) := by
  rw [UG, readG_v95, atF_v0, atF_v52, atF_v59, atF_v73]
  rfl

theorem atG_arg0 (V : Valuation τ sig (Elt F)) : UG V (Proc.devRef .tc main_arg0) = (V (Proc.devRef .tc main_arg0)) :=
  (keepG _ (by decide)).trans (atF_arg0 V)

theorem atG_arg1 (V : Valuation τ sig (Elt F)) : UG V (Proc.devRef .tc main_arg1) = (V (Proc.devRef .tc main_arg1)) :=
  (keepG _ (by decide)).trans (atF_arg1 V)

theorem atG_arg2 (V : Valuation τ sig (Elt F)) : UG V (Proc.devRef .tc main_arg2) = (V (Proc.devRef .tc main_arg2)) :=
  (keepG _ (by decide)).trans (atF_arg2 V)

theorem atG_arg3 (V : Valuation τ sig (Elt F)) : UG V (Proc.devRef .tc main_arg3) = (V (Proc.devRef .tc main_arg3)) :=
  (keepG _ (by decide)).trans (atF_arg3 V)

theorem atG_arg4 (V : Valuation τ sig (Elt F)) : UG V (Proc.devRef .tc main_arg4) = (V (Proc.devRef .tc main_arg4)) :=
  (keepG _ (by decide)).trans (atF_arg4 V)

theorem atG_arg5 (V : Valuation τ sig (Elt F)) : UG V (Proc.devRef .tc main_arg5) = (V (Proc.devRef .tc main_arg5)) :=
  (keepG _ (by decide)).trans (atF_arg5 V)

theorem atG_v39 (V : Valuation τ sig (Elt F)) : UG V (Proc.devRef .tc main_v39) = (c_v39 (V (Proc.devRef .tc main_arg0)) (V (Proc.devRef .tc main_arg1))) :=
  (keepG _ (by decide)).trans (atF_v39 V)

theorem atG_v52 (V : Valuation τ sig (Elt F)) : UG V (Proc.devRef .tc main_v52) = (c_v52 (V (Proc.devRef .tc main_arg0)) (V (Proc.devRef .tc main_arg1))) :=
  (keepG _ (by decide)).trans (atF_v52 V)

theorem atG_v59 (V : Valuation τ sig (Elt F)) : UG V (Proc.devRef .tc main_v59) = (c_v59 (V (Proc.devRef .tc main_arg0)) (V (Proc.devRef .tc main_arg1))) :=
  (keepG _ (by decide)).trans (atF_v59 V)

theorem atG_v66 (V : Valuation τ sig (Elt F)) : UG V (Proc.devRef .tc main_v66) = (c_v66 (V (Proc.devRef .tc main_arg0)) (V (Proc.devRef .tc main_arg1))) :=
  (keepG _ (by decide)).trans (atF_v66 V)

theorem atG_v73 (V : Valuation τ sig (Elt F)) : UG V (Proc.devRef .tc main_v73) = (c_v73 (V (Proc.devRef .tc main_arg0)) (V (Proc.devRef .tc main_arg1))) :=
  (keepG _ (by decide)).trans (atF_v73 V)

theorem atH_v110 (V : Valuation τ sig (Elt F)) : UH V (Proc.devRef .tc main_v110) = (c_v110 (V (Proc.devRef .tc main_arg0)) (V (Proc.devRef .tc main_arg1)) (V (Proc.devRef .tc main_arg2)) (V (Proc.devRef .tc main_arg3)) (V (Proc.devRef .tc main_arg4)) (V (Proc.devRef .tc main_arg5))) := by
  rw [UH, readH_v110, atG_arg2, atG_arg3, atG_arg4, atG_arg5, atG_v95]
  rfl

theorem atH_arg0 (V : Valuation τ sig (Elt F)) : UH V (Proc.devRef .tc main_arg0) = (V (Proc.devRef .tc main_arg0)) :=
  (keepH _ (by decide)).trans (atG_arg0 V)

theorem atH_arg1 (V : Valuation τ sig (Elt F)) : UH V (Proc.devRef .tc main_arg1) = (V (Proc.devRef .tc main_arg1)) :=
  (keepH _ (by decide)).trans (atG_arg1 V)

theorem atH_arg2 (V : Valuation τ sig (Elt F)) : UH V (Proc.devRef .tc main_arg2) = (V (Proc.devRef .tc main_arg2)) :=
  (keepH _ (by decide)).trans (atG_arg2 V)

theorem atH_arg3 (V : Valuation τ sig (Elt F)) : UH V (Proc.devRef .tc main_arg3) = (V (Proc.devRef .tc main_arg3)) :=
  (keepH _ (by decide)).trans (atG_arg3 V)

theorem atH_arg4 (V : Valuation τ sig (Elt F)) : UH V (Proc.devRef .tc main_arg4) = (V (Proc.devRef .tc main_arg4)) :=
  (keepH _ (by decide)).trans (atG_arg4 V)

theorem atH_arg5 (V : Valuation τ sig (Elt F)) : UH V (Proc.devRef .tc main_arg5) = (V (Proc.devRef .tc main_arg5)) :=
  (keepH _ (by decide)).trans (atG_arg5 V)

theorem atH_v39 (V : Valuation τ sig (Elt F)) : UH V (Proc.devRef .tc main_v39) = (c_v39 (V (Proc.devRef .tc main_arg0)) (V (Proc.devRef .tc main_arg1))) :=
  (keepH _ (by decide)).trans (atG_v39 V)

theorem atH_v52 (V : Valuation τ sig (Elt F)) : UH V (Proc.devRef .tc main_v52) = (c_v52 (V (Proc.devRef .tc main_arg0)) (V (Proc.devRef .tc main_arg1))) :=
  (keepH _ (by decide)).trans (atG_v52 V)

theorem atH_v59 (V : Valuation τ sig (Elt F)) : UH V (Proc.devRef .tc main_v59) = (c_v59 (V (Proc.devRef .tc main_arg0)) (V (Proc.devRef .tc main_arg1))) :=
  (keepH _ (by decide)).trans (atG_v59 V)

theorem atH_v66 (V : Valuation τ sig (Elt F)) : UH V (Proc.devRef .tc main_v66) = (c_v66 (V (Proc.devRef .tc main_arg0)) (V (Proc.devRef .tc main_arg1))) :=
  (keepH _ (by decide)).trans (atG_v66 V)

theorem atH_v73 (V : Valuation τ sig (Elt F)) : UH V (Proc.devRef .tc main_v73) = (c_v73 (V (Proc.devRef .tc main_arg0)) (V (Proc.devRef .tc main_arg1))) :=
  (keepH _ (by decide)).trans (atG_v73 V)

theorem atI_v124 (V : Valuation τ sig (Elt F)) : UI V (Proc.devRef .tc main_v124) = (c_v124 (V (Proc.devRef .tc main_arg0)) (V (Proc.devRef .tc main_arg1)) (V (Proc.devRef .tc main_arg2)) (V (Proc.devRef .tc main_arg3)) (V (Proc.devRef .tc main_arg4)) (V (Proc.devRef .tc main_arg5))) := by
  rw [UI, readI_v124, atH_v52, atH_v73, atH_v110]
  rfl

theorem atI_arg0 (V : Valuation τ sig (Elt F)) : UI V (Proc.devRef .tc main_arg0) = (V (Proc.devRef .tc main_arg0)) :=
  (keepI _ (by decide)).trans (atH_arg0 V)

theorem atI_arg1 (V : Valuation τ sig (Elt F)) : UI V (Proc.devRef .tc main_arg1) = (V (Proc.devRef .tc main_arg1)) :=
  (keepI _ (by decide)).trans (atH_arg1 V)

theorem atI_arg2 (V : Valuation τ sig (Elt F)) : UI V (Proc.devRef .tc main_arg2) = (V (Proc.devRef .tc main_arg2)) :=
  (keepI _ (by decide)).trans (atH_arg2 V)

theorem atI_arg3 (V : Valuation τ sig (Elt F)) : UI V (Proc.devRef .tc main_arg3) = (V (Proc.devRef .tc main_arg3)) :=
  (keepI _ (by decide)).trans (atH_arg3 V)

theorem atI_arg4 (V : Valuation τ sig (Elt F)) : UI V (Proc.devRef .tc main_arg4) = (V (Proc.devRef .tc main_arg4)) :=
  (keepI _ (by decide)).trans (atH_arg4 V)

theorem atI_arg5 (V : Valuation τ sig (Elt F)) : UI V (Proc.devRef .tc main_arg5) = (V (Proc.devRef .tc main_arg5)) :=
  (keepI _ (by decide)).trans (atH_arg5 V)

theorem atI_v39 (V : Valuation τ sig (Elt F)) : UI V (Proc.devRef .tc main_v39) = (c_v39 (V (Proc.devRef .tc main_arg0)) (V (Proc.devRef .tc main_arg1))) :=
  (keepI _ (by decide)).trans (atH_v39 V)

theorem atI_v59 (V : Valuation τ sig (Elt F)) : UI V (Proc.devRef .tc main_v59) = (c_v59 (V (Proc.devRef .tc main_arg0)) (V (Proc.devRef .tc main_arg1))) :=
  (keepI _ (by decide)).trans (atH_v59 V)

theorem atI_v66 (V : Valuation τ sig (Elt F)) : UI V (Proc.devRef .tc main_v66) = (c_v66 (V (Proc.devRef .tc main_arg0)) (V (Proc.devRef .tc main_arg1))) :=
  (keepI _ (by decide)).trans (atH_v66 V)

theorem atJ_v154 (V : Valuation τ sig (Elt F)) : UJ V (Proc.devRef .tc main_v154) = (c_v154 (V (Proc.devRef .tc main_arg0)) (V (Proc.devRef .tc main_arg1)) (V (Proc.devRef .tc main_arg2)) (V (Proc.devRef .tc main_arg3)) (V (Proc.devRef .tc main_arg4)) (V (Proc.devRef .tc main_arg5))) := by
  rw [UJ, readJ_v154, atI_v59, atI_v66, atI_v124]
  rfl

theorem atJ_arg0 (V : Valuation τ sig (Elt F)) : UJ V (Proc.devRef .tc main_arg0) = (V (Proc.devRef .tc main_arg0)) :=
  (keepJ _ (by decide)).trans (atI_arg0 V)

theorem atJ_arg1 (V : Valuation τ sig (Elt F)) : UJ V (Proc.devRef .tc main_arg1) = (V (Proc.devRef .tc main_arg1)) :=
  (keepJ _ (by decide)).trans (atI_arg1 V)

theorem atJ_arg2 (V : Valuation τ sig (Elt F)) : UJ V (Proc.devRef .tc main_arg2) = (V (Proc.devRef .tc main_arg2)) :=
  (keepJ _ (by decide)).trans (atI_arg2 V)

theorem atJ_arg3 (V : Valuation τ sig (Elt F)) : UJ V (Proc.devRef .tc main_arg3) = (V (Proc.devRef .tc main_arg3)) :=
  (keepJ _ (by decide)).trans (atI_arg3 V)

theorem atJ_arg4 (V : Valuation τ sig (Elt F)) : UJ V (Proc.devRef .tc main_arg4) = (V (Proc.devRef .tc main_arg4)) :=
  (keepJ _ (by decide)).trans (atI_arg4 V)

theorem atJ_arg5 (V : Valuation τ sig (Elt F)) : UJ V (Proc.devRef .tc main_arg5) = (V (Proc.devRef .tc main_arg5)) :=
  (keepJ _ (by decide)).trans (atI_arg5 V)

theorem atJ_v39 (V : Valuation τ sig (Elt F)) : UJ V (Proc.devRef .tc main_v39) = (c_v39 (V (Proc.devRef .tc main_arg0)) (V (Proc.devRef .tc main_arg1))) :=
  (keepJ _ (by decide)).trans (atI_v39 V)

/-- On every device, from any memory with zero counters: every weakly fair execution of the program terminates with
    the results at the composed functions of the arguments, the arguments unchanged and every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v154) = c_v154 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v39) = c_v39 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => ⟨(h c main_v154).trans ((congrFun (after_ops _) _).trans (atJ_v154 _)),
      (h c main_v39).trans ((congrFun (after_ops _) _).trans (atJ_v39 _)),
      (h c main_arg0).trans ((congrFun (after_ops _) _).trans (atJ_arg0 _)),
      (h c main_arg1).trans ((congrFun (after_ops _) _).trans (atJ_arg1 _)),
      (h c main_arg2).trans ((congrFun (after_ops _) _).trans (atJ_arg2 _)),
      (h c main_arg3).trans ((congrFun (after_ops _) _).trans (atJ_arg3 _)),
      (h c main_arg4).trans ((congrFun (after_ops _) _).trans (atJ_arg4 _)),
      (h c main_arg5).trans ((congrFun (after_ops _) _).trans (atJ_arg5 _))⟩, sem_eq_zero_of_no_sems rfl r.2⟩)
    (run_seq scopedRefs_eq scopedSems_eq defs main (fun _ => ops) main_eq (fun _ => ops_sub) m ρ)

end Cert.ReferenceIdeal.Whole

end
-- ==== Proof.RefOps.lean ====
/- The reference's sorts, gathers, scatters, running sums and row maxima at exact arithmetic, each read at an index. -/
module

public import proofs.«01_k».proof.Proof.Spec
public import proofs.«01_k».proof.Proof.ReferenceRun
public import Idealize.ShloMosaic.Lib.SortPrefix
public import Idealize.ShloMosaic.Lib.Pointwise
public import Idealize.ShloMosaic.Lib.Pointwise.IndexBridge
public import Idealize.ShloMosaic.Lib.Routing.OpsSet
public import Idealize.ShloMosaic.Lib.Routing.OpsPair
public import Idealize.ShloMosaic.Lib.Routing.OpsOne

@[expose] public section

set_option maxRecDepth 16384

noncomputable section

namespace Cert.ReferenceIdeal.Whole

open Cert.ReferenceIdeal Cert.ReferenceIdeal.Gen Cert.Value
open Idealize.ShloMosaic Idealize.ShloMosaic.TcCoe

/-! ## Stable sorts -/

theorem insertBefore_congr {ι : Type} (B B' : ι → ι → Bool) (a : ι) :
    ∀ l : List ι, (∀ b ∈ l, B b a = B' b a) → insertBefore B a l = insertBefore B' a l
  | [], _ => rfl
  | b :: l, h => by
    unfold insertBefore
    rw [h b (List.mem_cons_self ..), insertBefore_congr B B' a l fun c hc => h c (List.mem_cons_of_mem _ hc)]

theorem stableSort_congr {ι : Type} (B B' : ι → ι → Bool) :
    ∀ l : List ι, l.Pairwise (fun a b => B b a = B' b a) → stableSort B l = stableSort B' l
  | [], _ => rfl
  | a :: l, h => by
    have h1 := List.pairwise_cons.1 h
    show insertBefore B a (stableSort B l) = insertBefore B' a (stableSort B' l)
    rw [stableSort_congr B B' l h1.2]
    exact insertBefore_congr B B' a _ fun b hb => h1.1 b ((perm_stableSort B' l).mem_iff.1 hb)

/-- Two orders that agree on every later entry against every earlier one sort alike. -/
theorem sortedFrom_congr {n : ℕ} (B B' : Fin n → Fin n → Bool) (h : ∀ i j, i < j → B j i = B' j i) :
    sortedFrom B = sortedFrom B' := by
  have e : sortPositions n B = sortPositions n B' :=
    stableSort_congr B B' _ ((List.pairwise_lt_finRange n).imp fun {a b} hab => h a b hab)
  funext k
  unfold sortedFrom
  simp only [List.get_eq_getElem, e]
  rfl

/-! ## The last write -/

theorem foldl_skip {α : Type} {N : ℕ} (P : Fin N → Prop) [DecidablePred P] (g : Fin N → α) :
    ∀ (l : List (Fin N)), (∀ n ∈ l, ¬ P n) → ∀ x, l.foldl (fun a n => if P n then g n else a) x = x
  | [], _, _ => rfl
  | a :: l, h, x => by
    rw [List.foldl_cons, if_neg (h a (List.mem_cons_self ..))]
    exact foldl_skip P g l (fun n hn => h n (List.mem_cons_of_mem _ hn)) x

theorem foldl_last {α : Type} {N : ℕ} (P : Fin N → Prop) [DecidablePred P] (g : Fin N → α) (k : Fin N) (hk : P k)
    (hl : ∀ n, k < n → ¬ P n) :
    ∀ (l : List (Fin N)), l.Pairwise (· < ·) → k ∈ l → ∀ x, l.foldl (fun a n => if P n then g n else a) x = g k
  | [], _, hm, _ => absurd hm List.not_mem_nil
  | a :: l, hp, hm, x => by
    have h1 := List.pairwise_cons.1 hp
    rw [List.foldl_cons]
    rcases List.mem_cons.1 hm with e | hm'
    · subst e
      rw [if_pos hk]
      exact foldl_skip P g l (fun n hn => hl n (h1.1 n hn)) _
    · exact foldl_last P g k hk hl l h1.2 hm' _

/-- A write's result where the last landing update is known. -/
theorem scatter_last {α : Type} {s si u : Shape} {w : ℕ} (d : ScatterDims s si u) (x0 : s.Idx → α) (idx : IVec si w)
    (upd : u.Idx → α) (ι : s.Idx) (k : u.Idx) (hk : d.resultIdx? k idx = some ι)
    (hl : ∀ k', u.rowMajor k < u.rowMajor k' → d.resultIdx? k' idx ≠ some ι) :
    Host.scatter d (fun _ b => b) x0 idx upd ι = upd k := by
  rw [Routing.scatter_at]
  refine (foldl_last (fun n => d.resultIdx? (u.rowMajor.symm n) idx = some ι) (fun n => upd (u.rowMajor.symm n))
    (u.rowMajor k) ?_ ?_ _ (List.pairwise_lt_finRange _) (List.mem_finRange _) _).trans ?_
  · rw [Equiv.symm_apply_apply]; exact hk
  · intro n hn
    exact hl _ (by rw [Equiv.apply_symm_apply]; exact hn)
  · rw [Equiv.symm_apply_apply]

/-! ## Where the updates land -/

theorem lands95 (idx : IVec S8192x2 32) (n : Fin 8192) (d' : Fin 1024) (e : Fin 16) (p : Fin 320) (d : Fin 1024) :
    scatter_S16x320x1024_S8192x2_S8192x1024_1_01_01_1.resultIdx? (ix2 n d') idx = some (ix3 e p d)
      ↔ (idx (ix2 n 0)).toInt = e.val ∧ (idx (ix2 n 1)).toInt = p.val ∧ d' = d := by
  rw [Routing.resultIdx?_eq_some]
  have s0 : scatter_S16x320x1024_S8192x2_S8192x1024_1_01_01_1.start (ix2 n d') idx 0 = (idx (ix2 n 0)).toInt := by
    unfold ScatterDims.start
    rw [dif_pos (by decide)]
    refine congrArg (fun i => (idx i).toInt) (funext fun b => ?_)
    match b with
    | ⟨0, _⟩ => rfl
    | ⟨1, _⟩ => rfl
  have s1 : scatter_S16x320x1024_S8192x2_S8192x1024_1_01_01_1.start (ix2 n d') idx 1 = (idx (ix2 n 1)).toInt := by
    unfold ScatterDims.start
    rw [dif_pos (by decide)]
    refine congrArg (fun i => (idx i).toInt) (funext fun b => ?_)
    match b with
    | ⟨0, _⟩ => rfl
    | ⟨1, _⟩ => rfl
  have s2 : scatter_S16x320x1024_S8192x2_S8192x1024_1_01_01_1.start (ix2 n d') idx 2 = 0 := by
    unfold ScatterDims.start
    rw [dif_neg (by decide)]
  have w0 : scatter_S16x320x1024_S8192x2_S8192x1024_1_01_01_1.window (ix2 n d') 0 = 0 := by
    unfold ScatterDims.window
    rw [dif_neg (by decide)]
  have w1 : scatter_S16x320x1024_S8192x2_S8192x1024_1_01_01_1.window (ix2 n d') 1 = 0 := by
    unfold ScatterDims.window
    rw [dif_neg (by decide)]
  have w2 : scatter_S16x320x1024_S8192x2_S8192x1024_1_01_01_1.window (ix2 n d') 2 = d'.val := by
    unfold ScatterDims.window
    rw [dif_pos (by decide)]
    rfl
  constructor
  · intro h
    have h0 := h 0
    have h1 := h 1
    have h2 := h 2
    rw [s0, w0] at h0
    rw [s1, w1] at h1
    rw [s2, w2] at h2
    change _ = ((e.val : ℕ) : Int) at h0
    change _ = ((p.val : ℕ) : Int) at h1
    change _ = ((d.val : ℕ) : Int) at h2
    exact ⟨by omega, by omega, Fin.ext (by omega)⟩
  · rintro ⟨h0, h1, rfl⟩ a
    match a with
    | ⟨0, _⟩ =>
      have : (scatter_S16x320x1024_S8192x2_S8192x1024_1_01_01_1.start (ix2 n d') idx 0
        + (scatter_S16x320x1024_S8192x2_S8192x1024_1_01_01_1.window (ix2 n d') 0 : Int)) = ((e.val : ℕ) : Int) := by
        rw [s0, w0, h0]; simp
      exact this
    | ⟨1, _⟩ =>
      have : (scatter_S16x320x1024_S8192x2_S8192x1024_1_01_01_1.start (ix2 n d') idx 1
        + (scatter_S16x320x1024_S8192x2_S8192x1024_1_01_01_1.window (ix2 n d') 1 : Int)) = ((p.val : ℕ) : Int) := by
        rw [s1, w1, h1]; simp
      exact this
    | ⟨2, _⟩ =>
      have : (scatter_S16x320x1024_S8192x2_S8192x1024_1_01_01_1.start (ix2 n d') idx 2
        + (scatter_S16x320x1024_S8192x2_S8192x1024_1_01_01_1.window (ix2 n d') 2 : Int)) = ((d'.val : ℕ) : Int) := by
        rw [s2, w2]; simp
      exact this

theorem lands136 (idx : IVec S8192x1 32) (n : Fin 8192) (d' : Fin 1024) (t : Fin 4096) (d : Fin 1024) :
    scatter_S4096x1024_S8192x1_S8192x1024_1_0_0_1.resultIdx? (ix2 n d') idx = some (ix2 t d)
      ↔ (idx (ix2 n 0)).toInt = t.val ∧ d' = d := by
  rw [Routing.resultIdx?_eq_some]
  have s0 : scatter_S4096x1024_S8192x1_S8192x1024_1_0_0_1.start (ix2 n d') idx 0 = (idx (ix2 n 0)).toInt := by
    unfold ScatterDims.start
    rw [dif_pos (by decide)]
    refine congrArg (fun i => (idx i).toInt) (funext fun b => ?_)
    match b with
    | ⟨0, _⟩ => rfl
    | ⟨1, _⟩ => rfl
  have s1 : scatter_S4096x1024_S8192x1_S8192x1024_1_0_0_1.start (ix2 n d') idx 1 = 0 := by
    unfold ScatterDims.start
    rw [dif_neg (by decide)]
  have w0 : scatter_S4096x1024_S8192x1_S8192x1024_1_0_0_1.window (ix2 n d') 0 = 0 := by
    unfold ScatterDims.window
    rw [dif_neg (by decide)]
  have w1 : scatter_S4096x1024_S8192x1_S8192x1024_1_0_0_1.window (ix2 n d') 1 = d'.val := by
    unfold ScatterDims.window
    rw [dif_pos (by decide)]
    rfl
  constructor
  · intro h
    have h0 := h 0
    have h1 := h 1
    rw [s0, w0] at h0
    rw [s1, w1] at h1
    change _ = ((t.val : ℕ) : Int) at h0
    change _ = ((d.val : ℕ) : Int) at h1
    exact ⟨by omega, Fin.ext (by omega)⟩
  · rintro ⟨h0, rfl⟩ a
    match a with
    | ⟨0, _⟩ =>
      have : (scatter_S4096x1024_S8192x1_S8192x1024_1_0_0_1.start (ix2 n d') idx 0
        + (scatter_S4096x1024_S8192x1_S8192x1024_1_0_0_1.window (ix2 n d') 0 : Int)) = ((t.val : ℕ) : Int) := by
        rw [s0, w0, h0]; simp
      exact this
    | ⟨1, _⟩ =>
      have : (scatter_S4096x1024_S8192x1_S8192x1024_1_0_0_1.start (ix2 n d') idx 1
        + (scatter_S4096x1024_S8192x1_S8192x1024_1_0_0_1.window (ix2 n d') 1 : Int)) = ((d'.val : ℕ) : Int) := by
        rw [s1, w1]; simp
      exact this

theorem lands144 (idx : IVec S8192x1 32) (n : Fin 8192) (t : Fin 4096) :
    scatter_S4096_S8192x1_S8192_n_0_0_1.resultIdx? (ix1 n) idx = some (ix1 t) ↔ (idx (ix2 n 0)).toInt = t.val := by
  rw [Routing.resultIdx?_eq_some]
  have s0 : scatter_S4096_S8192x1_S8192_n_0_0_1.start (ix1 n) idx 0 = (idx (ix2 n 0)).toInt := by
    unfold ScatterDims.start
    rw [dif_pos (by decide)]
    refine congrArg (fun i => (idx i).toInt) (funext fun b => ?_)
    match b with
    | ⟨0, _⟩ => rfl
    | ⟨1, _⟩ => rfl
  have w0 : scatter_S4096_S8192x1_S8192_n_0_0_1.window (ix1 n) 0 = 0 := by
    unfold ScatterDims.window
    rw [dif_neg (by decide)]
  constructor
  · intro h
    have h0 := h 0
    rw [s0, w0] at h0
    change _ = ((t.val : ℕ) : Int) at h0
    omega
  · rintro h0 a
    match a with
    | ⟨0, _⟩ =>
      have : (scatter_S4096_S8192x1_S8192_n_0_0_1.start (ix1 n) idx 0
        + (scatter_S4096_S8192x1_S8192_n_0_0_1.window (ix1 n) 0 : Int)) = ((t.val : ℕ) : Int) := by
        rw [s0, w0, h0]; simp
      exact this

/-! ## Gathers -/

theorem take8192 {α : Type} (x : S8192.Idx → α) (idx : IVec S8192x1 32) (n b : Fin 8192)
    (hb : idx (ix2 n 0) = BitVec.ofNat 32 b.val) :
    Host.gather gather_S8192_S8192x1_S8192_n_0_n_n_0_1_1 x idx (ix1 n) = x (ix1 b) := by
  rw [ix1_eq_valueIdx, ix1_eq_valueIdx]
  exact Routing.gather_take1 _ rfl rfl rfl rfl x idx n b (by rw [← ix2_eq_valueIdx]; exact hb) (by decide)

theorem rows4096 {α : Type} (x : S4096x1024.Idx → α) (idx : IVec S8192x1 32) (n : Fin 8192) (d : Fin 1024) (b : Fin 4096)
    (hb : idx (ix2 n 0) = BitVec.ofNat 32 b.val) :
    Host.gather gather_S4096x1024_S8192x1_S8192x1024_1_0_n_n_0_1_11024 x idx (ix2 n d) = x (ix2 b d) := by
  rw [ix2_eq_valueIdx n d, ix2_eq_valueIdx b d]
  exact Routing.gather_row _ rfl rfl rfl rfl rfl x idx n d b (by rw [← ix2_eq_valueIdx]; exact hb) (by decide)

theorem cells125 {α : Type} (x : S16x320x1024.Idx → α) (idx : IVec S8192x2 32) (n : Fin 8192) (d : Fin 1024) (e : Fin 16)
    (p : Fin 320) (h0 : idx (ix2 n 0) = BitVec.ofNat 32 e.val) (h1 : idx (ix2 n 1) = BitVec.ofNat 32 p.val) :
    Host.gather gather_S16x320x1024_S8192x2_S8192x1024_1_01_n_n_01_1_111024 x idx (ix2 n d) = x (ix3 e p d) := by
  unfold Host.gather
  refine congrArg x (funext fun a => Fin.ext ?_)
  let D := gather_S16x320x1024_S8192x2_S8192x1024_1_01_n_n_01_1_111024
  have s0 : D.start (ix2 n d) idx 0 = e.val := by
    unfold GatherDims.start
    rw [dif_pos (by decide)]
    have hi : idx (D.siIdx (ix2 n d) ⟨List.idxOf (0 : Fin S16x320x1024.rank) D.startIndexMap, List.idxOf_lt_length_iff.2 (by decide)⟩)
        = BitVec.ofNat 32 e.val := by
      rw [← h0]
      refine congrArg idx (funext fun b => ?_)
      match b with
      | ⟨0, _⟩ => rfl
      | ⟨1, _⟩ => rfl
    rw [hi, StableHlo.Predicate.toInt_ofNat_small _ (by have := e.isLt; omega)]
    show min ((e.val : Int).toNat) (16 - 1) = e.val
    have := e.isLt
    omega
  have s1 : D.start (ix2 n d) idx 1 = p.val := by
    unfold GatherDims.start
    rw [dif_pos (by decide)]
    have hi : idx (D.siIdx (ix2 n d) ⟨List.idxOf (1 : Fin S16x320x1024.rank) D.startIndexMap, List.idxOf_lt_length_iff.2 (by decide)⟩)
        = BitVec.ofNat 32 p.val := by
      rw [← h1]
      refine congrArg idx (funext fun b => ?_)
      match b with
      | ⟨0, _⟩ => rfl
      | ⟨1, _⟩ => rfl
    rw [hi, StableHlo.Predicate.toInt_ofNat_small _ (by have := p.isLt; omega)]
    show min ((p.val : Int).toNat) (320 - 1) = p.val
    have := p.isLt
    omega
  have s2 : D.start (ix2 n d) idx 2 = 0 := by
    unfold GatherDims.start
    rw [dif_neg (by decide)]
  have hb : ∀ a, D.batchCoord (ix2 n d) a = 0 := fun a => D.batchCoord_eq_zero _ a List.not_mem_nil
  have o0 : D.offCoord (ix2 n d) 0 = 0 := D.offCoord_eq_zero _ _ (by decide)
  have o1 : D.offCoord (ix2 n d) 1 = 0 := D.offCoord_eq_zero _ _ (by decide)
  have o2 : D.offCoord (ix2 n d) 2 = d.val := by
    unfold GatherDims.offCoord
    rw [dif_pos (by decide)]
    rfl
  match a with
  | ⟨0, _⟩ =>
    show D.start (ix2 n d) idx 0 + D.batchCoord (ix2 n d) 0 + D.offCoord (ix2 n d) 0 = e.val
    rw [s0, hb, o0]; rfl
  | ⟨1, _⟩ =>
    show D.start (ix2 n d) idx 1 + D.batchCoord (ix2 n d) 1 + D.offCoord (ix2 n d) 1 = p.val
    rw [s1, hb, o1]; rfl
  | ⟨2, _⟩ =>
    show D.start (ix2 n d) idx 2 + D.batchCoord (ix2 n d) 2 + D.offCoord (ix2 n d) 2 = d.val
    rw [s2, hb, o2]; omega

/-! ## Running sums -/

theorem foldl_add_nat {N : ℕ} (g : Fin N → EReal) (h : Fin N → ℕ) (hg : ∀ n, g n = ((h n : ℝ) : EReal)) :
    ∀ (l : List (Fin N)) (a : ℕ), l.foldl (fun r n => r + g n) ((a : ℝ) : EReal) = (((a + (l.map h).sum : ℕ) : ℝ) : EReal)
  | [], a => by simp
  | n :: l, a => by
    rw [List.foldl_cons, hg n, ← EReal.coe_add, ← Nat.cast_add, foldl_add_nat g h hg l (a + h n), List.map_cons,
      List.sum_cons, Nat.add_assoc]

theorem sum_list_range (f : ℕ → ℕ) : ∀ n, ((List.range n).map f).sum = ∑ i ∈ Finset.range n, f i
  | 0 => rfl
  | n + 1 => by
    rw [List.range_succ, List.map_append, List.sum_append, Finset.sum_range_succ, sum_list_range f n, List.map_singleton,
      List.sum_singleton]

theorem v68_at (x : FVec Ideal S8192x16 .f32) (f : ℕ → ℕ → ℕ)
    (hx : ∀ (i : Fin 8192) (c : Fin 16), x (ix2 i c) = ((f i.val c.val : ℝ) : EReal)) (j : Fin 8192) (c : Fin 16) :
    r_v68 (F := Ideal) x (ix2 j c) = (((∑ i ∈ Finset.range (j.val + 1), f i c.val : ℕ) : ℝ) : EReal) := by
  have hj := j.isLt
  have hc := c.isLt
  unfold r_v68 Host.reduceWindowAdd
  rw [Ideal.hostReduceWindowAdd_def]
  unfold Ideal.hostReduceWindowAdd Host.reduceWindow
  have hz : (broadcastInDim S_ ![] bcast_S_S_ (constant (F := Ideal) S_ .f32 0x00000000#32) : FVec Ideal S_ .f32)
      (Shape.Idx.first h_S_) = (((0 : ℕ) : ℝ) : EReal) := by
    pointwise
    rw [Nat.cast_zero, EReal.coe_zero]
  rw [hz]
  dsimp only
  refine (foldl_add_nat _ (fun n => if 8191 ≤ j.val + n.val then f (j.val + n.val - 8191) c.val else 0) (fun n => ?_) _ 0).trans ?_
  · have hw0 : ((Routing.shape2 8192 1).rowMajor.symm n 0).val = n.val := by rw [Routing.symm_col]; rfl
    have hw1 : ((Routing.shape2 8192 1).rowMajor.symm n 1).val = 0 := by rw [Routing.symm_col]; rfl
    have hn : n.val < 8192 := (n.cast (Routing.numel_col _)).isLt
    split
    · next hin =>
      have h0 := hin 0
      change 8191 ≤ j.val * 1 + ((Routing.shape2 8192 1).rowMajor.symm n 0).val
        ∧ j.val * 1 + ((Routing.shape2 8192 1).rowMajor.symm n 0).val - 8191 < 8192 at h0
      rw [hw0] at h0
      rw [if_pos (by omega)]
      refine (congrArg x (funext fun a => Fin.ext ?_)).trans (hx ⟨j.val + n.val - 8191, by omega⟩ c)
      match a with
      | ⟨0, _⟩ =>
        show j.val * 1 + ((Routing.shape2 8192 1).rowMajor.symm n 0).val - 8191 = j.val + n.val - 8191
        rw [hw0, Nat.mul_one]
      | ⟨1, _⟩ =>
        show c.val * 1 + ((Routing.shape2 8192 1).rowMajor.symm n 1).val - 0 = c.val
        rw [hw1]
        omega
    · next hin =>
      rw [if_neg fun hle => hin fun a => by
        match a with
        | ⟨0, _⟩ =>
          show 8191 ≤ j.val * 1 + ((Routing.shape2 8192 1).rowMajor.symm n 0).val
            ∧ j.val * 1 + ((Routing.shape2 8192 1).rowMajor.symm n 0).val - 8191 < 8192
          rw [hw0]
          omega
        | ⟨1, _⟩ =>
          show 0 ≤ c.val * 1 + ((Routing.shape2 8192 1).rowMajor.symm n 1).val ∧ c.val * 1 + ((Routing.shape2 8192 1).rowMajor.symm n 1).val - 0 < 16
          rw [hw1]
          omega]
  · rw [Nat.zero_add, Routing.map_finRange_val _ (fun w => if 8191 ≤ j.val + w then f (j.val + w - 8191) c.val else 0)]
    refine congrArg (fun q : ℕ => ((q : ℝ) : EReal)) ?_
    refine ((congrArg (fun M => ((List.range M).map fun w => if 8191 ≤ j.val + w then f (j.val + w - 8191) c.val else 0).sum)
      (Routing.numel_col 8192)).trans (Routing.sum_window (fun i => f i c.val) 8191 j.val (by omega))).trans ?_
    exact sum_list_range _ _

/-! ## The first maximum of a row -/

section Reducer
variable (p : Fin 16 → EReal)

/-- A running pair that the first maximum still replaces. -/
def Under (m : Fin 16) (a : EReal × BitVec 32) : Prop := a.1 < p m ∨ (a.1 = p m ∧ ∃ e : Fin 16, m < e ∧ a.2 = BitVec.ofNat 32 e.val)

theorem slt_fin (a b : Fin 16) : (BitVec.ofNat 32 a.val).slt (BitVec.ofNat 32 b.val) = decide (a < b) := by
  revert a b; decide

theorem reducer_eq (a b : EReal × BitVec 32) :
    reducer_argmax_f32_i32 (F := Ideal) a b
      = (if b.1 < a.1 then a.1 else b.1, if b.1 < a.1 ∨ (a.1 = b.1 ∧ a.2.slt b.2 = true) then a.2 else b.2) := by
  unfold reducer_argmax_f32_i32
  simp only [Ideal.cmpf_def, Ideal.cmp, IntOp.cmpi, IntOp.ori, IntOp.andi, Scalar.select]
  by_cases h2 : a.1 = b.1
  · have h1 : ¬ b.1 < a.1 := by rw [h2]; exact lt_irrefl _
    rcases Bool.eq_false_or_eq_true (a.2.slt b.2) with h3 | h3 <;> simp [h2, h3]
  · by_cases h1 : b.1 < a.1 <;> rcases Bool.eq_false_or_eq_true (a.2.slt b.2) with h3 | h3 <;> simp [h1, h2, h3]

variable {p} {m : Fin 16}

theorem red_MM : reducer_argmax_f32_i32 (F := Ideal) (p m, BitVec.ofNat 32 m.val) (p m, BitVec.ofNat 32 m.val) = (p m, BitVec.ofNat 32 m.val) := by
  rw [reducer_eq]; simp

theorem red_Mu (u : EReal × BitVec 32) (h : Under p m u) :
    reducer_argmax_f32_i32 (F := Ideal) (p m, BitVec.ofNat 32 m.val) u = (p m, BitVec.ofNat 32 m.val) := by
  rw [reducer_eq]
  rcases h with h | ⟨h, e, he, hw⟩
  · rw [if_pos h, if_pos (Or.inl h)]
  · rw [if_neg (by rw [h]; exact lt_irrefl _), if_pos (Or.inr ⟨h.symm, by rw [hw, slt_fin]; exact decide_eq_true he⟩), h]

theorem red_uM (u : EReal × BitVec 32) (h : Under p m u) :
    reducer_argmax_f32_i32 (F := Ideal) u (p m, BitVec.ofNat 32 m.val) = (p m, BitVec.ofNat 32 m.val) := by
  rw [reducer_eq]
  rcases h with h | ⟨h, e, he, hw⟩
  · rw [if_neg (not_lt.2 h.le), if_neg]
    rintro (h' | ⟨h', -⟩)
    · exact absurd h' (not_lt.2 h.le)
    · exact h.ne h'
  · have hn : ¬ p m < u.1 := by rw [h]; exact lt_irrefl _
    rw [if_neg hn, if_neg]
    rintro (h' | ⟨-, h'⟩)
    · exact hn h'
    · rw [hw, slt_fin] at h'
      exact absurd (of_decide_eq_true h') (not_lt.2 he.le)

theorem red_uu (u v : EReal × BitVec 32) (h : Under p m u) (h' : Under p m v) :
    Under p m (reducer_argmax_f32_i32 (F := Ideal) u v) := by
  rw [reducer_eq]
  by_cases c : v.1 < u.1
  · rw [if_pos c, if_pos (Or.inl c)]; exact h
  · rw [if_neg c]
    by_cases c' : u.1 = v.1 ∧ u.2.slt v.2 = true
    · rw [if_pos (Or.inr c'), ← c'.1]; exact h
    · rw [if_neg (by rintro (q | q); exacts [c q, c' q])]; exact h'

theorem under_of (hm : IsFirstMax p m) (e : Fin 16) (he : e ≠ m) : Under p m (p e, BitVec.ofNat 32 e.val) := by
  rcases lt_or_gt_of_ne he with h | h
  · exact Or.inl (hm.2 e h)
  · rcases (hm.1 e).lt_or_eq with h' | h'
    · exact Or.inl h'
    · exact Or.inr ⟨h', e, h, rfl⟩

theorem fold_M (hm : IsFirstMax p m) : ∀ l : List (EReal × BitVec 32), (∀ q ∈ l, ∃ e : Fin 16, q = (p e, BitVec.ofNat 32 e.val)) →
    l.foldl (reducer_argmax_f32_i32 (F := Ideal)) (p m, BitVec.ofNat 32 m.val) = (p m, BitVec.ofNat 32 m.val)
  | [], _ => rfl
  | q :: l, h => by
    rw [List.foldl_cons]
    obtain ⟨e, rfl⟩ := h q (List.mem_cons_self ..)
    by_cases he : e = m
    · rw [he, red_MM]; exact fold_M hm l fun q hq => h q (List.mem_cons_of_mem _ hq)
    · rw [red_Mu _ (under_of hm e he)]; exact fold_M hm l fun q hq => h q (List.mem_cons_of_mem _ hq)

theorem fold_under (hm : IsFirstMax p m) : ∀ l : List (EReal × BitVec 32), (∀ q ∈ l, ∃ e : Fin 16, q = (p e, BitVec.ofNat 32 e.val)) →
    (p m, BitVec.ofNat 32 m.val) ∈ l → ∀ u, Under p m u →
    l.foldl (reducer_argmax_f32_i32 (F := Ideal)) u = (p m, BitVec.ofNat 32 m.val)
  | [], _, hmem, _, _ => absurd hmem List.not_mem_nil
  | q :: l, h, hmem, u, hu => by
    rw [List.foldl_cons]
    obtain ⟨e, rfl⟩ := h q (List.mem_cons_self ..)
    by_cases he : e = m
    · rw [he, red_uM u hu]; exact fold_M hm l fun q hq => h q (List.mem_cons_of_mem _ hq)
    · refine fold_under hm l (fun q hq => h q (List.mem_cons_of_mem _ hq)) ?_ _ (red_uu u _ hu (under_of hm e he))
      rcases List.mem_cons.1 hmem with q | q
      · have q2 := congrArg Prod.snd q
        exact absurd (Fin.ext (by
          have := congrArg BitVec.toNat q2
          simp only [BitVec.toNat_ofNat] at this
          have := e.isLt; have := m.isLt; omega)) he
      · exact q

end Reducer

theorem v69_at (x : FVec Ideal S8192x16 .f32) (n : Fin 8192) (h : ∀ e, 0 ≤ x (ix2 n e)) :
    r_v69 (F := Ideal) x (ix1 n) = BitVec.ofNat 32 (firstMax fun e => x (ix2 n e)).val := by
  unfold r_v69
  dsimp only
  rw [Ideal.argReduce_eq_reduce2, Host.reduce2_eq_foldl_fiber]
  have hm := firstMax_spec fun e => x (ix2 n e)
  refine congrArg Prod.snd (fold_under (p := fun e => x (ix2 n e)) hm _ ?_ ?_ _ ?_)
  · intro q hq
    obtain ⟨k, hk, rfl⟩ := List.mem_map.1 hq
    have hd := of_decide_eq_true (List.mem_filter.1 hk).2
    obtain ⟨e, he⟩ := (Shape.ReducesTo.fiber_r2_a1 _ _ _).1 hd
    rw [← he]
    exact ⟨e, rfl⟩
  · refine List.mem_map.2 ⟨S8192x16.rowMajor (ix2 n (firstMax fun e => x (ix2 n e))), List.mem_filter.2 ⟨List.mem_finRange _, ?_⟩, ?_⟩
    · refine decide_eq_true ?_
      rw [Equiv.symm_apply_apply]
      exact (Shape.ReducesTo.fiber_r2_a1 _ _ _).2 ⟨_, rfl⟩
    · rw [Equiv.symm_apply_apply]; rfl
  · refine Or.inl (lt_of_lt_of_le ?_ (h _))
    have : (constant (F := Ideal) S_ .f32 0xFF800000#32 : FVec Ideal S_ .f32) (Shape.Idx.first h_S_) = ⊥ := word_ninf
    show (constant (F := Ideal) S_ .f32 0xFF800000#32 : FVec Ideal S_ .f32) (Shape.Idx.first h_S_) < 0
    rw [this]; exact EReal.bot_lt_zero

end Cert.ReferenceIdeal.Whole
-- ==== Proof.RefTop.lean ====
/- The reference's probabilities, its two best experts, and its loss. -/
module

public import proofs.«01_k».proof.Proof.RefOps

@[expose] public section

set_option maxRecDepth 16384

noncomputable section

namespace Cert.Value

open Idealize.ShloMosaic

/-- The chosen entry: the first maximum, then the second. -/
def pick (p : Fin 16 → EReal) (k : Fin 2) : Fin 16 := if k = 0 then firstMax p else second p

/-! ## Softmax rows of real numbers -/

/-- A softmax entry. -/
def smax (z : Fin 16 → EReal) (e : Fin 16) : EReal :=
  Ideal.div (Ideal.exp (z e - Finset.fold max ⊥ z Finset.univ)) (∑ e', Ideal.exp (z e' - Finset.fold max ⊥ z Finset.univ))

theorem sum_real {n : ℕ} (f : Fin n → EReal) (g : Fin n → ℝ) (h : ∀ i, f i = (g i : EReal)) : ∑ i, f i = ((∑ i, g i : ℝ) : EReal) := by
  rw [Finset.sum_congr rfl fun i _ => h i]
  refine (map_sum (⟨⟨fun r : ℝ => (r : EReal), EReal.coe_zero⟩, EReal.coe_add⟩ : ℝ →+ EReal) g Finset.univ).symm

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem smax_real (z : Fin 16 → EReal) (w : Fin 16 → ℝ) (hz : ∀ e, z e = (w e : EReal)) (e : Fin 16) :
    ∃ r : ℝ, 0 < r ∧ smax z e = (r : EReal) := by
  unfold smax
  rw [fold_max_firstMax]
  have he : ∀ e', Ideal.exp (z e' - z (firstMax z)) = ((Real.exp (w e' - w (firstMax z)) : ℝ) : EReal) := by
    intro e'
    rw [hz, hz, ← EReal.coe_sub]
    rfl
  rw [sum_real _ _ he, he]
  have hs : 0 < ∑ e', Real.exp (w e' - w (firstMax z)) := Finset.sum_pos (fun _ _ => Real.exp_pos _) ⟨0, Finset.mem_univ _⟩
  rw [div_real _ _ hs.ne']
  exact ⟨_, div_pos (Real.exp_pos _) hs, rfl⟩

end Cert.Value

namespace Cert.ReferenceIdeal.Whole

open Cert.ReferenceIdeal Cert.ReferenceIdeal.Gen Cert.Value
open Idealize.ShloMosaic Idealize.ShloMosaic.TcCoe

/-! ## The two best of a row -/

theorem sorted16 (p : Fin 16 → EReal) (h : ∀ e, 0 ≤ p e) (k : Fin 2) :
    sortedFrom (fun k k' => FloatOps.cmpfTotal (F := Ideal) (φ := .f32) .gt (p k) (p k') == 1#1) (k.castLE (by decide : 2 ≤ 16))
      = pick p k := by
  have hB := StrictTotalBefore.of_key_then_position (n := 16) (fun a b : EReal => decide (b < a)) p
    (fun a => decide_eq_false (lt_irrefl a))
    (fun a b c h1 h2 => decide_eq_true ((of_decide_eq_true h2).trans (of_decide_eq_true h1)))
    (fun a b => by
      rcases lt_trichotomy a b with q | q | q
      · exact Or.inr (Or.inr (decide_eq_true q))
      · exact Or.inr (Or.inl q)
      · exact Or.inl (decide_eq_true q))
  have hc := sortedFrom_congr (n := 16) (fun k k' => FloatOps.cmpfTotal (F := Ideal) (φ := .f32) .gt (p k) (p k') == 1#1)
    (fun k k' => decide (p k' < p k) || (decide (p k = p k') && decide (k < k'))) (by
      intro i j hij
      have hn : decide (j < i) = false := decide_eq_false (not_lt.2 hij.le)
      have hx : FloatOps.cmpfTotal (F := Ideal) (φ := .f32) .gt (p j) (p i) = BitVec.ofBool (decide (p i < p j)) := by
        rw [Ideal.cmpfTotal_def]; rfl
      show (FloatOps.cmpfTotal (F := Ideal) (φ := .f32) .gt (p j) (p i) == 1#1) = _
      rw [hx, hn, Bool.and_false, Bool.or_false]
      cases hd : decide (p i < p j) <;> rfl)
  rw [hc]
  have hsec := second_spec p h
  have hne := second_ne p h
  have hfm := firstMax_spec p
  refine hB.sortedFrom_eq_of_prefix (by decide) (pick p) ?_ ?_ ?_ k
  · intro a b hab
    unfold pick at hab
    by_cases ha : a = 0 <;> by_cases hb : b = 0
    · rw [ha, hb]
    · rw [if_pos ha, if_neg hb] at hab; exact absurd hab.symm hne
    · rw [if_neg ha, if_pos hb] at hab; exact absurd hab hne
    · omega
  · intro i j hij
    have hi : i = 0 := by omega
    have hj : j ≠ 0 := by omega
    have e1 : pick p j = second p := if_neg hj
    have e2 : pick p i = firstMax p := if_pos hi
    rw [e1, e2]
    refine Bool.or_eq_false_iff.2 ⟨decide_eq_false (not_lt.2 (hfm.1 _)), Bool.and_eq_false_iff.2 ?_⟩
    rcases lt_or_gt_of_ne hne with q | q
    · exact Or.inl (decide_eq_false (hfm.2 _ q).ne)
    · exact Or.inr (decide_eq_false (not_lt.2 q.le))
  · intro i q hq
    have q0 : q ≠ firstMax p := fun e => hq 0 e.symm
    have q1 : q ≠ second p := fun e => hq 1 e.symm
    by_cases hi : i = 0
    · rw [show pick p i = firstMax p from if_pos hi]
      refine Bool.or_eq_false_iff.2 ⟨decide_eq_false (not_lt.2 (hfm.1 _)), Bool.and_eq_false_iff.2 ?_⟩
      rcases lt_or_gt_of_ne q0 with q' | q'
      · exact Or.inl (decide_eq_false (hfm.2 _ q').ne)
      · exact Or.inr (decide_eq_false (not_lt.2 q'.le))
    · rw [show pick p i = second p from if_neg hi]
      refine Bool.or_eq_false_iff.2 ⟨decide_eq_false (not_lt.2 (hsec.1 q q0)), Bool.and_eq_false_iff.2 ?_⟩
      rcases lt_or_gt_of_ne q1 with q' | q'
      · exact Or.inl (decide_eq_false (hsec.2 q q0 q').ne)
      · exact Or.inr (decide_eq_false (not_lt.2 q'.le))

theorem sort2_row {A B : ℕ} {α β : Type} (cmp : α × β → α × β → BitVec 1) (x : (⟨2, ![A, B]⟩ : Shape).Idx → α)
    (y : (⟨2, ![A, B]⟩ : Shape).Idx → β) (a : Fin A) (q : Fin B) :
    (Host.sort2 ⟨2, ![A, B]⟩ 1 cmp x y).1 (ix2 a q)
        = x (ix2 a (sortedFrom (fun k k' => cmp (x (ix2 a k), y (ix2 a k)) (x (ix2 a k'), y (ix2 a k')) == 1#1) q))
      ∧ (Host.sort2 ⟨2, ![A, B]⟩ 1 cmp x y).2 (ix2 a q)
        = y (ix2 a (sortedFrom (fun k k' => cmp (x (ix2 a k), y (ix2 a k)) (x (ix2 a k'), y (ix2 a k')) == 1#1) q)) := by
  have hal : ∀ q' : Fin B, (ix2 a q : (⟨2, ![A, B]⟩ : Shape).Idx).along (⟨1, Nat.one_lt_two⟩ : Fin 2) q' = ix2 a q' := by
    intro q'
    funext b
    match b with
    | ⟨0, _⟩ => rfl
    | ⟨1, _⟩ => rfl
  unfold Host.sort2
  rw [dif_pos (show (1 : ℕ) < (⟨2, ![A, B]⟩ : Shape).rank from Nat.one_lt_two)]
  constructor
  · refine (congrArg x (hal _)).trans ?_
    exact congrArg (fun f : Fin B → Fin B → Bool => x (ix2 a (sortedFrom f q))) (funext fun k => funext fun k' =>
      congrArg₂ (fun u w => cmp (x u, y u) (x w, y w) == 1#1) (hal k) (hal k'))
  · refine (congrArg y (hal _)).trans ?_
    exact congrArg (fun f : Fin B → Fin B → Bool => y (ix2 a (sortedFrom f q))) (funext fun k => funext fun k' =>
      congrArg₂ (fun u w => cmp (x u, y u) (x w, y w) == 1#1) (hal k) (hal k'))

/-- The positions along a row. -/
abbrev pos16 : IVec S4096x16 32 := fun i => if hd : 1 < S4096x16.rank then iotaInDim S4096x16 32 ⟨1, hd⟩ i else 0#32

theorem slice2 {α : Type} (f : S4096x16.Idx → α) (t : Fin 4096) (k : Fin 2) :
    extractStridedSlice S4096x2 (fun _ => 0) f sliceFits_S4096x16_S4096x2 (ix2 t k) = f (ix2 t (k.castLE (by decide : 2 ≤ 16))) := by
  refine congrArg f (funext fun b => Fin.ext ?_)
  match b with
  | ⟨0, _⟩ => exact Nat.zero_add _
  | ⟨1, _⟩ => exact Nat.zero_add _

theorem values_at (v : FVec Ideal S4096x16 .f32) (t : Fin 4096) (h : ∀ e, 0 ≤ v (ix2 t e)) (k : Fin 2) :
    r_values (F := Ideal) v (ix2 t k) = v (ix2 t (pick (fun e => v (ix2 t e)) k)) := by
  refine (slice2 (Host.sort2 S4096x16 1 (fun l r => FloatOps.cmpfTotal (F := Ideal) (φ := .f32) .gt l.1 r.1) v pos16).1 t k).trans ?_
  rw [(sort2_row _ v pos16 t _).1]
  exact congrArg (fun q => v (ix2 t q)) (sorted16 (fun e => v (ix2 t e)) h k)

theorem indices_at (v : FVec Ideal S4096x16 .f32) (t : Fin 4096) (h : ∀ e, 0 ≤ v (ix2 t e)) (k : Fin 2) :
    r_indices (F := Ideal) v (ix2 t k) = BitVec.ofNat 32 (pick (fun e => v (ix2 t e)) k).val := by
  refine (slice2 (Host.sort2 S4096x16 1 (fun l r => FloatOps.cmpfTotal (F := Ideal) (φ := .f32) .gt l.1 r.1) v pos16).2 t k).trans ?_
  rw [(sort2_row _ v pos16 t _).2]
  refine (congrArg (fun q => pos16 (ix2 t q)) (sorted16 (fun e => v (ix2 t e)) h k)).trans ?_
  rfl

/-! ## The loads -/

theorem word_toInt (n : ℕ) (h : n < 2 ^ 31) : (BitVec.ofNat 32 n).toInt = n := StableHlo.Predicate.toInt_ofNat_small _ h

theorem wrap_word (n : ℕ) (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat]; exact lt_of_le_of_lt (Nat.mod_le _ _) h)

theorem v31_at (i : IVec S4096x2 32) (E : Choice) (hi : ∀ t k, i (ix2 t k) = BitVec.ofNat 32 (E t k).val) (t : Fin 4096) (k : Fin 2) :
    r_v31 (F := Ideal) i (ix3 t k 0) = BitVec.ofNat 32 t.val ∧ r_v31 (F := Ideal) i (ix3 t k 1) = BitVec.ofNat 32 (E t k).val := by
  constructor
  · pointwise [r_v31]
    exact wrap_word _ (by omega) _
  · pointwise [r_v31]
    rw [hi]
    exact wrap_word _ (by omega) _

theorem lands33 (idx : IVec S4096x2x2 32) (a : Fin 4096) (b : Fin 2) (r : Fin 4096) (c : Fin 16) :
    scatter_S4096x16_S4096x2x2_S4096x2_n_01_01_2.resultIdx? (ix2 a b) idx = some (ix2 r c)
      ↔ (idx (ix3 a b 0)).toInt = r.val ∧ (idx (ix3 a b 1)).toInt = c.val := by
  rw [ix2_eq_valueIdx, ix2_eq_valueIdx, ix3_eq_valueIdx, ix3_eq_valueIdx]
  exact Routing.scatter_lands2 _ rfl rfl rfl idx a b r c

theorem v33_at (i : IVec S4096x2x2 32) (E : Choice) (hE : ∀ t, E t 0 ≠ E t 1)
    (hi : ∀ t k, i (ix3 t k 0) = BitVec.ofNat 32 t.val ∧ i (ix3 t k 1) = BitVec.ofNat 32 (E t k).val) (t : Fin 4096) (e : Fin 16) :
    r_v33 (F := Ideal) i (ix2 t e) = ((hit E t.val e : ℝ) : EReal) := by
  have hl : ∀ (a : Fin 4096) (b : Fin 2), scatter_S4096x16_S4096x2x2_S4096x2_n_01_01_2.resultIdx? (ix2 a b) i = some (ix2 t e)
      ↔ a = t ∧ E a b = e := by
    intro a b
    rw [lands33, (hi a b).1, (hi a b).2, word_toInt _ (by omega), word_toInt _ (by omega)]
    constructor
    · rintro ⟨h1, h2⟩
      exact ⟨Fin.ext (by omega), Fin.ext (by omega)⟩
    · rintro ⟨rfl, rfl⟩
      exact ⟨rfl, rfl⟩
  have hone : ∀ k, (broadcastInDim S4096x2 ![] bcast_S_S4096x2 (constant (F := Ideal) S_ .f32 0x3F800000#32) : FVec Ideal S4096x2 .f32) k = 1 := by
    intro k
    idx_vars k
    pointwise
  have hzero : (broadcastInDim S4096x16 ![] bcast_S_S4096x16 (constant (F := Ideal) S_ .f32 0x00000000#32) : FVec Ideal S4096x16 .f32) (ix2 t e) = 0 := by
    pointwise
  have hh : hit E t.val e = (if e = E t 0 then 1 else 0) + (if e = E t 1 then 1 else 0) := dif_pos t.isLt
  have hit1 : ∀ k, E t k = e → hit E t.val e = 1 := by
    intro k hk
    rw [hh]
    have hne := hE t
    match k with
    | 0 => rw [if_pos hk.symm, if_neg (by rw [← hk]; exact hne)]
    | 1 => rw [if_pos hk.symm, if_neg (by rw [← hk]; exact hne.symm)]
  unfold r_v33
  by_cases h : ∃ k, E t k = e
  · obtain ⟨k, hk⟩ := h
    refine (Routing.scatter_set_hit _ _ _ _ _ (1 : EReal) (fun k' _ => hone k') (ix2 t k) ((hl t k).2 ⟨rfl, hk⟩)).trans ?_
    rw [hit1 k hk, Nat.cast_one, EReal.coe_one]
  · refine (Routing.scatter_set_miss _ _ _ _ _ fun k' hk' => ?_).trans ?_
    · obtain ⟨a, b, rfl⟩ : ∃ a b, k' = ix2 a b := ⟨k' 0, k' 1, by funext q; match q with | ⟨0, _⟩ => rfl | ⟨1, _⟩ => rfl⟩
      obtain ⟨rfl, hb⟩ := (hl a b).1 hk'
      exact h ⟨b, hb⟩
    · rw [hh, if_neg fun q => h ⟨0, q.symm⟩, if_neg fun q => h ⟨1, q.symm⟩, Nat.add_zero, Nat.cast_zero, EReal.coe_zero]
      exact hzero

theorem v34_at (v : FVec Ideal S4096x16 .f32) (E : Choice) (hv : ∀ (t : Fin 4096) e, v (ix2 t e) = ((hit E t.val e : ℝ) : EReal)) (e : Fin 16) :
    r_v34 (F := Ideal) v (ix1 e) = ((cnt E e : ℝ) : EReal) := by
  pointwise [r_v34]
  rw [sum_real _ (fun t : Fin 4096 => (hit E t.val e : ℝ)) fun t => hv t e]
  refine congrArg (fun r : ℝ => (r : EReal)) ?_
  rw [← Nat.cast_sum]
  refine congrArg (fun n : ℕ => (n : ℝ)) ?_
  exact Fin.sum_univ_eq_sum_range (fun i => hit E i e) 4096

theorem v39_at (x y : FVec Ideal S16 .f32) (a : Fin 16 → ℝ) (b : Fin 16 → ℝ) (hx : ∀ e, x (ix1 e) = (a e : EReal))
    (hy : ∀ e, y (ix1 e) = (b e : EReal)) :
    r_v39 (F := Ideal) x y ix0 = ((∑ e, a e * b e : ℝ) : EReal) * ((1 / 1048576 : ℝ) : EReal) := by
  pointwise [r_v39]
  rw [sum_real _ (fun e => a e * b e) fun e => by rw [hx, hy, ← EReal.coe_mul], word_16, word_256, word_2e24,
    div_real _ _ (by norm_num), ← EReal.coe_mul, div_real _ _ (by norm_num), ← EReal.coe_mul]
  refine congrArg (fun r : ℝ => (r : EReal)) ?_
  ring

end Cert.ReferenceIdeal.Whole
-- ==== Proof.Common.lean ====
/- What both programs are shown to compute: the routed feed-forward layer and the load-balancing loss, as plain functions. -/
module

public import proofs.«01_k».proof.Proof.RefTop

@[expose] public section

set_option maxRecDepth 16384

noncomputable section

namespace Cert.Value

open Idealize.ShloMosaic Idealize.ShloMosaic.TcCoe

/-- The Gaussian error linear unit. The second constant is the rounded square root of one half, the same in both programs. -/
def gelu (h : EReal) : EReal :=
  Ideal.ofBits FTy.f32 1056964608#32 * h * (1 + Ideal.erf (h * Ideal.ofBits FTy.f32 1060439283#32))

/-- The feed-forward layer of expert `e` on one row `x`, at output coordinate `d`. -/
def FF (W1 : Fin 16 → Fin 4096 → Fin 1024 → EReal) (b1 : Fin 16 → Fin 4096 → EReal) (W2 : Fin 16 → Fin 1024 → Fin 4096 → EReal)
    (b2 : Fin 16 → Fin 1024 → EReal) (e : Fin 16) (x : Fin 1024 → EReal) (d : Fin 1024) : EReal :=
  ∑ f, gelu (∑ i, x i * W1 e f i + b1 e f) * W2 e d f + b2 e d

/-- The probability of expert `e` for token `t`. -/
def prob (X : Fin 4096 → Fin 1024 → EReal) (G : Fin 16 → Fin 1024 → EReal) (t : Fin 4096) (e : Fin 16) : EReal :=
  smax (fun e' => ∑ i, X t i * G e' i) e

/-- The two experts of each token. -/
def chosen (X : Fin 4096 → Fin 1024 → EReal) (G : Fin 16 → Fin 1024 → EReal) : Choice := fun t k => pick (prob X G t) k

/-- Two rows weighted by two gates over the sum of the gates. -/
def mix (T g : Fin 2 → EReal) : EReal := Ideal.div (T 0 * g 0 + T 1 * g 1) (g 0 + g 1)

/-- The layer's output at token `t`, coordinate `d`. -/
def outSpec (X : Fin 4096 → Fin 1024 → EReal) (G : Fin 16 → Fin 1024 → EReal) (W1 : Fin 16 → Fin 4096 → Fin 1024 → EReal)
    (b1 : Fin 16 → Fin 4096 → EReal) (W2 : Fin 16 → Fin 1024 → Fin 4096 → EReal) (b2 : Fin 16 → Fin 1024 → EReal)
    (t : Fin 4096) (d : Fin 1024) : EReal :=
  mix (fun k => FF W1 b1 W2 b2 (chosen X G t k) (X (holder (chosen X G) t k)) d) (fun k => prob X G t (chosen X G t k))

/-- The loss. -/
def lossSpec (X : Fin 4096 → Fin 1024 → EReal) (G : Fin 16 → Fin 1024 → EReal) : EReal :=
  (∑ e, (∑ t, prob X G t e) * ((cnt (chosen X G) e : ℝ) : EReal)) * ((1 / 1048576 : ℝ) : EReal)

/-- Every entry is a real number. -/
def IsReal {A B : ℕ} (M : Fin A → Fin B → EReal) : Prop := ∀ a b, ∃ r : ℝ, M a b = (r : EReal)

theorem prob_real {X : Fin 4096 → Fin 1024 → EReal} {G : Fin 16 → Fin 1024 → EReal} (hX : IsReal X) (hG : IsReal G)
    (t : Fin 4096) (e : Fin 16) : ∃ r : ℝ, 0 < r ∧ prob X G t e = (r : EReal) := by
  choose x hx using hX
  choose g hg using hG
  refine smax_real _ (fun e' => ∑ i, x t i * g e' i) (fun e' => ?_) e
  exact sum_real _ _ fun i => by rw [hx, hg, ← EReal.coe_mul]

theorem prob_nonneg {X : Fin 4096 → Fin 1024 → EReal} {G : Fin 16 → Fin 1024 → EReal} (hX : IsReal X) (hG : IsReal G)
    (t : Fin 4096) (e : Fin 16) : 0 ≤ prob X G t e := by
  obtain ⟨r, hr, h⟩ := prob_real hX hG t e
  rw [h]; exact_mod_cast hr.le

theorem chosen_ne {X : Fin 4096 → Fin 1024 → EReal} {G : Fin 16 → Fin 1024 → EReal} (hX : IsReal X) (hG : IsReal G)
    (t : Fin 4096) : chosen X G t 0 ≠ chosen X G t 1 :=
  fun h => second_ne (prob X G t) (prob_nonneg hX hG t) h.symm

end Cert.Value
-- ==== Proof.KernelRegions.lean ====
/- What each region of the kernel leaves in its output arrays, as a function of what its input arrays hold. -/
module

public import proofs.«01_k».proof.Proof.KernelIdealRun
public import proofs.«01_k».proof.Proof.Common
public import Idealize.ShloMosaic.Lib.Pipeline.ValueKit

@[expose] public section

set_option maxRecDepth 16384

noncomputable section

namespace Cert.KernelIdeal.Whole

open Cert.KernelIdeal Cert.KernelIdeal.Gen Cert.Value
open Idealize.ShloMosaic Idealize.ShloMosaic.TcCoe
open Idealize.ShloMosaic.Pipeline (Dat)

variable (V : (c : Dev nD) → (b : Ref sig .tc) → Buf (Elt Ideal) ((c : Thread nD τ).loc b))

/-! ## The routing region: one point, whole arrays -/

theorem idx0 : ∀ t : Fin cfg0.N, win0_0.index t = ![0, 0] ∧ win0_1.index t = ![0, 0] ∧ win0_2.index t = ![0, 0]
    ∧ win0_3.index t = ![0, 0] ∧ win0_4.index t = ![0, 0] := by decide +kernel

theorem iblk0_0 (c : Dev nD) (t : Fin cfg0.N) : iblk0 V c 0 t = (V c main_v0 : Vec Ideal S4096x1024 .f32) := by
  funext x
  blk_simp [iblk0]
  blk_ext [idx0 t]

theorem iblk0_1 (c : Dev nD) (t : Fin cfg0.N) : iblk0 V c 1 t = (V c main_arg1 : Vec Ideal S16x1024 .f32) := by
  funext x
  blk_simp [iblk0]
  blk_ext [idx0 t]

theorem final0_2 (c : Dev nD) : (dat0 V c).arrAt 2 cfg0.N = out0_2 (F := Ideal) (V c main_v0) (V c main_arg1) := by
  refine (dat0 V c).arrAt_eq_of_covers 2 _ (by decide +kernel) fun t _ y => ?_
  blk_simp
  rw [after0_2, iblk0_0, iblk0_1]
  generalize out0_2 (F := Ideal) (V c main_v0) (V c main_arg1) = o
  blk_ext [idx0 t]

theorem final0_3 (c : Dev nD) : (dat0 V c).arrAt 3 cfg0.N = out0_3 (F := Ideal) (V c main_v0) (V c main_arg1) := by
  refine (dat0 V c).arrAt_eq_of_covers 3 _ (by decide +kernel) fun t _ y => ?_
  blk_simp
  rw [after0_3, iblk0_0, iblk0_1]
  generalize out0_3 (F := Ideal) (V c main_v0) (V c main_arg1) = o
  blk_ext [idx0 t]

theorem final0_4 (c : Dev nD) : (dat0 V c).arrAt 4 cfg0.N = out0_4 (F := Ideal) (V c main_v0) (V c main_arg1) := by
  refine (dat0 V c).arrAt_eq_of_covers 4 _ (by decide +kernel) fun t _ y => ?_
  blk_simp
  rw [after0_4, iblk0_0, iblk0_1]
  generalize out0_4 (F := Ideal) (V c main_v0) (V c main_arg1) = o
  blk_ext [idx0 t]

/-! ## The experts' region: four points per expert, one per quarter of the hidden units -/

theorem idx1 : ∀ t : Fin cfg1.N, win1_5.index t = ![t.val / 4, 0, 0] ∧ win1_0.index t = ![t.val / 4, 0, 0]
    ∧ win1_1.index t = ![t.val / 4, t.val % 4, 0] ∧ win1_2.index t = ![t.val / 4, 0, t.val % 4]
    ∧ win1_3.index t = ![t.val / 4, 0, t.val % 4] ∧ win1_4.index t = ![t.val / 4, 0, 0] := by decide +kernel

theorem pay1_at (x : Vec Ideal S1x2x1024 .f32) (w : Vec Ideal S1x1024x1024 .f32) (b : Vec Ideal S1x1x1024 .f32)
    (w2 : Vec Ideal S1x1024x1024 .f32) (r : Fin 2) (d : Fin 1024) : k1_pay1 (F := Ideal) x w b w2 (ix2 r d)
      = ∑ f, gelu (∑ i, x (ix3 0 r i) * w (ix3 0 f i) + b (ix3 0 0 f)) * w2 (ix3 0 d f) := by
  unfold gelu
  pointwise [k1_pay1]
  rfl

theorem pay2_at (x : Vec Ideal S1x2x1024 .f32) (w : Vec Ideal S1x1024x1024 .f32) (b : Vec Ideal S1x1x1024 .f32)
    (w2 : Vec Ideal S1x1024x1024 .f32) (a : Vec Ideal S1x1x1024 .f32) (u : Fin 1) (r : Fin 2) (d : Fin 1024) :
    k1_pay2 (F := Ideal) x w b w2 a (ix3 u r d) = k1_pay1 (F := Ideal) x w b w2 (ix2 r d) + a (ix3 0 0 d) := by
  unfold k1_pay2
  generalize k1_pay1 (F := Ideal) x w b w2 = v
  pointwise

theorem pay3_at (x : Vec Ideal S1x2x1024 .f32) (w : Vec Ideal S1x1024x1024 .f32) (b : Vec Ideal S1x1x1024 .f32)
    (w2 : Vec Ideal S1x1024x1024 .f32) (a : Vec Ideal S1x2x1024 .f32) (u : Fin 1) (r : Fin 2) (d : Fin 1024) :
    k1_pay3 (F := Ideal) x w b w2 a (ix3 u r d) = a (ix3 0 r d) + k1_pay1 (F := Ideal) x w b w2 (ix2 r d) := by
  unfold k1_pay3
  generalize k1_pay1 (F := Ideal) x w b w2 = v
  pointwise

/-- What quarter `k` of the hidden units adds to row `r` of expert `e`, at output coordinate `d`. -/
def part (x : Vec Ideal S16x2x1024 .f32) (w : Vec Ideal S16x4096x1024 .f32) (b : Vec Ideal S16x1x4096 .f32)
    (w2 : Vec Ideal S16x1024x4096 .f32) (e : Fin 16) (k : Fin 4) (r : Fin 2) (d : Fin 1024) : EReal :=
  ∑ f : Fin 1024, gelu (∑ i, x (ix3 e r i) * w (ix3 e ⟨k.val * 1024 + f.val, by omega⟩ i) + b (ix3 e 0 ⟨k.val * 1024 + f.val, by omega⟩))
    * w2 (ix3 e d ⟨k.val * 1024 + f.val, by omega⟩)

theorem part_of (x : Vec Ideal S16x2x1024 .f32) (w : Vec Ideal S16x4096x1024 .f32) (b : Vec Ideal S16x1x4096 .f32)
    (w2 : Vec Ideal S16x1024x4096 .f32) (x' : Vec Ideal S1x2x1024 .f32) (w' : Vec Ideal S1x1024x1024 .f32) (b' : Vec Ideal S1x1x1024 .f32)
    (w2' : Vec Ideal S1x1024x1024 .f32) (e : Fin 16) (k : Fin 4) (r : Fin 2) (d : Fin 1024)
    (h0 : ∀ i, x' (ix3 0 r i) = x (ix3 e r i)) (h1 : ∀ f i, w' (ix3 0 f i) = w (ix3 e ⟨k.val * 1024 + f.val, by omega⟩ i))
    (h2 : ∀ f, b' (ix3 0 0 f) = b (ix3 e 0 ⟨k.val * 1024 + f.val, by omega⟩))
    (h3 : ∀ f, w2' (ix3 0 d f) = w2 (ix3 e d ⟨k.val * 1024 + f.val, by omega⟩)) :
    k1_pay1 (F := Ideal) x' w' b' w2' (ix2 r d) = part x w b w2 e k r d := by
  refine (pay1_at x' w' b' w2' r d).trans ?_
  unfold part
  refine Finset.sum_congr rfl fun f _ => ?_
  rw [h2 f, h3 f, Finset.sum_congr rfl fun i _ => congrArg₂ (· * ·) (h0 i) (h1 f i)]

theorem div_lt16 (t : Fin cfg1.N) : t.val / 4 < 16 := by have := lt_of_lt_of_eq t.isLt N_1; omega

theorem term_at (c : Dev nD) (t : Fin cfg1.N) (r : Fin 2) (d : Fin 1024) :
    k1_pay1 (F := Ideal) (iblk1 V c 0 t) (iblk1 V c 1 t) (iblk1 V c 2 t) (iblk1 V c 3 t) (ix2 r d)
      = part (V c main_v2) (V c main_arg2) (V c main_v3) (V c main_arg4) ⟨t.val / 4, div_lt16 t⟩ ⟨t.val % 4, by omega⟩ r d := by
  have h0 : ∀ i, iblk1 V c 0 t (ix3 0 r i) = (V c main_v2 : Vec Ideal S16x2x1024 .f32) (ix3 ⟨t.val / 4, div_lt16 t⟩ r i) := by
    intro i; blk_simp [iblk1]; blk_ext [idx1 t]
  have h1 : ∀ f i, iblk1 V c 1 t (ix3 0 f i)
      = (V c main_arg2 : Vec Ideal S16x4096x1024 .f32) (ix3 ⟨t.val / 4, div_lt16 t⟩ ⟨t.val % 4 * 1024 + f.val, by omega⟩ i) := by
    intro f i; blk_simp [iblk1]; blk_ext [idx1 t]
  have h2 : ∀ f, iblk1 V c 2 t (ix3 0 0 f)
      = (V c main_v3 : Vec Ideal S16x1x4096 .f32) (ix3 ⟨t.val / 4, div_lt16 t⟩ 0 ⟨t.val % 4 * 1024 + f.val, by omega⟩) := by
    intro f; blk_simp [iblk1]; blk_ext [idx1 t]
  have h3 : ∀ f, iblk1 V c 3 t (ix3 0 d f)
      = (V c main_arg4 : Vec Ideal S16x1024x4096 .f32) (ix3 ⟨t.val / 4, div_lt16 t⟩ d ⟨t.val % 4 * 1024 + f.val, by omega⟩) := by
    intro f; blk_simp [iblk1]; blk_ext [idx1 t]
  exact part_of _ _ _ _ _ _ _ _ _ _ r d h0 h1 h2 h3

theorem outs_A (c : Dev nD) (t : Fin cfg1.N) (h : t.val % 4 = 0) (u : Fin 1) (r : Fin 2) (d : Fin 1024) :
    outsAt1 V c t.val t.isLt (ix3 u r d)
      = part (V c main_v2) (V c main_arg2) (V c main_v3) (V c main_arg4) ⟨t.val / 4, div_lt16 t⟩ ⟨t.val % 4, by omega⟩ r d
        + (V c main_v4 : Vec Ideal S16x1x1024 .f32) (ix3 ⟨t.val / 4, div_lt16 t⟩ 0 d) := by
  have h4 : iblk1 V c 4 t (ix3 0 0 d) = (V c main_v4 : Vec Ideal S16x1x1024 .f32) (ix3 ⟨t.val / 4, div_lt16 t⟩ 0 d) := by
    blk_simp [iblk1]; blk_ext [idx1 t]
  rw [outsAt1_A V c t h (by omega)]
  frame_out
  rw [← term_at, ← h4]
  exact pay2_at _ _ _ _ _ u r d

theorem outs_B (c : Dev nD) (t : Fin cfg1.N) (h : 1 ≤ t.val % 4) (u : Fin 1) (r : Fin 2) (d : Fin 1024) :
    outsAt1 V c t.val t.isLt (ix3 u r d)
      = outsAt1 V c (t.val - 1) (Nat.lt_of_le_of_lt (Nat.sub_le _ _) t.isLt) (ix3 0 r d)
        + part (V c main_v2) (V c main_arg2) (V c main_v3) (V c main_arg4) ⟨t.val / 4, div_lt16 t⟩ ⟨t.val % 4, by omega⟩ r d := by
  rw [outsAt1_B V c t (by omega) h]
  frame_out
  rw [← term_at]
  exact pay3_at _ _ _ _ _ u r d

/-- The four quarters and the second bias are the expert's layer. -/
theorem part_sum (x : Vec Ideal S16x2x1024 .f32) (w : Vec Ideal S16x4096x1024 .f32) (b : Vec Ideal S16x1x4096 .f32)
    (w2 : Vec Ideal S16x1024x4096 .f32) (b2 : Vec Ideal S16x1x1024 .f32) (e : Fin 16) (r : Fin 2) (d : Fin 1024) :
    part x w b w2 e 0 r d + b2 (ix3 e 0 d) + part x w b w2 e 1 r d + part x w b w2 e 2 r d + part x w b w2 e 3 r d
      = FF (fun e f i => w (ix3 e f i)) (fun e f => b (ix3 e 0 f)) (fun e d f => w2 (ix3 e d f)) (fun e d => b2 (ix3 e 0 d)) e
          (fun i => x (ix3 e r i)) d := by
  unfold FF
  have hs : ∑ k : Fin 4, part x w b w2 e k r d
      = ∑ f : Fin 4096, gelu (∑ i, x (ix3 e r i) * w (ix3 e f i) + b (ix3 e 0 f)) * w2 (ix3 e d f) := by
    unfold part
    exact Fin.sum_mul_add_congr fun s k hl => rfl
  rw [← hs, Fin.sum_univ_four]
  generalize part x w b w2 e 0 r d = p0
  generalize part x w b w2 e 1 r d = p1
  generalize part x w b w2 e 2 r d = p2
  generalize part x w b w2 e 3 r d = p3
  abel

theorem outs_last (c : Dev nD) (e : ℕ) (he : e < 16) (h : 4 * e + 3 < cfg1.N) (u : Fin 1) (r : Fin 2) (d : Fin 1024) :
    outsAt1 V c (4 * e + 3) h (ix3 u r d)
      = FF (fun e f i => (V c main_arg2 : Vec Ideal S16x4096x1024 .f32) (ix3 e f i)) (fun e f => (V c main_v3 : Vec Ideal S16x1x4096 .f32) (ix3 e 0 f))
          (fun e d f => (V c main_arg4 : Vec Ideal S16x1024x4096 .f32) (ix3 e d f)) (fun e d => (V c main_v4 : Vec Ideal S16x1x1024 .f32) (ix3 e 0 d)) ⟨e, he⟩
          (fun i => (V c main_v2 : Vec Ideal S16x2x1024 .f32) (ix3 ⟨e, he⟩ r i)) d := by
  have q : ∀ k : ℕ, k < 4 → (4 * e + k) / 4 = e ∧ (4 * e + k) % 4 = k := fun k hk => by omega
  have hA := outs_A V c ⟨4 * e + 0, by omega⟩ (q 0 (by decide)).2 0 r d
  have hB1 := outs_B V c ⟨4 * e + 1, by omega⟩ (by rw [(q 1 (by decide)).2]) 0 r d
  have hB2 := outs_B V c ⟨4 * e + 2, by omega⟩ (by rw [(q 2 (by decide)).2]; decide) 0 r d
  have hB3 := outs_B V c ⟨4 * e + 3, h⟩ (by rw [(q 3 (by decide)).2]; decide) u r d
  rw [← part_sum]
  simp only [q 0 (by decide), q 1 (by decide), q 2 (by decide), q 3 (by decide)] at hA hB1 hB2 hB3
  refine hB3.trans (congrArg₂ (· + ·) ?_ rfl)
  refine hB2.trans (congrArg₂ (· + ·) ?_ rfl)
  exact hB1.trans (congrArg₂ (· + ·) hA rfl)

/-- Every expert's layer on its two rows. -/
def experts (x : Vec Ideal S16x2x1024 .f32) (w : Vec Ideal S16x4096x1024 .f32) (b : Vec Ideal S16x1x4096 .f32)
    (w2 : Vec Ideal S16x1024x4096 .f32) (b2 : Vec Ideal S16x1x1024 .f32) : Vec Ideal S16x2x1024 .f32 := fun j =>
  FF (fun e f i => w (ix3 e f i)) (fun e f => b (ix3 e 0 f)) (fun e d f => w2 (ix3 e d f)) (fun e d => b2 (ix3 e 0 d)) (j 0)
    (fun i => x (ix3 (j 0) (j 1) i)) (j 2)

theorem flush1 : ∀ t : Fin cfg1.N, win1_5.flush t = true → t.val % 4 = 3 := by decide +kernel

theorem outs_at (c : Dev nD) (n n' : ℕ) (hn : n < cfg1.N) (hn' : n' < cfg1.N) (h : n = n') : outsAt1 V c n hn = outsAt1 V c n' hn' := by
  subst h; rfl

theorem outs_flush (c : Dev nD) (t : Fin cfg1.N) (h : t.val % 4 = 3) (u : Fin 1) (r : Fin 2) (d : Fin 1024) :
    outsAt1 V c t.val t.isLt (ix3 u r d)
      = experts (V c main_v2) (V c main_arg2) (V c main_v3) (V c main_arg4) (V c main_v4) (ix3 ⟨t.val / 4, div_lt16 t⟩ r d) := by
  have hq : t.val = 4 * (t.val / 4) + 3 := by omega
  have hn : 4 * (t.val / 4) + 3 < cfg1.N := lt_of_eq_of_lt hq.symm t.isLt
  rw [outs_at V c t.val (4 * (t.val / 4) + 3) t.isLt hn hq]
  exact outs_last V c (t.val / 4) (div_lt16 t) hn u r d

theorem final1_5 (c : Dev nD) : (dat1 V c).arrAt 5 cfg1.N
    = experts (V c main_v2) (V c main_arg2) (V c main_v3) (V c main_arg4) (V c main_v4) := by
  refine (dat1 V c).arrAt_eq_of_covers 5 _ (by decide +kernel) fun t hf y => ?_
  have h3 := flush1 t hf
  obtain ⟨u, r, d, rfl⟩ : ∃ (u : Fin 1) (r : Fin 2) (d : Fin 1024), y = ix3 u r d := ⟨y 0, y 1, y 2, (ix3_eta _).symm⟩
  blk_simp
  rw [after1_5]
  refine (outs_flush V c t h3 u r d).trans ?_
  generalize experts (V c main_v2) (V c main_arg2) (V c main_v3) (V c main_arg4) (V c main_v4) = o
  blk_ext [idx1 t]

/-! ## The combining region: eight points of 512 tokens -/

theorem idx2 : ∀ t : Fin cfg2.N, win2_0.index t = ![t.val, 0] ∧ win2_1.index t = ![0, 0] ∧ win2_2.index t = ![t.val, 0] := by decide +kernel

theorem kpay_at (x : Vec Ideal S512x32 .f32) (w : Vec Ideal S32x1024 .f32) (y : S512x1024.Idx) :
    k2_pay1 (F := Ideal) x w y = ∑ s, x (ix2 (y 0) s) * w (ix2 s (y 1)) := by
  idx_vars y
  pointwise [k2_pay1]

/-- The weights times the table. -/
def combined (m : Vec Ideal S4096x32 .f32) (tb : Vec Ideal S32x1024 .f32) : Vec Ideal S4096x1024 .f32 := fun j =>
  ∑ s : Fin 32, m (ix2 (j 0) s) * tb (ix2 s (j 1))

theorem final2_2 (c : Dev nD) : (dat2 V c).arrAt 2 cfg2.N = combined (V c main_v1_0) (V c main_v6) := by
  refine (dat2 V c).arrAt_eq_of_covers 2 _ (by decide +kernel) fun t hf y => ?_
  blk_simp
  rw [after2_2]
  frame_out
  refine (kpay_at (iblk2 V c 0 t) (iblk2 V c 1 t) y).trans ?_
  unfold combined
  blk_point [iblk2, idx2 t]

end Cert.KernelIdeal.Whole
-- ==== Proof.KernelTables.lean ====
/- What the routing region writes, at an index, in terms of the tokens and the gate. -/
module

public import proofs.«01_k».proof.Proof.KernelRoute
public import proofs.«01_k».proof.Proof.KernelRegions

@[expose] public section

set_option maxRecDepth 16384

noncomputable section

namespace Cert.KernelIdeal.Whole

open Cert.KernelIdeal Cert.KernelIdeal.Gen Cert.Value
open Idealize.ShloMosaic Idealize.ShloMosaic.TcCoe

/-- The rows of a token array. -/
def toks (x : Vec Ideal S4096x1024 .f32) : Fin 4096 → Fin 1024 → EReal := fun t i => x (ix2 t i)
/-- The rows of the gate. -/
def gates (g : Vec Ideal S16x1024 .f32) : Fin 16 → Fin 1024 → EReal := fun e i => g (ix2 e i)

variable (x : Vec Ideal S4096x1024 .f32) (g : Vec Ideal S16x1024 .f32)

theorem prow_eq (t : Fin 4096) (e : Fin 16) : prow x g t e = prob (toks x) (gates g) t e := by
  unfold prow prob smax toks gates
  pointwise [k0_pay2, k0_pay1]
  simp only [word_ninf]

theorem choice_eq : choice x g = chosen (toks x) (gates g) := by
  funext t k
  have h : prow x g t = prob (toks x) (gates g) t := funext fun e => prow_eq x g t e
  unfold choice chosen pick
  rw [h]

theorem pay3_val (t : Fin 4096) (e : Fin 16) : k0_pay3 (F := Ideal) (ix2 t e) = ((e.val : ℝ) : EReal) := by
  pointwise [k0_pay3]
  exact sitofp_ofNat _ (by omega)

theorem pay5_val (t : Fin 4096) : k0_pay5 x g (ix2 t 0) = (((choice x g t 0).val : ℝ) : EReal) := pay5_at x g t
theorem pay8_val (t : Fin 4096) : k0_pay8 x g (ix2 t 0) = (((choice x g t 1).val : ℝ) : EReal) := pay8_at x g t

theorem ld_x : View.ld x r0_0 = x := View.ld_unit_lit _ _ (by decide)
theorem ld_g : View.ld g r0_1 = g := View.ld_unit_lit _ _ (by decide)

theorem pay28_eq : k0_pay28 x g = k0_pay3 (F := Ideal) := rfl
theorem pay29_eq : k0_pay29 x g = k0_pay4 x g := by unfold k0_pay29; rw [ld_x, ld_g]
theorem pay30_eq : k0_pay30 x g = k0_pay5 x g := by unfold k0_pay30; rw [ld_x, ld_g]
theorem pay31_eq : k0_pay31 x g = k0_pay7 x g := by unfold k0_pay31; rw [ld_x, ld_g]
theorem pay32_eq : k0_pay32 x g = k0_pay8 x g := by unfold k0_pay32; rw [ld_x, ld_g]
theorem pay33_eq : k0_pay33 x g = k0_pay10 x g := by unfold k0_pay33; rw [ld_x, ld_g]
theorem pay34_eq : k0_pay34 x g = k0_pay11 x g := by unfold k0_pay34; rw [ld_x, ld_g]
theorem pay35_eq : k0_pay35 x g = k0_pay12 (k0_pay10 x g) (k0_pay11 x g) := by unfold k0_pay35; rw [pay33_eq, pay34_eq]
theorem pay36_eq : k0_pay36 x g = k0_pay13 (k0_pay10 x g) (k0_pay11 x g) := by unfold k0_pay36; rw [pay33_eq, pay34_eq]
theorem pay37_eq : k0_pay37 x g = k0_pay14 (k0_pay10 x g) (k0_pay11 x g) := by unfold k0_pay37; rw [pay33_eq, pay34_eq]

theorem canon2 (v : Vec Ideal S4096x32 .f32) : View.canon [⟨r0_2, v⟩] = v := View.canon_cons_unit_lit _ _ _ (by decide)
theorem canon3 (v : Vec Ideal S32x1024 .f32) : View.canon [⟨r0_3, v⟩] = v := View.canon_cons_unit_lit _ _ _ (by decide)
theorem canon4 (v : Vec Ideal S1x1 .f32) : View.canon [⟨r0_4, v⟩] = v := View.canon_cons_unit_lit _ _ _ (by decide)

/-- The number of the slot of each token's first choice, as the kernel holds it. -/
def slots0 : FVec Ideal S4096x1 .f32 := k0_pay18 (k0_pay3 (F := Ideal)) (k0_pay5 x g) (k0_pay10 x g) (k0_pay12 (k0_pay10 x g) (k0_pay11 x g)) (k0_pay13 (k0_pay10 x g) (k0_pay11 x g)) (k0_pay14 (k0_pay10 x g) (k0_pay11 x g))
/-- The number of the slot of each token's second choice, as the kernel holds it. -/
def slots1 : FVec Ideal S4096x1 .f32 := k0_pay19 (k0_pay3 (F := Ideal)) (k0_pay8 x g) (k0_pay11 x g) (k0_pay12 (k0_pay10 x g) (k0_pay11 x g)) (k0_pay13 (k0_pay10 x g) (k0_pay11 x g)) (k0_pay14 (k0_pay10 x g) (k0_pay11 x g))

theorem slots0_at (t : Fin 4096) : slots0 x g (ix2 t 0) = ((slot (choice x g) t 0 : ℝ) : EReal) :=
  pay18_at (choice x g) (k0_pay10 x g) (k0_pay11 x g) (pay10_at x g) (pay11_at x g) (k0_pay3 (F := Ideal)) (k0_pay5 x g) pay3_val (pay5_val x g) t
theorem slots1_at (t : Fin 4096) : slots1 x g (ix2 t 0) = ((slot (choice x g) t 1 : ℝ) : EReal) :=
  pay19_at (choice x g) (k0_pay10 x g) (k0_pay11 x g) (pay10_at x g) (pay11_at x g) (k0_pay3 (F := Ideal)) (k0_pay8 x g) pay3_val (pay8_val x g) t

/-- The weight of slot `j` for token `t`. -/
theorem weights_at (hX : IsReal (toks x)) (hG : IsReal (gates g)) (t : Fin 4096) (j : Fin 32) :
    out0_2 x g (ix2 t j)
      = Ideal.div ((if j.val = slot (chosen (toks x) (gates g)) t 0 then prob (toks x) (gates g) t (chosen (toks x) (gates g) t 0) else 0)
          + (if j.val = slot (chosen (toks x) (gates g)) t 1 then prob (toks x) (gates g) t (chosen (toks x) (gates g) t 1) else 0))
        (prob (toks x) (gates g) t (chosen (toks x) (gates g) t 0) + prob (toks x) (gates g) t (chosen (toks x) (gates g) t 1)) := by
  have hp : ∀ e, 0 ≤ prow x g t e := fun e => by rw [prow_eq]; exact prob_nonneg hX hG t e
  have h := pay25_at (fun k => slot (choice x g) t k) (k0_pay4 x g) (k0_pay7 x g) (k0_pay5 x g) (k0_pay8 x g) (slots0 x g) (slots1 x g)
    (k0_pay3 (F := Ideal)) (k0_pay10 x g) (k0_pay11 x g) (k0_pay12 (k0_pay10 x g) (k0_pay11 x g)) (k0_pay13 (k0_pay10 x g) (k0_pay11 x g)) (k0_pay14 (k0_pay10 x g) (k0_pay11 x g)) t j (slots0_at x g t) (slots1_at x g t)
  rw [pay4_at, pay7_at x g t hp] at h
  rw [← choice_eq, ← prow_eq, ← prow_eq]
  refine Eq.trans ?_ h
  unfold out0_2
  rw [canon2, pay28_eq, pay29_eq, pay30_eq, pay31_eq, pay32_eq, pay33_eq, pay34_eq, pay35_eq, pay36_eq, pay37_eq]

/-- The row of a taken slot is the row of the last token that takes it. -/
theorem winners_at (j : Fin 32) (t : Fin 4096) (k : Fin 2) (hl : IsLast (chosen (toks x) (gates g)) j.val t k) (d : Fin 1024) :
    out0_3 x g (ix2 j d) = toks x t d := by
  rw [← choice_eq] at hl
  have h := pay26_at (choice x g) (k0_pay1 x) (slots0 x g) (slots1 x g) (slots0_at x g) (slots1_at x g) j t k hl d
  refine Eq.trans ?_ (h.trans ?_)
  · unfold out0_3
    rw [canon3, ld_x, pay28_eq, pay30_eq, pay32_eq, pay33_eq, pay34_eq, pay35_eq, pay36_eq, pay37_eq]
    rfl
  · unfold toks
    pointwise [k0_pay1]

theorem loss_val : out0_4 x g (ix2 0 0) = lossSpec (toks x) (gates g) := by
  have h := pay27_at (k0_pay9 x g) (k0_pay17 (k0_pay13 (k0_pay10 x g) (k0_pay11 x g)) (k0_pay14 (k0_pay10 x g) (k0_pay11 x g)))
  refine Eq.trans ?_ (h.trans ?_)
  · unfold out0_4
    rw [canon4, ld_x, ld_g, pay36_eq, pay37_eq]
  · unfold lossSpec
    simp only [pay9_at, pay17_at (choice x g) (k0_pay10 x g) (k0_pay11 x g) (pay10_at x g) (pay11_at x g), prow_eq, choice_eq]

end Cert.KernelIdeal.Whole
-- ==== Proof.KernelEntry.lean ====
/- What each region of the kernel finds in its arrays, and what the program returns, through the reshapes between the regions. -/
module

public import proofs.«01_k».proof.Proof.KernelRegions

@[expose] public section

set_option maxRecDepth 16384

noncomputable section

namespace Cert.KernelIdeal.Whole

open Cert.KernelIdeal Cert.KernelIdeal.Gen Cert.Value
open Idealize.ShloMosaic Idealize.ShloMosaic.TcCoe

variable (m : (a : Loc nD τ sig) → Buf (Elt Ideal) a) (ρ : Dev nD → PrngReg)

theorem V1_v0 (c : Dev nD) : V1 m ρ c main_v0 = (shapeCast S4096x1024 (m ((c : Thread nD τ).loc main_arg0)) shapeCasts_S2x2048x1024_S4096x1024 : Vec Ideal S4096x1024 .f32) := by
  show StableHlo.after hostOps0 (W0 m ρ c) (Proc.devRef .tc main_v0) = _
  entry_read
  rfl

theorem V1_arg1 (c : Dev nD) : V1 m ρ c main_arg1 = m ((c : Thread nD τ).loc main_arg1) :=
  W1_args m ρ c main_arg1 (by decide)

theorem W2_v1_0 (c : Dev nD) : W2 m ρ c (Proc.devRef .tc main_v1_0) = out0_2 (F := Ideal) (V1 m ρ c main_v0) (V1 m ρ c main_arg1) :=
  (W2_arr m ρ c 2).trans (final0_2 (V1 m ρ) c)
theorem W2_v1_1 (c : Dev nD) : W2 m ρ c (Proc.devRef .tc main_v1_1) = out0_3 (F := Ideal) (V1 m ρ c main_v0) (V1 m ρ c main_arg1) :=
  (W2_arr m ρ c 3).trans (final0_3 (V1 m ρ) c)
theorem W2_v1_2 (c : Dev nD) : W2 m ρ c (Proc.devRef .tc main_v1_2) = out0_4 (F := Ideal) (V1 m ρ c main_v0) (V1 m ρ c main_arg1) :=
  (W2_arr m ρ c 4).trans (final0_4 (V1 m ρ) c)

theorem V3_v2 (c : Dev nD) : V3 m ρ c main_v2 = (shapeCast S16x2x1024 (W2 m ρ c (Proc.devRef .tc main_v1_1)) shapeCasts_S32x1024_S16x2x1024 : Vec Ideal S16x2x1024 .f32) := by
  show StableHlo.after hostOps1 (W2 m ρ c) (Proc.devRef .tc main_v2) = _
  generalize W2 m ρ c = σ
  entry_read
  rfl
theorem V3_v3 (c : Dev nD) : V3 m ρ c main_v3 = (shapeCast S16x1x4096 (m ((c : Thread nD τ).loc main_arg3)) shapeCasts_S16x4096_S16x1x4096 : Vec Ideal S16x1x4096 .f32) := by
  rw [← W2_args m ρ c main_arg3 (by decide)]
  show StableHlo.after hostOps1 (W2 m ρ c) (Proc.devRef .tc main_v3) = _
  generalize W2 m ρ c = σ
  entry_read
  rfl
theorem V3_v4 (c : Dev nD) : V3 m ρ c main_v4 = (shapeCast S16x1x1024 (m ((c : Thread nD τ).loc main_arg5)) shapeCasts_S16x1024_S16x1x1024 : Vec Ideal S16x1x1024 .f32) := by
  rw [← W2_args m ρ c main_arg5 (by decide)]
  show StableHlo.after hostOps1 (W2 m ρ c) (Proc.devRef .tc main_v4) = _
  generalize W2 m ρ c = σ
  entry_read
  rfl
theorem V3_arg2 (c : Dev nD) : V3 m ρ c main_arg2 = m ((c : Thread nD τ).loc main_arg2) :=
  W3_args m ρ c main_arg2 (by decide)
theorem V3_arg4 (c : Dev nD) : V3 m ρ c main_arg4 = m ((c : Thread nD τ).loc main_arg4) :=
  W3_args m ρ c main_arg4 (by decide)

theorem W4_v5 (c : Dev nD) : W4 m ρ c (Proc.devRef .tc main_v5) = experts (V3 m ρ c main_v2) (V3 m ρ c main_arg2) (V3 m ρ c main_v3) (V3 m ρ c main_arg4) (V3 m ρ c main_v4) :=
  (W4_arr m ρ c 5).trans (final1_5 (V3 m ρ) c)

theorem V5_v6 (c : Dev nD) : V5 m ρ c main_v6 = (shapeCast S32x1024 (W4 m ρ c (Proc.devRef .tc main_v5)) shapeCasts_S16x2x1024_S32x1024 : Vec Ideal S32x1024 .f32) := by
  show StableHlo.after hostOps2 (W4 m ρ c) (Proc.devRef .tc main_v6) = _
  generalize W4 m ρ c = σ
  entry_read
  rfl
theorem V5_v1_0 (c : Dev nD) : V5 m ρ c main_v1_0 = out0_2 (F := Ideal) (V1 m ρ c main_v0) (V1 m ρ c main_arg1) :=
  (W5_of m ρ c main_v1_0 (by decide)).trans ((W4_of m ρ c main_v1_0 (by decide +kernel)).trans
    ((W3_of m ρ c main_v1_0 (by decide)).trans (W2_v1_0 m ρ c)))

theorem W6_v7 (c : Dev nD) : W6 m ρ c (Proc.devRef .tc main_v7) = combined (V5 m ρ c main_v1_0) (V5 m ρ c main_v6) :=
  (W6_arr m ρ c 2).trans (final2_2 (V5 m ρ) c)
theorem W6_v1_2 (c : Dev nD) : W6 m ρ c (Proc.devRef .tc main_v1_2) = out0_4 (F := Ideal) (V1 m ρ c main_v0) (V1 m ρ c main_arg1) :=
  (W6_of m ρ c main_v1_2 (by decide +kernel)).trans ((W5_of m ρ c main_v1_2 (by decide)).trans
    ((W4_of m ρ c main_v1_2 (by decide +kernel)).trans ((W3_of m ρ c main_v1_2 (by decide)).trans (W2_v1_2 m ρ c))))

theorem W7_v8 (c : Dev nD) : W7 m ρ c (Proc.devRef .tc main_v8) = (shapeCast S2x2048x1024 (W6 m ρ c (Proc.devRef .tc main_v7)) shapeCasts_S4096x1024_S2x2048x1024 : Vec Ideal S2x2048x1024 .f32) := by
  show StableHlo.after hostOps3 (W6 m ρ c) (Proc.devRef .tc main_v8) = _
  generalize W6 m ρ c = σ
  entry_read
  rfl
theorem W7_v9 (c : Dev nD) : W7 m ρ c (Proc.devRef .tc main_v9) = (shapeCast S_ (W6 m ρ c (Proc.devRef .tc main_v1_2)) shapeCasts_S1x1_S_ : Vec Ideal S_ .f32) := by
  show StableHlo.after hostOps3 (W6 m ρ c) (Proc.devRef .tc main_v9) = _
  generalize W6 m ρ c = σ
  entry_read
  rfl

end Cert.KernelIdeal.Whole
-- ==== Proof.KernelValue.lean ====
/- The kernel's two results at an index, as the common plain functions. -/
module

public import proofs.«01_k».proof.Proof.KernelTables
public import proofs.«01_k».proof.Proof.KernelEntry

@[expose] public section

set_option maxRecDepth 16384

noncomputable section

namespace Cert.KernelIdeal.Whole

open Cert.KernelIdeal Cert.KernelIdeal.Gen Cert.Value
open Idealize.ShloMosaic Idealize.ShloMosaic.TcCoe

/-- Two weights placed at two different slots, each divided by their sum, weight the rows at these slots. -/
theorem combine_two (s : Fin 2 → Fin 32) (hs : s 0 ≠ s 1) (p : Fin 2 → EReal) (hp : ∀ k, ∃ r : ℝ, 0 < r ∧ p k = (r : EReal))
    (T : Fin 32 → EReal) :
    ∑ j : Fin 32, Ideal.div ((if j.val = (s 0).val then p 0 else 0) + (if j.val = (s 1).val then p 1 else 0)) (p 0 + p 1) * T j
      = mix (fun k => T (s k)) p := by
  obtain ⟨a, ha, h0⟩ := hp 0
  obtain ⟨b, hb, h1⟩ := hp 1
  have hsum : p 0 + p 1 = ((a + b : ℝ) : EReal) := by rw [h0, h1, EReal.coe_add]
  have hne : ((a + b : ℝ) : EReal) ≠ 0 := (EReal.coe_pos.2 (add_pos ha hb)).ne'
  have hdiv : ∀ z, Ideal.div z ((a + b : ℝ) : EReal) = z * (((a + b)⁻¹ : ℝ) : EReal) := fun z => by
    rw [Ideal.div, if_neg hne, EReal.coe_inv]
  have hinv : (0 : EReal) ≤ (((a + b)⁻¹ : ℝ) : EReal) := (EReal.coe_pos.2 (inv_pos.2 (add_pos ha hb))).le
  unfold mix
  simp only [hsum, hdiv]
  have hv : (s 0).val ≠ (s 1).val := fun h => hs (Fin.ext h)
  rw [Finset.sum_eq_add (s 0) (s 1) hs
    (fun j _ hj => by
      rw [if_neg fun h => hj.1 (Fin.ext h), if_neg fun h => hj.2 (Fin.ext h), add_zero, zero_mul, zero_mul])
    (fun h => absurd (Finset.mem_univ _) h) (fun h => absurd (Finset.mem_univ _) h)]
  rw [if_pos rfl, if_neg hv, if_neg hv.symm, if_pos rfl, add_zero, zero_add]
  rw [EReal.right_distrib_of_nonneg_of_ne_top hinv (EReal.coe_ne_top _)]
  congr 1 <;> rw [mul_comm, mul_assoc]

/-! ## The table of slots -/

variable (x : Vec Ideal S4096x1024 .f32) (g : Vec Ideal S16x1024 .f32) (a2 : Vec Ideal S16x4096x1024 .f32)
  (a3 : Vec Ideal S16x4096 .f32) (a4 : Vec Ideal S16x1024x4096 .f32) (a5 : Vec Ideal S16x1024 .f32)

/-- The slot of a token's choice, as an index. -/
def slotF (t : Fin 4096) (k : Fin 2) : Fin 32 := ⟨slot (chosen (toks x) (gates g)) t k, slot_lt _ t k⟩

theorem slot_half (E : Choice) (t : Fin 4096) (k : Fin 2) : slot E t k / 2 = (E t k).val := by
  unfold slot; split_ifs <;> omega

/-- The table the combining region reads. -/
def table : Vec Ideal S32x1024 .f32 :=
  shapeCast S32x1024 (experts (shapeCast S16x2x1024 (out0_3 (F := Ideal) x g) shapeCasts_S32x1024_S16x2x1024) a2
    (shapeCast S16x1x4096 a3 shapeCasts_S16x4096_S16x1x4096) a4 (shapeCast S16x1x1024 a5 shapeCasts_S16x1024_S16x1x1024))
    shapeCasts_S16x2x1024_S32x1024

theorem rows_at (v : Vec Ideal S32x1024 .f32) (e : Fin 16) (r : Fin 2) (i : Fin 1024) :
    (shapeCast S16x2x1024 v shapeCasts_S32x1024_S16x2x1024 : Vec Ideal S16x2x1024 .f32) (ix3 e r i)
      = v (ix2 ⟨e.val * 2 + r.val, by omega⟩ i) := by
  pointwise

theorem bias1_at (e : Fin 16) (f : Fin 4096) :
    (shapeCast S16x1x4096 a3 shapeCasts_S16x4096_S16x1x4096 : Vec Ideal S16x1x4096 .f32) (ix3 e 0 f) = a3 (ix2 e f) := by
  pointwise

theorem bias2_at (e : Fin 16) (d : Fin 1024) :
    (shapeCast S16x1x1024 a5 shapeCasts_S16x1024_S16x1x1024 : Vec Ideal S16x1x1024 .f32) (ix3 e 0 d) = a5 (ix2 e d) := by
  pointwise

theorem flat_at (v : Vec Ideal S16x2x1024 .f32) (j : Fin 32) (d : Fin 1024) :
    (shapeCast S32x1024 v shapeCasts_S16x2x1024_S32x1024 : Vec Ideal S32x1024 .f32) (ix2 j d)
      = v (ix3 ⟨j.val / 2, by omega⟩ ⟨j.val % 2, by omega⟩ d) := by
  pointwise

theorem FF_congr (W1 : Fin 16 → Fin 4096 → Fin 1024 → EReal) {b1 b1' : Fin 16 → Fin 4096 → EReal} (h1 : ∀ e f, b1 e f = b1' e f)
    (W2 : Fin 16 → Fin 1024 → Fin 4096 → EReal) {b2 b2' : Fin 16 → Fin 1024 → EReal} (h2 : ∀ e d, b2 e d = b2' e d) {e e' : Fin 16}
    (he : e = e') {r r' : Fin 1024 → EReal} (hr : ∀ i, r i = r' i) (d : Fin 1024) : FF W1 b1 W2 b2 e r d = FF W1 b1' W2 b2' e' r' d := by
  rw [funext fun e => funext (h1 e), funext fun e => funext (h2 e), he, funext hr]

theorem table_at (t : Fin 4096) (k : Fin 2) (d : Fin 1024) : table x g a2 a3 a4 a5 (ix2 (slotF x g t k) d)
    = FF (fun e f i => a2 (ix3 e f i)) (fun e f => a3 (ix2 e f)) (fun e d f => a4 (ix3 e d f)) (fun e d => a5 (ix2 e d))
        (chosen (toks x) (gates g) t k) (toks x (holder (chosen (toks x) (gates g)) t k)) d := by
  unfold table
  rw [flat_at]
  unfold experts
  have he : (⟨(slotF x g t k).val / 2, by omega⟩ : Fin 16) = chosen (toks x) (gates g) t k :=
    Fin.ext (slot_half _ t k)
  have hr : ∀ i, out0_3 (F := Ideal) x g (ix2 ⟨(slotF x g t k).val / 2 * 2 + (slotF x g t k).val % 2, by omega⟩ i)
      = toks x (holder (chosen (toks x) (gates g)) t k) i := fun i => by
    have hj : (⟨(slotF x g t k).val / 2 * 2 + (slotF x g t k).val % 2, by omega⟩ : Fin 32) = slotF x g t k := Fin.ext (by
      show (slotF x g t k).val / 2 * 2 + (slotF x g t k).val % 2 = (slotF x g t k).val; omega)
    rw [hj]
    exact winners_at x g (slotF x g t k) _ _ (holder_spec _ t k) i
  exact FF_congr _ (fun e f => bias1_at a3 e f) _ (fun e d => bias2_at a5 e d) he
    (fun i => (rows_at (out0_3 (F := Ideal) x g) ⟨(slotF x g t k).val / 2, by omega⟩ ⟨(slotF x g t k).val % 2, by omega⟩ i).trans (hr i)) d

/-- The combined rows. -/
theorem combined_at (hX : IsReal (toks x)) (hG : IsReal (gates g)) (t : Fin 4096) (d : Fin 1024) :
    combined (out0_2 (F := Ideal) x g) (table x g a2 a3 a4 a5) (ix2 t d)
      = outSpec (toks x) (gates g) (fun e f i => a2 (ix3 e f i)) (fun e f => a3 (ix2 e f)) (fun e d f => a4 (ix3 e d f))
          (fun e d => a5 (ix2 e d)) t d := by
  have hne : slotF x g t 0 ≠ slotF x g t 1 := fun h =>
    chosen_ne hX hG t ((slot_eq_iff _ t t 0 1).1 (congrArg Fin.val h)).1
  have hc := combine_two (slotF x g t) hne (fun k => prob (toks x) (gates g) t (chosen (toks x) (gates g) t k))
    (fun k => prob_real hX hG t _) (fun j => table x g a2 a3 a4 a5 (ix2 j d))
  unfold outSpec
  refine Eq.trans ?_ (hc.trans ?_)
  · show ∑ j : Fin 32, out0_2 (F := Ideal) x g (ix2 t j) * table x g a2 a3 a4 a5 (ix2 j d) = _
    exact Finset.sum_congr rfl fun j _ => by rw [weights_at x g hX hG t j]; rfl
  · exact congrArg (fun T => mix T _) (funext fun k => table_at x g a2 a3 a4 a5 t k d)

/-! ## The two results -/

/-- The tokens of the first argument, in reading order. -/
def rowsK (a0 : Vec Ideal S2x2048x1024 .f32) : Fin 4096 → Fin 1024 → EReal :=
  fun t i => a0 (ix3 ⟨t.val / 2048, by omega⟩ ⟨t.val % 2048, by omega⟩ i)

theorem toks_cast (a0 : Vec Ideal S2x2048x1024 .f32) :
    toks (shapeCast S4096x1024 a0 shapeCasts_S2x2048x1024_S4096x1024) = rowsK a0 := by
  funext t i
  unfold toks rowsK
  pointwise

theorem back_at (v : Vec Ideal S4096x1024 .f32) (a : Fin 2) (b : Fin 2048) (d : Fin 1024) :
    (shapeCast S2x2048x1024 v shapeCasts_S4096x1024_S2x2048x1024 : Vec Ideal S2x2048x1024 .f32) (ix3 a b d)
      = v (ix2 ⟨a.val * 2048 + b.val, by omega⟩ d) := by
  pointwise

theorem scalar_at (v : Vec Ideal S1x1 .f32) : (shapeCast S_ v shapeCasts_S1x1_S_ : Vec Ideal S_ .f32) ix0 = v (ix2 0 0) := by
  pointwise

variable (m : (a : Loc nD τ sig) → Buf (Elt Ideal) a) (ρ : Dev nD → PrngReg)

theorem out_at (c : Dev nD) (hX : IsReal (rowsK (m ((c : Thread nD τ).loc main_arg0))))
    (hG : IsReal (gates (m ((c : Thread nD τ).loc main_arg1)))) (a : Fin 2) (b : Fin 2048) (d : Fin 1024) :
    (W7 m ρ c (Proc.devRef .tc main_v8) : Vec Ideal S2x2048x1024 .f32) (ix3 a b d)
      = outSpec (rowsK (m ((c : Thread nD τ).loc main_arg0))) (gates (m ((c : Thread nD τ).loc main_arg1)))
          (fun e f i => (m ((c : Thread nD τ).loc main_arg2) : Vec Ideal S16x4096x1024 .f32) (ix3 e f i))
          (fun e f => (m ((c : Thread nD τ).loc main_arg3) : Vec Ideal S16x4096 .f32) (ix2 e f))
          (fun e d f => (m ((c : Thread nD τ).loc main_arg4) : Vec Ideal S16x1024x4096 .f32) (ix3 e d f))
          (fun e d => (m ((c : Thread nD τ).loc main_arg5) : Vec Ideal S16x1024 .f32) (ix2 e d))
          ⟨a.val * 2048 + b.val, by omega⟩ d := by
  rw [← toks_cast] at hX ⊢
  rw [W7_v8, back_at, W6_v7, V5_v1_0, V5_v6, W4_v5, V3_v2, V3_v3, V3_v4, V3_arg2, V3_arg4, W2_v1_1, V1_v0, V1_arg1]
  exact combined_at _ _ _ _ _ _ hX hG _ d

theorem loss_at (c : Dev nD) :
    (W7 m ρ c (Proc.devRef .tc main_v9) : Vec Ideal S_ .f32) ix0
      = lossSpec (rowsK (m ((c : Thread nD τ).loc main_arg0))) (gates (m ((c : Thread nD τ).loc main_arg1))) := by
  rw [← toks_cast, W7_v9, scalar_at, W6_v1_2, V1_v0, V1_arg1]
  exact loss_val _ _

end Cert.KernelIdeal.Whole
-- ==== Proof.SortedOrder.lean ====
/- The order in which the reference visits the entries: sorted by expert, entries of one expert in their own order; the
   number of earlier entries of each expert, the row's first maximum and the cell it names. -/
module

public import proofs.«01_k».proof.Proof.RefTop

@[expose] public section

set_option maxRecDepth 16384

noncomputable section

namespace Cert.Value

open Idealize.ShloMosaic

/-- The token of flat entry `f`. -/
def tk (f : Fin 8192) : Fin 4096 := ⟨f.val / 2, by omega⟩
/-- Which of its token's two entries flat entry `f` is. -/
def kk (f : Fin 8192) : Fin 2 := ⟨f.val % 2, by omega⟩
/-- The flat entry of a token's entry. -/
def flat (t : Fin 4096) (k : Fin 2) : Fin 8192 := ⟨2 * t.val + k.val, by omega⟩

theorem tk_flat (t : Fin 4096) (k : Fin 2) : tk (flat t k) = t := Fin.ext (by show (2 * t.val + k.val) / 2 = t.val; omega)
theorem kk_flat (t : Fin 4096) (k : Fin 2) : kk (flat t k) = k := Fin.ext (by show (2 * t.val + k.val) % 2 = k.val; omega)
theorem flat_tk (f : Fin 8192) : flat (tk f) (kk f) = f := Fin.ext (by show 2 * (f.val / 2) + f.val % 2 = f.val; omega)

variable (E : Choice)

/-- The expert of a flat entry. -/
def key (f : Fin 8192) : Fin 16 := E (tk f) (kk f)

/-- Before: by expert, then by position. -/
def bef (f g : Fin 8192) : Bool := decide (key E f < key E g) || (decide (key E f = key E g) && decide (f < g))

theorem bef_iff (f g : Fin 8192) : bef E f g = true ↔ key E f < key E g ∨ (key E f = key E g ∧ f < g) := by
  simp [bef]

theorem bef_total : StrictTotalBefore (bef E) :=
  StrictTotalBefore.of_key_then_position (n := 8192) (fun a b : Fin 16 => decide (a < b)) (key E)
    (fun a => decide_eq_false (lt_irrefl a))
    (fun a b c h1 h2 => decide_eq_true ((of_decide_eq_true h1).trans (of_decide_eq_true h2)))
    (fun a b => by
      rcases lt_trichotomy a b with q | q | q
      · exact Or.inl (decide_eq_true q)
      · exact Or.inr (Or.inl q)
      · exact Or.inr (Or.inr (decide_eq_true q)))

/-- The entry visited at step `n`. -/
def visit : Fin 8192 → Fin 8192 := sortedFrom (bef E)

theorem visit_inj : Function.Injective (visit E) := sortedFrom_injective (bef E)

/-- The visiting order as a bijection. -/
def visitE : Fin 8192 ≃ Fin 8192 := Equiv.ofBijective (visit E) ⟨sortedFrom_injective (bef E), sortedFrom_surjective (bef E)⟩

theorem visitE_apply (n : Fin 8192) : visitE E n = visit E n := by
  unfold visitE
  exact Equiv.ofBijective_apply _ _ _

theorem visit_lt {n m : Fin 8192} (h : n < m) : bef E (visit E n) (visit E m) = true := by
  have hB := bef_total E
  have h1 := sortedFrom_noInversion (bef E) (bef E) (fun a b => hB.asymm a b) (fun _ _ q => q) hB.negTrans n m h
  rcases hB.total (visit E n) (visit E m) (fun e => h.ne (visit_inj E e)) with q | q
  · exact q
  · have : bef E (visit E m) (visit E n) = false := h1
    rw [this] at q; exact absurd q (by decide)

theorem visit_lt_iff (n m : Fin 8192) : n < m ↔ bef E (visit E n) (visit E m) = true := by
  constructor
  · exact visit_lt E
  · intro h
    rcases lt_trichotomy n m with q | q | q
    · exact q
    · subst q; rw [(bef_total E).irrefl] at h; exact absurd h (by decide)
    · have := (bef_total E).asymm _ _ (visit_lt E q)
      rw [this] at h; exact absurd h (by decide)

/-! ## Counting -/

/-- Whether (one or zero) flat entry `g` has expert `e`. -/
def one (g : ℕ) (e : Fin 16) : ℕ := if h : g < 8192 then (if key E ⟨g, h⟩ = e then 1 else 0) else 0

theorem one_of (f : Fin 8192) (e : Fin 16) : one E f.val e = if key E f = e then 1 else 0 := dif_pos f.isLt

theorem one_even (t : ℕ) (ht : t < 4096) (e : Fin 16) : one E (2 * t) e = if e = E ⟨t, ht⟩ 0 then 1 else 0 := by
  rw [show (2 * t) = (flat ⟨t, ht⟩ 0).val from rfl, one_of]
  unfold key
  rw [tk_flat, kk_flat]
  by_cases h : e = E ⟨t, ht⟩ 0
  · rw [if_pos h, if_pos h.symm]
  · rw [if_neg h, if_neg fun q => h q.symm]

theorem one_odd (t : ℕ) (ht : t < 4096) (e : Fin 16) : one E (2 * t + 1) e = if e = E ⟨t, ht⟩ 1 then 1 else 0 := by
  rw [show (2 * t + 1) = (flat ⟨t, ht⟩ 1).val from rfl, one_of]
  unfold key
  rw [tk_flat, kk_flat]
  by_cases h : e = E ⟨t, ht⟩ 1
  · rw [if_pos h, if_pos h.symm]
  · rw [if_neg h, if_neg fun q => h q.symm]

theorem one_pairs (e : Fin 16) : ∀ m : ℕ, m ≤ 4096 → ∑ g ∈ Finset.range (2 * m), one E g e = before E m e
  | 0, _ => rfl
  | m + 1, h => by
    have hm : m < 4096 := h
    rw [show 2 * (m + 1) = 2 * m + 1 + 1 by omega, Finset.sum_range_succ, Finset.sum_range_succ, one_pairs e m hm.le, before_succ,
      one_even E m hm, one_odd E m hm, Nat.add_assoc]
    refine congrArg (before E m e + ·) ?_
    unfold hit
    rw [dif_pos hm]

/-- The number of steps up to `n` that visit an entry of expert `e`. -/
def seen (n : Fin 8192) (e : Fin 16) : ℕ := ∑ i ∈ Finset.range (n.val + 1), if h : i < 8192 then (if key E (visit E ⟨i, h⟩) = e then 1 else 0) else 0

theorem sum_le {N : ℕ} (f : ℕ → ℕ) (m : Fin N) : ∑ i ∈ Finset.range (m.val + 1), f i = ∑ i : Fin N, if i ≤ m then f i.val else 0 := by
  refine Eq.trans ?_ (Fin.sum_univ_eq_sum_range (fun i => if i ≤ m.val then f i else 0) N).symm
  rw [← Finset.sum_filter]
  refine Finset.sum_congr ?_ fun _ _ => rfl
  ext i
  simp only [Finset.mem_range, Finset.mem_filter]
  have := m.isLt
  omega

theorem seen_eq (n : Fin 8192) (e : Fin 16) :
    seen E n e = ∑ g : Fin 8192, if g = visit E n ∨ bef E g (visit E n) = true then one E g.val e else 0 := by
  unfold seen
  rw [sum_le]
  refine Eq.trans ?_ (Equiv.sum_comp (visitE E) fun g : Fin 8192 => if g = visit E n ∨ bef E g (visit E n) = true then one E g.val e else 0)
  refine Finset.sum_congr rfl fun i _ => ?_
  rw [visitE_apply, dif_pos i.isLt, one_of]
  refine if_congr ?_ rfl rfl
  rw [← visit_lt_iff, (visit_inj E).eq_iff, le_iff_lt_or_eq]
  exact or_comm

theorem seen_less (n : Fin 8192) (e : Fin 16) (h : e < key E (visit E n)) : seen E n e = cnt E e := by
  rw [seen_eq]
  have : ∀ g : Fin 8192, (if g = visit E n ∨ bef E g (visit E n) = true then one E g.val e else 0) = one E g.val e := by
    intro g
    by_cases hg : key E g = e
    · exact if_pos (Or.inr ((bef_iff E _ _).2 (Or.inl (by rw [hg]; exact h))))
    · rw [one_of, if_neg hg, ite_self]
  rw [Finset.sum_congr rfl fun g _ => this g, Fin.sum_univ_eq_sum_range (fun g => one E g e) 8192]
  exact one_pairs E e 4096 le_rfl

theorem seen_more (n : Fin 8192) (e : Fin 16) (h : key E (visit E n) < e) : seen E n e = 0 := by
  rw [seen_eq]
  refine Finset.sum_eq_zero fun g _ => ?_
  by_cases hg : key E g = e
  · refine if_neg ?_
    rintro (q | q)
    · rw [q] at hg; exact h.ne hg
    · rcases (bef_iff E _ _).1 q with q | q
      · rw [hg] at q; exact lt_asymm h q
      · rw [hg] at q; exact h.ne q.1.symm
  · rw [one_of, if_neg hg, ite_self]

variable (hE : ∀ t, E t 0 ≠ E t 1)
include hE

theorem one_upto (t : Fin 4096) (k : Fin 2) : ∑ g ∈ Finset.range ((flat t k).val + 1), one E g (E t k) = before E t.val (E t k) + 1 := by
  have ht := t.isLt
  match k with
  | 0 =>
    rw [show (flat t 0).val + 1 = 2 * t.val + 1 from rfl, Finset.sum_range_succ, one_pairs E _ t.val ht.le, one_even E t.val ht, if_pos rfl]
  | 1 =>
    rw [show (flat t 1).val + 1 = 2 * t.val + 1 + 1 from rfl, Finset.sum_range_succ, Finset.sum_range_succ, one_pairs E _ t.val ht.le,
      one_even E t.val ht, one_odd E t.val ht, if_neg (hE t).symm, if_pos rfl]

theorem seen_same (n : Fin 8192) :
    seen E n (key E (visit E n)) = before E (tk (visit E n)).val (key E (visit E n)) + 1 := by
  rw [seen_eq]
  have : ∀ g : Fin 8192, (if g = visit E n ∨ bef E g (visit E n) = true then one E g.val (key E (visit E n)) else 0)
      = if g ≤ visit E n then one E g.val (key E (visit E n)) else 0 := by
    intro g
    by_cases hg : key E g = key E (visit E n)
    · refine if_congr ?_ rfl rfl
      rw [bef_iff, le_iff_lt_or_eq]
      constructor
      · rintro (q | q | q)
        · exact Or.inr q
        · exact absurd hg q.ne
        · exact Or.inl q.2
      · rintro (q | q)
        · exact Or.inr (Or.inr ⟨hg, q⟩)
        · exact Or.inl q
    · rw [one_of, if_neg hg, ite_self, ite_self]
  rw [Finset.sum_congr rfl fun g _ => this g, ← sum_le (fun g => one E g (key E (visit E n))) (visit E n)]
  have := one_upto E hE (tk (visit E n)) (kk (visit E n))
  rw [flat_tk] at this
  exact this

/-! ## The first maximum and the cell -/

omit hE in
/-- The first of the fullest experts before `e`. -/
def early (E : Choice) (e : Fin 16) : Fin 16 := firstMax fun e' => (((if e' < e then cnt E e' else 0 : ℕ) : ℝ) : EReal)

/-- The expert whose count the reference takes at an entry. -/
def arg (E : Choice) (t : Fin 4096) (k : Fin 2) : Fin 16 := if late E t k then E t k else early E (E t k)

omit hE in
theorem cast_le (a b : ℕ) : (((a : ℝ) : EReal) ≤ ((b : ℝ) : EReal)) ↔ a ≤ b := by
  rw [EReal.coe_le_coe_iff, Nat.cast_le]
omit hE in
theorem cast_lt (a b : ℕ) : (((a : ℝ) : EReal) < ((b : ℝ) : EReal)) ↔ a < b := by
  rw [EReal.coe_lt_coe_iff, Nat.cast_lt]

omit hE in
theorem le_most (e e' : Fin 16) (h : e' < e) : cnt E e' ≤ most E e := by
  unfold most
  have := Finset.le_sup (f := fun e' : Fin 16 => if e' < e then cnt E e' else 0) (Finset.mem_univ e')
  rw [if_pos h] at this
  exact this

omit hE in
theorem early_max (e : Fin 16) : (∀ e', (if e' < e then cnt E e' else 0) ≤ (if early E e < e then cnt E (early E e) else 0))
    ∧ ∀ e', e' < early E e → (if e' < e then cnt E e' else 0) < (if early E e < e then cnt E (early E e) else 0) := by
  have h := firstMax_spec fun e' => (((if e' < e then cnt E e' else 0 : ℕ) : ℝ) : EReal)
  exact ⟨fun e' => (cast_le _ _).1 (h.1 e'), fun e' q => (cast_lt _ _).1 (h.2 e' q)⟩

omit hE in
theorem early_most (e : Fin 16) (h : 0 < most E e) : early E e < e ∧ most E e = cnt E (early E e) := by
  have hm := early_max E e
  have h1 : most E e ≤ (if early E e < e then cnt E (early E e) else 0) := Finset.sup_le fun e' _ => hm.1 e'
  by_cases q : early E e < e
  · rw [if_pos q] at h1
    exact ⟨q, le_antisymm h1 (le_most E e _ q)⟩
  · rw [if_neg q] at h1; omega

omit hE in
theorem early_lt (t : Fin 4096) (k : Fin 2) (h : ¬ late E t k) : early E (E t k) < E t k := by
  unfold late at h
  exact (early_most E (E t k) (by omega)).1

theorem firstMax_seen (n : Fin 8192) :
    firstMax (fun e => ((seen E n e : ℝ) : EReal)) = arg E (tk (visit E n)) (kk (visit E n)) := by
  refine (firstMax_spec _).unique ?_
  have hs := seen_same E hE n
  unfold arg
  by_cases h : late E (tk (visit E n)) (kk (visit E n))
  · rw [if_pos h]
    have h' : most E (key E (visit E n)) ≤ before E (tk (visit E n)).val (key E (visit E n)) := h
    show IsFirstMax _ (key E (visit E n))
    refine ⟨fun e' => (cast_le _ _).2 ?_, fun e' q => (cast_lt _ _).2 ?_⟩
    · rcases lt_trichotomy e' (key E (visit E n)) with q | q | q
      · rw [seen_less E n e' q, hs]; have := le_most E _ _ q; omega
      · rw [q]
      · rw [seen_more E n e' q]; exact Nat.zero_le _
    · rw [seen_less E n e' q, hs]; have := le_most E _ _ q; omega
  · rw [if_neg h]
    have h' : ¬ most E (key E (visit E n)) ≤ before E (tk (visit E n)).val (key E (visit E n)) := h
    show IsFirstMax _ (early E (key E (visit E n)))
    obtain ⟨h1, h2⟩ := early_most E (key E (visit E n)) (by omega)
    have hm := early_max E (key E (visit E n))
    rw [if_pos h1] at hm
    refine ⟨fun e' => (cast_le _ _).2 ?_, fun e' q => (cast_lt _ _).2 ?_⟩
    · rw [seen_less E n _ h1]
      rcases lt_trichotomy e' (key E (visit E n)) with q | q | q
      · rw [seen_less E n e' q]; have := hm.1 e'; rw [if_pos q] at this; exact this
      · rw [q, hs]; omega
      · rw [seen_more E n e' q]; exact Nat.zero_le _
    · rw [seen_less E n _ h1, seen_less E n e' (q.trans h1)]
      have := hm.2 e' q
      rw [if_pos (q.trans h1)] at this
      exact this

omit hE

/-- The column of an entry's cell. -/
def col (t : Fin 4096) (k : Fin 2) : Fin 320 :=
  ⟨if (arg E t k).val = 0 then 319 else (arg E t k).val - 1, by have := (arg E t k).isLt; split_ifs <;> omega⟩

theorem cell_iff (t t' : Fin 4096) (k k' : Fin 2) :
    (E t k = E t' k' ∧ col E t k = col E t' k') ↔ slot E t k = slot E t' k' := by
  rw [slot_eq_iff]
  refine and_congr_right fun he => ?_
  have hc : col E t k = col E t' k' ↔ arg E t k = arg E t' k' := by
    unfold col
    rw [Fin.mk.injEq, Fin.ext_iff]
    have := (arg E t k).isLt
    have := (arg E t' k').isLt
    split_ifs <;> omega
  rw [hc]
  unfold arg
  by_cases h : late E t k <;> by_cases h' : late E t' k'
  · rw [if_pos h, if_pos h']; exact ⟨fun _ => ⟨fun _ => h', fun _ => h⟩, fun _ => he⟩
  · rw [if_pos h, if_neg h', he]
    exact ⟨fun q => absurd q (early_lt E t' k' h').ne', fun q => absurd (q.1 h) h'⟩
  · rw [if_neg h, if_pos h', ← he]
    exact ⟨fun q => absurd q (early_lt E t k h).ne, fun q => absurd (q.2 h') h⟩
  · rw [if_neg h, if_neg h', he]; exact ⟨fun _ => ⟨fun q => absurd q h, fun q => absurd q h'⟩, fun _ => rfl⟩

end Cert.Value
-- ==== Proof.RefRoute.lean ====
/- The reference's routing: every named value from the sort to the cells, read at an index. -/
module

public import proofs.«01_k».proof.Proof.SortedOrder

@[expose] public section

set_option maxRecDepth 16384

noncomputable section

namespace Cert.ReferenceIdeal.Whole

open Cert.ReferenceIdeal Cert.ReferenceIdeal.Gen Cert.Value
open Idealize.ShloMosaic Idealize.ShloMosaic.TcCoe

theorem word_one (a e : Fin 16) :
    (FloatOps.uitofp (F := Ideal) (φ := .f32) (IntOp.cmpi .eq (BitVec.ofNat 32 a.val) (BitVec.ofNat 32 e.val)) : EReal)
      = (((if a = e then 1 else 0 : ℕ) : ℝ) : EReal) := by
  have h : (IntOp.cmpi .eq (BitVec.ofNat 32 a.val) (BitVec.ofNat 32 e.val)).toNat = if a = e then 1 else 0 := by
    revert a e; decide
  show (((IntOp.cmpi .eq (BitVec.ofNat 32 a.val) (BitVec.ofNat 32 e.val)).toNat : ℝ) : EReal) = _
  rw [h]

theorem word_col (a : Fin 16) :
    Scalar.select (IntOp.cmpi .slt (IntOp.minsi (IntOp.subi (BitVec.ofNat 32 a.val) 1#32) 319#32) 0#32)
        (IntOp.addi (IntOp.minsi (IntOp.subi (BitVec.ofNat 32 a.val) 1#32) 319#32) 320#32)
        (IntOp.minsi (IntOp.subi (BitVec.ofNat 32 a.val) 1#32) 319#32)
      = BitVec.ofNat 32 (if a.val = 0 then 319 else a.val - 1) := by
  revert a; decide

variable (E : Choice)

theorem v40_at {i : IVec S4096x2 32} (hi : ∀ t k, i (ix2 t k) = BitVec.ofNat 32 (E t k).val) (f : Fin 8192) :
    r_v40 (F := Ideal) i (ix1 f) = BitVec.ofNat 32 (key E f).val := by
  pointwise [r_v40]
  exact hi (tk f) (kk f)

theorem v41_at (v : FVec Ideal S4096x2 .f32) (f : Fin 8192) : r_v41 (F := Ideal) v (ix1 f) = v (ix2 (tk f) (kk f)) := by
  pointwise [r_v41]
  rfl

theorem v44_at (f : Fin 8192) : r_v44 (F := Ideal) (ix1 f) = BitVec.ofNat 32 (tk f).val := by
  pointwise [r_v44]
  rfl

theorem sort2_vec {N : ℕ} {α β : Type} (cmp : α × β → α × β → BitVec 1) (x : (⟨1, ![N]⟩ : Shape).Idx → α)
    (y : (⟨1, ![N]⟩ : Shape).Idx → β) (q : Fin N) :
    (Host.sort2 ⟨1, ![N]⟩ 0 cmp x y).2 (ix1 q)
        = y (ix1 (sortedFrom (fun k k' => cmp (x (ix1 k), y (ix1 k)) (x (ix1 k'), y (ix1 k')) == 1#1) q)) := by
  have hal : ∀ q' : Fin N, (ix1 q : (⟨1, ![N]⟩ : Shape).Idx).along (⟨0, Nat.one_pos⟩ : Fin 1) q' = ix1 q' := by
    intro q'
    funext b
    match b with
    | ⟨0, _⟩ => rfl
  unfold Host.sort2
  rw [dif_pos (show (0 : ℕ) < (⟨1, ![N]⟩ : Shape).rank from Nat.one_pos)]
  refine (congrArg y (hal _)).trans ?_
  exact congrArg (fun f : Fin N → Fin N → Bool => y (ix1 (sortedFrom f q))) (funext fun k => funext fun k' =>
    congrArg₂ (fun u w => cmp (x u, y u) (x w, y w) == 1#1) (hal k) (hal k'))

theorem v45_at {x : IVec S8192 32} (hx : ∀ f, x (ix1 f) = BitVec.ofNat 32 (key E f).val) (n : Fin 8192) :
    r_v45 (F := Ideal) x (ix1 n) = BitVec.ofNat 32 (visit E n).val := by
  unfold r_v45
  refine (sort2_vec _ x _ n).trans ?_
  have hc := sortedFrom_congr (n := 8192)
    (fun k k' => comparator_i32_i32_d0 (x (ix1 k), iotaInDim S8192 32 0 (ix1 k)) (x (ix1 k'), iotaInDim S8192 32 0 (ix1 k')) == 1#1)
    (bef E) (by
      intro i j hij
      have hn : decide (j < i) = false := decide_eq_false (not_lt.2 hij.le)
      unfold comparator_i32_i32_d0 bef
      dsimp only
      rw [hx, hx, hn, Bool.and_false, Bool.or_false]
      unfold IntOp.cmpi
      rw [slt_fin]
      cases decide (key E j < key E i) <;> rfl)
  refine (congrArg (fun f : Fin 8192 → Fin 8192 => iotaInDim S8192 32 0 (ix1 (f n))) hc).trans ?_
  pointwise
  rfl

theorem v51_at {x : IVec S8192 32} (hx : ∀ n, x (ix1 n) = BitVec.ofNat 32 (visit E n).val) (n : Fin 8192) :
    r_v51 (F := Ideal) x (ix2 n 0) = BitVec.ofNat 32 (visit E n).val := by
  pointwise [r_v51]
  rw [hx]
  exact wrap_word _ (by omega) _

theorem v52_at {v40 : IVec S8192 32} {v51 : IVec S8192x1 32} (h40 : ∀ f, v40 (ix1 f) = BitVec.ofNat 32 (key E f).val)
    (h51 : ∀ n, v51 (ix2 n 0) = BitVec.ofNat 32 (visit E n).val) (n : Fin 8192) :
    r_v52 (F := Ideal) v40 v51 (ix1 n) = BitVec.ofNat 32 (key E (visit E n)).val := by
  unfold r_v52
  rw [take8192 _ _ n (visit E n) (h51 n), h40]

theorem v59_at {v44 : IVec S8192 32} {v45 : IVec S8192 32} (h44 : ∀ f, v44 (ix1 f) = BitVec.ofNat 32 (tk f).val)
    (h45 : ∀ n, v45 (ix1 n) = BitVec.ofNat 32 (visit E n).val) (n : Fin 8192) :
    r_v59 (F := Ideal) v44 v45 (ix1 n) = BitVec.ofNat 32 (tk (visit E n)).val := by
  unfold r_v59
  rw [take8192 _ _ n (visit E n), h44]
  exact v51_at E h45 n

theorem v66_at (v41 : FVec Ideal S8192 .f32) {v45 : IVec S8192 32}
    (h45 : ∀ n, v45 (ix1 n) = BitVec.ofNat 32 (visit E n).val) (n : Fin 8192) :
    r_v66 (F := Ideal) v41 v45 (ix1 n) = v41 (ix1 (visit E n)) := by
  unfold r_v66
  rw [take8192 _ _ n (visit E n)]
  exact v51_at E h45 n

theorem v67_at {v52 : IVec S8192 32} (h52 : ∀ n, v52 (ix1 n) = BitVec.ofNat 32 (key E (visit E n)).val) (n : Fin 8192) (e : Fin 16) :
    r_v67 (F := Ideal) v52 (ix2 n e) = (((if key E (visit E n) = e then 1 else 0 : ℕ) : ℝ) : EReal) := by
  pointwise [r_v67]
  rw [h52]
  exact word_one _ _

/-- The steps' experts, one or zero, at naturals. -/
def stepOne (i c : ℕ) : ℕ := if h : i < 8192 then (if (key E (visit E ⟨i, h⟩)).val = c then 1 else 0) else 0

theorem v68_seen {v67 : FVec Ideal S8192x16 .f32}
    (h67 : ∀ n e, v67 (ix2 n e) = (((if key E (visit E n) = e then 1 else 0 : ℕ) : ℝ) : EReal)) (n : Fin 8192) (e : Fin 16) :
    r_v68 (F := Ideal) v67 (ix2 n e) = ((seen E n e : ℝ) : EReal) := by
  rw [v68_at v67 (stepOne E) (fun i c => by
    rw [h67]
    refine congrArg (fun q : ℕ => ((q : ℝ) : EReal)) ?_
    unfold stepOne
    rw [dif_pos i.isLt]
    exact if_congr Fin.ext_iff rfl rfl) n e]
  refine congrArg (fun q : ℕ => ((q : ℝ) : EReal)) ?_
  unfold seen stepOne
  refine Finset.sum_congr rfl fun i _ => ?_
  by_cases h : i < 8192
  · rw [dif_pos h, dif_pos h]
    exact if_congr Fin.ext_iff.symm rfl rfl
  · rw [dif_neg h, dif_neg h]

theorem v69_arg (hE : ∀ t, E t 0 ≠ E t 1) {v68 : FVec Ideal S8192x16 .f32}
    (h68 : ∀ n e, v68 (ix2 n e) = ((seen E n e : ℝ) : EReal)) (n : Fin 8192) :
    r_v69 (F := Ideal) v68 (ix1 n) = BitVec.ofNat 32 (arg E (tk (visit E n)) (kk (visit E n))).val := by
  rw [v69_at v68 n fun e => by rw [h68]; exact_mod_cast Nat.cast_nonneg _]
  refine congrArg (fun q : Fin 16 => BitVec.ofNat 32 q.val) ?_
  rw [← firstMax_seen E hE n]
  exact congrArg firstMax (funext fun e => h68 n e)

theorem v94_at {v52 v69 : IVec S8192 32} (h52 : ∀ n, v52 (ix1 n) = BitVec.ofNat 32 (key E (visit E n)).val)
    (h69 : ∀ n, v69 (ix1 n) = BitVec.ofNat 32 (arg E (tk (visit E n)) (kk (visit E n))).val) (n : Fin 8192) :
    r_v94 (F := Ideal) v52 (r_v73 (F := Ideal) v69) (ix2 n 0) = BitVec.ofNat 32 (key E (visit E n)).val
      ∧ r_v94 (F := Ideal) v52 (r_v73 (F := Ideal) v69) (ix2 n 1) = BitVec.ofNat 32 (col E (tk (visit E n)) (kk (visit E n))).val := by
  constructor
  · pointwise [r_v94]
    rw [h52]
    exact wrap_word _ (by omega) _
  · pointwise [r_v94, r_v73]
    rw [h69]
    exact word_col _

theorem v123_eq (v52 v73 : IVec S8192 32) : r_v123 (F := Ideal) v52 v73 = r_v94 (F := Ideal) v52 v73 := rfl

theorem v80_at {v59 : IVec S8192 32} (h59 : ∀ n, v59 (ix1 n) = BitVec.ofNat 32 (tk (visit E n)).val) (n : Fin 8192) :
    r_v80 (F := Ideal) v59 (ix2 n 0) = BitVec.ofNat 32 (tk (visit E n)).val := by
  pointwise [r_v80]
  rw [h59]
  exact wrap_word _ (by omega) _

theorem v134_at {v59 : IVec S8192 32} (h59 : ∀ n, v59 (ix1 n) = BitVec.ofNat 32 (tk (visit E n)).val) (n : Fin 8192) :
    r_v134 (F := Ideal) v59 (ix2 n 0) = BitVec.ofNat 32 (tk (visit E n)).val := v80_at E h59 n

theorem v81_at (x : FVec Ideal S4096x1024 .f32) {v80 : IVec S8192x1 32}
    (h80 : ∀ n, v80 (ix2 n 0) = BitVec.ofNat 32 (tk (visit E n)).val) (n : Fin 8192) (d : Fin 1024) :
    r_v81 (F := Ideal) x v80 (ix2 n d) = x (ix2 (tk (visit E n)) d) := by
  unfold r_v81
  exact rows4096 x v80 n d _ (h80 n)

/-! ## The cells' rows -/

theorem rowMajor_lt {A B : ℕ} (a a' : Fin A) (b : Fin B)
    (h : (⟨2, ![A, B]⟩ : Shape).rowMajor (ix2 a b) < (⟨2, ![A, B]⟩ : Shape).rowMajor (ix2 a' b)) : a < a' := by
  have h' := Fin.lt_def.1 h
  rw [Shape.rowMajor_val_two, Shape.rowMajor_val_two] at h'
  change a.val * B + b.val < a'.val * B + b.val at h'
  have h2 : a.val * B < a'.val * B := by omega
  exact Fin.lt_def.2 (lt_of_mul_lt_mul_right h2 (Nat.zero_le _))

theorem v95_at (x : FVec Ideal S4096x1024 .f32) {v94 : IVec S8192x2 32} {v81 : FVec Ideal S8192x1024 .f32}
    (h94 : ∀ n, v94 (ix2 n 0) = BitVec.ofNat 32 (key E (visit E n)).val
      ∧ v94 (ix2 n 1) = BitVec.ofNat 32 (col E (tk (visit E n)) (kk (visit E n))).val)
    (h81 : ∀ n d, v81 (ix2 n d) = x (ix2 (tk (visit E n)) d)) (t : Fin 4096) (k : Fin 2) (d : Fin 1024) :
    r_v95 (F := Ideal) v94 v81 (ix3 (E t k) (col E t k) d) = x (ix2 (holder E t k) d) := by
  have hl : ∀ n d', scatter_S16x320x1024_S8192x2_S8192x1024_1_01_01_1.resultIdx? (ix2 n d') v94 = some (ix3 (E t k) (col E t k) d)
      ↔ slot E (tk (visit E n)) (kk (visit E n)) = slot E t k ∧ d' = d := by
    intro n d'
    rw [lands95, (h94 n).1, (h94 n).2, word_toInt _ (by omega), word_toInt _ (by omega), ← cell_iff, and_assoc]
    constructor
    · rintro ⟨h1, h2, h3⟩
      have h1' : key E (visit E n) = E t k := Fin.ext (by omega)
      exact ⟨h1', Fin.ext (by omega), h3⟩
    · rintro ⟨h1, h2, h3⟩
      have h1' : key E (visit E n) = E t k := h1
      exact ⟨by rw [h1'], by rw [h2], h3⟩
  obtain ⟨hs, hlast⟩ := holder_spec E t k
  obtain ⟨m, hm⟩ := (visitE E).surjective (flat (holder E t k) (holderK E t k))
  rw [visitE_apply] at hm
  have htm : tk (visit E m) = holder E t k := by rw [hm, tk_flat]
  have hkm : kk (visit E m) = holderK E t k := by rw [hm, kk_flat]
  unfold r_v95
  refine (scatter_last _ _ v94 v81 _ (ix2 m d) ((hl m d).2 ⟨by rw [htm, hkm]; exact hs, rfl⟩) ?_).trans ?_
  · intro k' hk' hc
    obtain ⟨n, d', rfl⟩ : ∃ a b, k' = ix2 a b := ⟨k' 0, k' 1, by funext q; match q with | ⟨0, _⟩ => rfl | ⟨1, _⟩ => rfl⟩
    obtain ⟨h1, rfl⟩ := (hl n d').1 hc
    have hmn := rowMajor_lt _ _ _ hk'
    have hb := (bef_iff E _ _).1 (visit_lt E hmn)
    have hsame : key E (visit E m) = key E (visit E n) := by
      have := (slot_eq_iff E (tk (visit E m)) (tk (visit E n)) (kk (visit E m)) (kk (visit E n))).1 (by
        rw [htm, hkm, hs, h1])
      exact this.1
    have hle := hlast _ _ h1
    have hlt : visit E m < visit E n := by
      rcases hb with q | q
      · exact absurd hsame q.ne
      · exact q.2
    rw [hm] at hlt
    have h3 : (flat (holder E t k) (holderK E t k)).val < (visit E n).val := hlt
    have h4 : (visit E n).val = 2 * (tk (visit E n)).val + (kk (visit E n)).val := by
      show _ = 2 * ((visit E n).val / 2) + (visit E n).val % 2
      omega
    have h5 : (flat (holder E t k) (holderK E t k)).val = 2 * (holder E t k).val + (holderK E t k).val := rfl
    omega
  · rw [h81, htm]

end Cert.ReferenceIdeal.Whole
-- ==== Proof.RefValue.lean ====
/- The reference's two results at an index, as the common plain functions. -/
module

public import proofs.«01_k».proof.Proof.RefRoute
public import proofs.«01_k».proof.Proof.Common

@[expose] public section

set_option maxRecDepth 16384

noncomputable section

namespace Cert.ReferenceIdeal.Whole

open Cert.ReferenceIdeal Cert.ReferenceIdeal.Gen Cert.Value
open Idealize.ShloMosaic Idealize.ShloMosaic.TcCoe

/-! ## The gate -/

theorem v13_at (x : FVec Ideal S4096x1024 .f32) (g : FVec Ideal S16x1024 .f32) (t : Fin 4096) (e : Fin 16) :
    r_v13 (F := Ideal) (r_v9 (F := Ideal) (r_v2 (F := Ideal) x g) (r_v5 (F := Ideal) (r_v2 (F := Ideal) x g)))
        (r_v10 (F := Ideal) (r_v9 (F := Ideal) (r_v2 (F := Ideal) x g) (r_v5 (F := Ideal) (r_v2 (F := Ideal) x g)))) (ix2 t e)
      = prob (fun t i => x (ix2 t i)) (fun e i => g (ix2 e i)) t e := by
  have h2 : ∀ e', r_v2 (F := Ideal) x g (ix2 t e') = ∑ i, x (ix2 t i) * g (ix2 e' i) := by
    intro e'; pointwise [r_v2]
  have h5 : r_v5 (F := Ideal) (r_v2 (F := Ideal) x g) (ix1 t)
      = Finset.fold max ⊥ (fun e' => ∑ i, x (ix2 t i) * g (ix2 e' i)) Finset.univ := by
    rw [← funext h2]
    generalize r_v2 (F := Ideal) x g = v
    pointwise [r_v5]
    rw [word_ninf]; exact bot_sup_eq _
  have h9 : ∀ e', r_v9 (F := Ideal) (r_v2 (F := Ideal) x g) (r_v5 (F := Ideal) (r_v2 (F := Ideal) x g)) (ix2 t e')
      = Ideal.exp ((∑ i, x (ix2 t i) * g (ix2 e' i)) - Finset.fold max ⊥ (fun e' => ∑ i, x (ix2 t i) * g (ix2 e' i)) Finset.univ) := by
    intro e'
    rw [← h2, ← h5]
    generalize r_v2 (F := Ideal) x g = v
    generalize r_v5 (F := Ideal) v = w
    pointwise [r_v9]
  unfold prob smax
  rw [← h9, ← Finset.sum_congr rfl fun e' _ => h9 e']
  generalize r_v9 (F := Ideal) (r_v2 (F := Ideal) x g) (r_v5 (F := Ideal) (r_v2 (F := Ideal) x g)) = v
  have h10 : r_v10 (F := Ideal) v (ix1 t) = ∑ e', v (ix2 t e') := by pointwise [r_v10]
  rw [← h10]
  generalize r_v10 (F := Ideal) v = w
  pointwise [r_v13]

/-! ## The experts' layers -/

theorem v110_at (y : FVec Ideal S16x320x1024 .f32) (W1 : FVec Ideal S16x4096x1024 .f32) (b1 : FVec Ideal S16x4096 .f32)
    (W2 : FVec Ideal S16x1024x4096 .f32) (b2 : FVec Ideal S16x1024 .f32) (e : Fin 16) (p : Fin 320) (d : Fin 1024) :
    r_v110 (F := Ideal) (r_v106 (F := Ideal) (r_v99 (F := Ideal) y W1 b1)) W2 b2 (ix3 e p d)
      = FF (fun e f i => W1 (ix3 e f i)) (fun e f => b1 (ix2 e f)) (fun e d f => W2 (ix3 e d f)) (fun e d => b2 (ix2 e d)) e
          (fun i => y (ix3 e p i)) d := by
  have h99 : ∀ f, r_v99 (F := Ideal) y W1 b1 (ix3 e p f) = ∑ i, y (ix3 e p i) * W1 (ix3 e f i) + b1 (ix2 e f) := by
    intro f; pointwise [r_v99]
  unfold FF
  rw [Finset.sum_congr rfl fun f _ => congrArg (fun r => gelu r * W2 (ix3 e d f)) (h99 f).symm]
  generalize r_v99 (F := Ideal) y W1 b1 = v
  have h106 : ∀ f, r_v106 (F := Ideal) v (ix3 e p f) = gelu (v (ix3 e p f)) := by
    intro f; unfold gelu; pointwise [r_v106]
    rw [neg_mul, Ideal.erfc_neg]
  rw [Finset.sum_congr rfl fun f _ => congrArg (fun r => r * W2 (ix3 e d f)) (h106 f).symm]
  generalize r_v106 (F := Ideal) v = w
  pointwise [r_v110]

/-! ## Gathering each token's two rows back -/

variable (E : Choice)

theorem sum_visit (P : Fin 8192 → EReal) (t : Fin 4096) :
    ∑ n, (if tk (visit E n) = t then P (visit E n) else 0) = P (flat t 0) + P (flat t 1) := by
  rw [show (fun n => if tk (visit E n) = t then P (visit E n) else 0)
      = fun n => (fun f => if tk f = t then P f else 0) (visitE E n) from funext fun n => by rw [visitE_apply]]
  rw [Equiv.sum_comp (visitE E) (fun f => if tk f = t then P f else 0)]
  have hne : flat t 0 ≠ flat t 1 := fun h => by
    have h' := congrArg kk h
    rw [kk_flat, kk_flat] at h'
    exact absurd h' (by decide)
  rw [← Finset.sum_filter]
  rw [show (Finset.univ.filter fun f => tk f = t) = {flat t 0, flat t 1} from Finset.ext fun f => by
    rw [Finset.mem_filter, Finset.mem_insert, Finset.mem_singleton]
    constructor
    · rintro ⟨-, rfl⟩
      rcases (by omega : (kk f).val = 0 ∨ (kk f).val = 1) with h | h
      · left; rw [show (0 : Fin 2) = kk f from Fin.ext h.symm, flat_tk]
      · right; rw [show (1 : Fin 2) = kk f from Fin.ext h.symm, flat_tk]
    · rintro (rfl | rfl)
      · exact ⟨Finset.mem_univ _, tk_flat _ _⟩
      · exact ⟨Finset.mem_univ _, tk_flat _ _⟩]
  rw [Finset.sum_pair hne]

theorem v135_at {v134 : IVec S8192x1 32} (h135 : ∀ n, v134 (ix2 n 0) = BitVec.ofNat 32 (tk (visit E n)).val)
    (v128 : FVec Ideal S8192x1024 .f32) (P : Fin 8192 → EReal) (t : Fin 4096) (d : Fin 1024)
    (hP : ∀ n, v128 (ix2 n d) = P (visit E n)) :
    r_v135 (F := Ideal) v134 v128 (ix2 t d) = P (flat t 0) + P (flat t 1) := by
  have h0 : (broadcastInDim S4096x1024 ![] bcast_S_S4096x1024 (constant (F := Ideal) S_ .f32 0x00000000#32 : FVec Ideal S_ .f32) : FVec Ideal S4096x1024 .f32) (ix2 t d) = 0 := by
    pointwise
  unfold r_v135
  unfold Host.scatterAdd
  rw [Ideal.hostScatterAdd_def]
  unfold Ideal.hostScatterAdd
  refine (congrArg₂ (· + ·) h0 rfl).trans ?_
  rw [zero_add, Finset.sum_filter, sum_idx2, ← sum_visit E P t]
  refine Finset.sum_congr rfl fun n _ => ?_
  have hiff : ∀ d', scatter_S4096x1024_S8192x1_S8192x1024_1_0_0_1.resultIdx? (ix2 n d') v134 = some (ix2 t d)
      ↔ d' = d ∧ tk (visit E n) = t := by
    intro d'
    rw [lands136, h135, word_toInt _ (by omega), Nat.cast_inj, Fin.ext_iff (a := tk _)]
    exact and_comm
  by_cases hc : tk (visit E n) = t
  · rw [if_pos hc, Finset.sum_eq_single d, if_pos ((hiff d).2 ⟨rfl, hc⟩), hP]
    · intro b _ hb; exact if_neg fun h => hb ((hiff b).1 h).1
    · intro h; exact absurd (Finset.mem_univ _) h
  · rw [if_neg hc]
    exact Finset.sum_eq_zero fun b _ => if_neg fun h => hc ((hiff b).1 h).2

theorem v143_at {v59 : IVec S8192 32} (h59 : ∀ n, v59 (ix1 n) = BitVec.ofNat 32 (tk (visit E n)).val)
    (v66 : FVec Ideal S8192 .f32) (P : Fin 8192 → EReal) (t : Fin 4096)
    (hP : ∀ n, v66 (ix1 n) = P (visit E n)) :
    r_v143 (F := Ideal) v59 v66 (ix1 t) = P (flat t 0) + P (flat t 1) := by
  have h0 : (broadcastInDim S4096 ![] bcast_S_S4096 (constant (F := Ideal) S_ .f32 0x00000000#32 : FVec Ideal S_ .f32) : FVec Ideal S4096 .f32) (ix1 t) = 0 := by
    pointwise
  change Host.scatterAdd (F := Ideal) scatter_S4096_S8192x1_S8192_n_0_0_1 _ (r_v134 (F := Ideal) v59) v66 (ix1 t) = _
  unfold Host.scatterAdd
  rw [Ideal.hostScatterAdd_def]
  unfold Ideal.hostScatterAdd
  refine (congrArg₂ (· + ·) h0 rfl).trans ?_
  rw [zero_add, Finset.sum_filter, sum_idx1, ← sum_visit E P t]
  refine Finset.sum_congr rfl fun n _ => ?_
  have hiff : scatter_S4096_S8192x1_S8192_n_0_0_1.resultIdx? (ix1 n) (r_v134 (F := Ideal) v59) = some (ix1 t)
      ↔ tk (visit E n) = t := by
    rw [lands144, v134_at E h59, word_toInt _ (by omega), Nat.cast_inj, Fin.ext_iff (a := tk _)]
  by_cases hc : tk (visit E n) = t
  · rw [if_pos hc, if_pos (hiff.2 hc), hP]
  · rw [if_neg hc, if_neg fun h => hc (hiff.1 h)]

theorem v153_at (x : FVec Ideal S4096 .f32) (y : FVec Ideal S4096x1024 .f32) (t : Fin 4096) (d : Fin 1024) (h : 0 < x (ix1 t)) :
    r_v153 (F := Ideal) x y (r_v146 (F := Ideal) x) (ix2 t d) = Ideal.div (y (ix2 t d)) (x (ix1 t)) := by
  have h147 : r_v146 (F := Ideal) x (ix1 t) = x (ix1 t) := by
    pointwise [r_v146]
    rw [if_pos h]
  have h154 : ∀ z : FVec Ideal S4096 .f32, r_v153 (F := Ideal) x y z (ix2 t d)
      = if 0 < x (ix1 t) then Ideal.div (y (ix2 t d)) (z (ix1 t)) else y (ix2 t d) := by
    intro z; pointwise [r_v153]
  rw [h154, if_pos h, h147]

/-! ## The two results -/

section Results

variable (a0 : FVec Ideal S2x2048x1024 .f32) (a1 : FVec Ideal S16x1024 .f32) (a2 : FVec Ideal S16x4096x1024 .f32)
  (a3 : FVec Ideal S16x4096 .f32) (a4 : FVec Ideal S16x1024x4096 .f32) (a5 : FVec Ideal S16x1024 .f32)

/-- The tokens. -/
abbrev rowsR : Fin 4096 → Fin 1024 → EReal := fun t i => a0 (ix3 ⟨t.val / 2048, by omega⟩ ⟨t.val % 2048, by omega⟩ i)
/-- The gate's weights. -/
abbrev gateR : Fin 16 → Fin 1024 → EReal := fun e i => a1 (ix2 e i)

theorem c13_at (t : Fin 4096) (e : Fin 16) : c_v13 (F := Ideal) a0 a1 (ix2 t e) = prob (rowsR a0) (gateR a1) t e := by
  refine (v13_at (c_v0 (F := Ideal) a0) a1 t e).trans ?_
  refine congrArg (fun X => prob X (gateR a1) t e) (funext fun t => funext fun i => ?_)
  unfold c_v0
  pointwise [r_v0]

variable (hX : IsReal (rowsR a0)) (hG : IsReal (gateR a1))
include hX hG

theorem cindices_at (t : Fin 4096) (k : Fin 2) :
    c_indices (F := Ideal) a0 a1 (ix2 t k) = BitVec.ofNat 32 (chosen (rowsR a0) (gateR a1) t k).val := by
  unfold c_indices
  rw [indices_at _ t (fun e => by rw [c13_at]; exact prob_nonneg hX hG t e) k, funext (c13_at a0 a1 t)]
  rfl

theorem cvalues_at (t : Fin 4096) (k : Fin 2) :
    c_values (F := Ideal) a0 a1 (ix2 t k) = prob (rowsR a0) (gateR a1) t (chosen (rowsR a0) (gateR a1) t k) := by
  unfold c_values
  rw [values_at _ t (fun e => by rw [c13_at]; exact prob_nonneg hX hG t e) k, funext (c13_at a0 a1 t), c13_at]
  rfl

theorem loss_at : c_v39 (F := Ideal) a0 a1 ix0 = lossSpec (rowsR a0) (gateR a1) := by
  have hr := fun t e => prob_real hX hG t e
  choose p hp0 hp using hr
  have h14 : ∀ e, c_v14 (F := Ideal) a0 a1 (ix1 e) = ∑ t, prob (rowsR a0) (gateR a1) t e := by
    intro e
    rw [← Finset.sum_congr rfl fun t _ => c13_at a0 a1 t e]
    unfold c_v14
    generalize c_v13 (F := Ideal) a0 a1 = v
    pointwise [r_v14]
  have h34 : ∀ e, c_v34 (F := Ideal) a0 a1 (ix1 e) = ((cnt (chosen (rowsR a0) (gateR a1)) e : ℝ) : EReal) := fun e =>
    v34_at _ _ (v33_at _ _ (chosen_ne hX hG) fun t k => v31_at _ _ (cindices_at a0 a1 hX hG) t k) e
  unfold c_v39 lossSpec
  rw [v39_at _ _ (fun e => ∑ t, p t e) (fun e => (cnt (chosen (rowsR a0) (gateR a1)) e : ℝ))
    (fun e => (h14 e).trans (sum_real _ _ fun t => hp t e)) h34]
  refine congrArg (fun r => r * ((1 / 1048576 : ℝ) : EReal)) (sum_real _ _ fun e => ?_).symm
  rw [sum_real _ _ fun t => hp t e, ← EReal.coe_mul]

theorem c154_at (t : Fin 4096) (d : Fin 1024) :
    c_v153 (F := Ideal) a0 a1 a2 a3 a4 a5 (ix2 t d)
      = outSpec (rowsR a0) (gateR a1) (fun e f i => a2 (ix3 e f i)) (fun e f => a3 (ix2 e f)) (fun e d f => a4 (ix3 e d f))
          (fun e d => a5 (ix2 e d)) t d := by
  have hE := chosen_ne hX hG
  have hi := cindices_at a0 a1 hX hG
  have hv := cvalues_at a0 a1 hX hG
  unfold outSpec mix
  generalize hEd : chosen (rowsR a0) (gateR a1) = E at hE hi hv
  have h40 : ∀ f, c_v40 (F := Ideal) a0 a1 (ix1 f) = BitVec.ofNat 32 (key E f).val := v40_at E hi
  have h44 : ∀ f, c_v44 (F := Ideal) (ix1 f) = BitVec.ofNat 32 (tk f).val := v44_at
  have h45 : ∀ n, c_v45 (F := Ideal) a0 a1 (ix1 n) = BitVec.ofNat 32 (visit E n).val := v45_at E h40
  have h51 : ∀ n, c_v51 (F := Ideal) a0 a1 (ix2 n 0) = BitVec.ofNat 32 (visit E n).val := v51_at E h45
  have h52 : ∀ n, c_v52 (F := Ideal) a0 a1 (ix1 n) = BitVec.ofNat 32 (key E (visit E n)).val := v52_at E h40 h51
  have h59 : ∀ n, c_v59 (F := Ideal) a0 a1 (ix1 n) = BitVec.ofNat 32 (tk (visit E n)).val := v59_at E h44 h45
  have h66 : ∀ n, c_v66 (F := Ideal) a0 a1 (ix1 n)
      = (fun f => prob (rowsR a0) (gateR a1) (tk f) (E (tk f) (kk f))) (visit E n) := by
    intro n
    refine (v66_at E _ h45 n).trans ?_
    refine (v41_at _ _).trans ?_
    exact hv _ _
  have h69 : ∀ n, c_v69 (F := Ideal) a0 a1 (ix1 n) = BitVec.ofNat 32 (arg E (tk (visit E n)) (kk (visit E n))).val :=
    v69_arg E hE (v68_seen E (v67_at E h52))
  have h94 := v94_at E h52 h69
  have h81 : ∀ n d, c_v81 (F := Ideal) a0 a1 (ix2 n d) = c_v0 (F := Ideal) a0 (ix2 (tk (visit E n)) d) :=
    v81_at E _ (v80_at E h59)
  have h0 : ∀ t i, c_v0 (F := Ideal) a0 (ix2 t i) = rowsR a0 t i := by
    intro t i
    unfold c_v0
    pointwise [r_v0]
  have h95 : ∀ t k d, c_v95 (F := Ideal) a0 a1 (ix3 (E t k) (col E t k) d) = rowsR a0 (holder E t k) d := fun t k d =>
    (v95_at E _ h94 h81 t k d).trans (h0 _ _)
  have h125 : ∀ n d, c_v124 (F := Ideal) a0 a1 a2 a3 a4 a5 (ix2 n d)
      = FF (fun e f i => a2 (ix3 e f i)) (fun e f => a3 (ix2 e f)) (fun e d f => a4 (ix3 e d f)) (fun e d => a5 (ix2 e d))
          (key E (visit E n)) (rowsR a0 (holder E (tk (visit E n)) (kk (visit E n)))) d := by
    intro n d
    refine (cells125 _ _ n d _ _ (h94 n).1 (h94 n).2).trans ?_
    refine (v110_at _ _ _ _ _ _ _ _).trans ?_
    have hff : ∀ (e : Fin 16) (x y : Fin 1024 → EReal), (∀ i, x i = y i)
        → FF (fun e f i => a2 (ix3 e f i)) (fun e f => a3 (ix2 e f)) (fun e d f => a4 (ix3 e d f)) (fun e d => a5 (ix2 e d)) e x d
          = FF (fun e f i => a2 (ix3 e f i)) (fun e f => a3 (ix2 e f)) (fun e d f => a4 (ix3 e d f)) (fun e d => a5 (ix2 e d)) e y d :=
      fun e x y h => by rw [funext h]
    exact hff _ _ _ fun i => h95 (tk (visit E n)) (kk (visit E n)) i
  have h136 := v135_at E (v134_at E h59) (c_v128 (F := Ideal) a0 a1 a2 a3 a4 a5)
    (fun f => FF (fun e f i => a2 (ix3 e f i)) (fun e f => a3 (ix2 e f)) (fun e d f => a4 (ix3 e d f)) (fun e d => a5 (ix2 e d))
          (key E f) (rowsR a0 (holder E (tk f) (kk f))) d * prob (rowsR a0) (gateR a1) (tk f) (E (tk f) (kk f))) t d (by
      intro n
      have : ∀ (x : FVec Ideal S8192x1024 .f32) (w : FVec Ideal S8192 .f32), r_v128 (F := Ideal) x w (ix2 n d) = x (ix2 n d) * w (ix1 n) := by
        intro x w; pointwise [r_v128]
      refine (this _ _).trans ?_
      exact congrArg₂ (· * ·) (h125 n d) (h66 n))
  have h144 := v143_at E h59 (c_v66 (F := Ideal) a0 a1)
    (fun f => prob (rowsR a0) (gateR a1) (tk f) (E (tk f) (kk f))) t h66
  simp only [tk_flat, kk_flat, key] at h136 h144
  have hpos : 0 < c_v143 (F := Ideal) a0 a1 (ix1 t) := by
    obtain ⟨r, hr, er⟩ := prob_real hX hG t (E t 0)
    obtain ⟨s, hs, es⟩ := prob_real hX hG t (E t 1)
    refine lt_of_lt_of_eq ?_ h144.symm
    rw [er, es, ← EReal.coe_add]
    exact EReal.coe_pos.2 (add_pos hr hs)
  refine (v153_at (c_v143 (F := Ideal) a0 a1) (c_v135 (F := Ideal) a0 a1 a2 a3 a4 a5) t d hpos).trans ?_
  exact congrArg₂ Ideal.div h136 h144

theorem out_at (a : Fin 2) (b : Fin 2048) (d : Fin 1024) :
    c_v154 (F := Ideal) a0 a1 a2 a3 a4 a5 (ix3 a b d)
      = outSpec (rowsR a0) (gateR a1) (fun e f i => a2 (ix3 e f i)) (fun e f => a3 (ix2 e f)) (fun e d f => a4 (ix3 e d f))
          (fun e d => a5 (ix2 e d)) ⟨a.val * 2048 + b.val, by omega⟩ d := by
  rw [← c154_at a0 a1 a2 a3 a4 a5 hX hG]
  unfold c_v154
  generalize c_v153 (F := Ideal) a0 a1 a2 a3 a4 a5 = v
  pointwise [r_v154]

end Results

end Cert.ReferenceIdeal.Whole
-- ==== Proof.Equal.lean ====
/- The two programs' results are equal where the tokens and the gate are real numbers. -/
module

public import proofs.«01_k».proof.Proof.KernelValue
public import proofs.«01_k».proof.Proof.RefValue

@[expose] public section

set_option maxRecDepth 16384

noncomputable section

namespace Cert.Value

open Cert.KernelIdeal Cert.KernelIdeal.Whole
open Idealize.ShloMosaic Idealize.ShloMosaic.TcCoe

variable (m : (a : Loc nD τ sig) → Buf (Elt Ideal) a) (ρ : Dev nD → PrngReg) (c : Dev nD)

theorem out_eq (hX : IsReal (rowsK (m ((c : Thread nD τ).loc main_arg0)))) (hG : IsReal (gates (m ((c : Thread nD τ).loc main_arg1)))) :
    Cert.ReferenceIdeal.Whole.c_v154 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      = (W7 m ρ c (Proc.devRef .tc main_v8) : Vec Ideal S2x2048x1024 .f32) := by
  refine funext fun (y : S2x2048x1024.Idx) => ?_
  rw [show y = ix3 (y 0) (y 1) (y 2) from (ix3_eta y).symm]
  exact (Cert.ReferenceIdeal.Whole.out_at _ _ _ _ _ _ hX hG (y 0) (y 1) (y 2)).trans (Cert.KernelIdeal.Whole.out_at m ρ c hX hG (y 0) (y 1) (y 2)).symm

theorem loss_eq (hX : IsReal (rowsK (m ((c : Thread nD τ).loc main_arg0)))) (hG : IsReal (gates (m ((c : Thread nD τ).loc main_arg1)))) :
    Cert.ReferenceIdeal.Whole.c_v39 (F := Ideal) (m ((c : Thread nD τ).loc main_arg0)) (m ((c : Thread nD τ).loc main_arg1))
      = (W7 m ρ c (Proc.devRef .tc main_v9) : Vec Ideal S_ .f32) := by
  refine funext fun (y : S_.Idx) => ?_
  rw [show y = ix0 from funext fun a => a.elim0]
  exact (Cert.ReferenceIdeal.Whole.loss_at _ _ hX hG).trans (Cert.KernelIdeal.Whole.loss_at m ρ c).symm

end Cert.Value
-- ==== Proof.Finite.lean ====
/- What the precondition says: every entry of the tokens and of the gate is a real number. -/
module

public import proofs.«01_k».proof.Pre_finite
public import proofs.«01_k».proof.Proof.Common
public import Idealize.ShloMosaic.Lib.ReduceAll

@[expose] public section

set_option maxRecDepth 16384

noncomputable section

namespace Cert.Pre_finite

open Idealize.ShloMosaic Cert.Value

theorem bcast0 : S_.BroadcastsInDim S2x2048x1024 (![] : Fin 0 → Fin S2x2048x1024.rank) := by decide
theorem reduces0 : S2x2048x1024.ReducesTo [0, 1, 2] S_ := by decide
theorem pos0 : 0 < S_.numel := by decide
theorem bcast1 : S_.BroadcastsInDim S16x1024 (![] : Fin 0 → Fin S16x1024.rank) := by decide
theorem reduces1 : S16x1024.ReducesTo [0, 1] S_ := by decide

instance facts : Facts := ⟨bcast0, reduces0, pos0, bcast1, reduces1⟩

/-- A value strictly between the two infinities is a real number. -/
theorem real_of_between {s : Shape} (x lo hi : FVec Ideal s .f32) (i : s.Idx) (hlo : lo i = (⊥ : EReal)) (hhi : hi i = (⊤ : EReal))
    (h : andi (cmpf .ogt x lo) (cmpf .olt x hi) i = 1#1) : ∃ r : ℝ, x i = (r : EReal) := by
  have h' : IntOp.andi (BitVec.ofBool (decide ((lo i : EReal) < x i))) (BitVec.ofBool (decide ((x i : EReal) < hi i))) = 1#1 := h
  rw [hlo, hhi] at h'
  by_cases h1 : (⊥ : EReal) < x i
  · by_cases h2 : (x i : EReal) < ⊤
    · exact ⟨(x i : EReal).toReal, (EReal.coe_toReal h2.ne h1.ne').symm⟩
    · rw [decide_eq_true h1, decide_eq_false h2] at h'; exact absurd h' (by decide)
  · rw [decide_eq_false h1] at h'
    by_cases h2 : (x i : EReal) < ⊤
    · rw [decide_eq_true h2] at h'; exact absurd h' (by decide)
    · rw [decide_eq_false h2] at h'; exact absurd h' (by decide)

variable (a0 : FVec Ideal S2x2048x1024 .f32) (a1 : FVec Ideal S16x1024 .f32) (a2 : FVec Ideal S16x4096x1024 .f32)
  (a3 : FVec Ideal S16x4096 .f32) (a4 : FVec Ideal S16x1024x4096 .f32) (a5 : FVec Ideal S16x1024 .f32)

theorem and_split {p q : BitVec 1} (h : IntOp.andi p q = 1#1) : p = 1#1 ∧ q = 1#1 := by
  revert h; revert p q; decide

theorem finite_args (h : fn (F := Ideal) a0 a1 a2 a3 a4 a5 = fun _ => 1#1) :
    (∀ i, ∃ r : ℝ, a0 i = (r : EReal)) ∧ (∀ i, ∃ r : ℝ, a1 i = (r : EReal)) := by
  have h0 := and_split (congrFun h ix0)
  exact ⟨fun i => real_of_between a0 _ _ i word_ninf word_inf (Host.reduce_andi_all _ _ _ _ ix0 h0.1 i),
    fun i => real_of_between a1 _ _ i word_ninf word_inf (Host.reduce_andi_all _ _ _ _ ix0 h0.2 i)⟩

end Cert.Pre_finite
-- ==== Proof.lean ====
module

public import proofs.«01_k».proof.Defs
public import proofs.«01_k».proof.Proof.KernelRun
public import proofs.«01_k».proof.Proof.Equal
public import proofs.«01_k».proof.Proof.Finite

@[expose] public section

noncomputable section

namespace Cert.Proof

open Idealize.ShloMosaic Idealize.SL.Sem Cert.Value

theorem reference_frame (m : (a : Loc Cert.ReferenceIdeal.nD Cert.ReferenceIdeal.τ Cert.ReferenceIdeal.sig) → Buf (Elt Ideal) a)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun _ h => ⟨fun c => (h.1 c).2.2, h.2⟩) (Cert.ReferenceIdeal.Whole.run (F := Ideal) m g)

theorem equal_results : Cert.algebraic_KernelIdeal_ReferenceIdeal_pre_finite := by
  intro m g m' g' hpre hargs
  have hreal := fun c => Cert.Pre_finite.finite_args _ _ _ _ _ _ (hpre c)
  refine ⟨fun c => Cert.KernelIdeal.Whole.W7 m g c (Proc.devRef .tc Cert.KernelIdeal.main_v8),
    fun c => Cert.KernelIdeal.Whole.W7 m g c (Proc.devRef .tc Cert.KernelIdeal.main_v9),
    (θ_run _ _ _).mono (fun _ h => h.1) (Cert.KernelIdeal.Whole.run (F := Ideal) m g),
    (θ_run _ _ _).mono (fun r h c => ⟨(h.1 c).1.trans ?_, (h.1 c).2.1.trans ?_, (h.1 c).2.2⟩) (Cert.ReferenceIdeal.Whole.run (F := Ideal) m' g')⟩
  · obtain ⟨e0, e1, e2, e3, e4, e5⟩ := hargs c
    rw [e0, e1, e2, e3, e4, e5]
    exact out_eq m g c (fun _ _ => (hreal c).1 _) (fun _ _ => (hreal c).2 _)
  · obtain ⟨e0, e1, -⟩ := hargs c
    rw [e0, e1]
    exact loss_eq m g c (fun _ _ => (hreal c).1 _) (fun _ _ => (hreal c).2 _)

theorem claim : Cert.Claim :=
  ⟨Cert.Kernel.Gen.facts, Cert.KernelIdeal.Gen.facts, Cert.ReferenceIdeal.Gen.facts, Cert.Pre_finite.facts,
    fun m g _ => Cert.Kernel.Whole.frame m g,
    fun m g _ => Cert.KernelIdeal.Whole.frame m g,
    fun m g _ => Cert.KernelIdeal.Whole.frame m g,
    fun m g _ => reference_frame m g,
    fun m g _ => reference_frame m g,
    trivial,
    equal_results⟩

end Cert.Proof

end
